-- ==== Defs.lean ====
def Pre_Natten (m : (ℓ : Loc Cert.Natten.nD Cert.Natten.τ Cert.Natten.sig) → Buf (Elt Bits) ℓ) : Prop :=
  True

def Pre_NattenIdeal (m : (ℓ : Loc Cert.NattenIdeal.nD Cert.NattenIdeal.τ Cert.NattenIdeal.sig) → Buf (Elt Ideal) ℓ) : Prop :=
  True

def Pre_NattenIdeal_finite_scores [hPre_finite_scores : Cert.Pre_finite_scores.Facts] (m : (ℓ : Loc Cert.NattenIdeal.nD Cert.NattenIdeal.τ Cert.NattenIdeal.sig) → Buf (Elt Ideal) ℓ) : Prop :=
  ∀ c : Dev Cert.NattenIdeal.nD,
    (Cert.Pre_finite_scores.fn (F := Ideal) (m ((c.tc : Thread Cert.NattenIdeal.nD Cert.NattenIdeal.τ).loc Cert.NattenIdeal.main_arg0)) (m ((c.tc : Thread Cert.NattenIdeal.nD Cert.NattenIdeal.τ).loc Cert.NattenIdeal.main_arg1))).1 = (fun _ => 1#1)
    ∧ (Cert.Pre_finite_scores.fn (F := Ideal) (m ((c.tc : Thread Cert.NattenIdeal.nD Cert.NattenIdeal.τ).loc Cert.NattenIdeal.main_arg0)) (m ((c.tc : Thread Cert.NattenIdeal.nD Cert.NattenIdeal.τ).loc Cert.NattenIdeal.main_arg1))).2 = (fun _ => 1#1)

def Pre_NattenRefIdeal (m : (ℓ : Loc Cert.NattenRefIdeal.nD Cert.NattenRefIdeal.τ Cert.NattenRefIdeal.sig) → Buf (Elt Ideal) ℓ) : Prop :=
  True

def Pre_NattenRefIdeal_finite_scores [hPre_finite_scores : Cert.Pre_finite_scores.Facts] (m : (ℓ : Loc Cert.NattenRefIdeal.nD Cert.NattenRefIdeal.τ Cert.NattenRefIdeal.sig) → Buf (Elt Ideal) ℓ) : Prop :=
  ∀ c : Dev Cert.NattenRefIdeal.nD,
    (Cert.Pre_finite_scores.fn (F := Ideal) (m ((c.tc : Thread Cert.NattenRefIdeal.nD Cert.NattenRefIdeal.τ).loc Cert.NattenRefIdeal.main_arg0)) (m ((c.tc : Thread Cert.NattenRefIdeal.nD Cert.NattenRefIdeal.τ).loc Cert.NattenRefIdeal.main_arg1))).1 = (fun _ => 1#1)
    ∧ (Cert.Pre_finite_scores.fn (F := Ideal) (m ((c.tc : Thread Cert.NattenRefIdeal.nD Cert.NattenRefIdeal.τ).loc Cert.NattenRefIdeal.main_arg0)) (m ((c.tc : Thread Cert.NattenRefIdeal.nD Cert.NattenRefIdeal.τ).loc Cert.NattenRefIdeal.main_arg1))).2 = (fun _ => 1#1)

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1RefIdeal (m : (ℓ : Loc Cert.Ffn1RefIdeal.nD Cert.Ffn1RefIdeal.τ Cert.Ffn1RefIdeal.sig) → Buf (Elt Ideal) ℓ) : Prop :=
  True

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_Ffn2RefIdeal (m : (ℓ : Loc Cert.Ffn2RefIdeal.nD Cert.Ffn2RefIdeal.τ Cert.Ffn2RefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvRefIdeal (m : (ℓ : Loc Cert.MemkvRefIdeal.nD Cert.MemkvRefIdeal.τ Cert.MemkvRefIdeal.sig) → Buf (Elt Ideal) ℓ) : Prop :=
  True

def Pre_Memattn (m : (ℓ : Loc Cert.Memattn.nD Cert.Memattn.τ Cert.Memattn.sig) → Buf (Elt Bits) ℓ) : Prop :=
  True

def Pre_MemattnIdeal (m : (ℓ : Loc Cert.MemattnIdeal.nD Cert.MemattnIdeal.τ Cert.MemattnIdeal.sig) → Buf (Elt Ideal) ℓ) : Prop :=
  True

def Pre_MemattnIdeal_finite [hPre_finite : Cert.Pre_finite.Facts] (m : (ℓ : Loc Cert.MemattnIdeal.nD Cert.MemattnIdeal.τ Cert.MemattnIdeal.sig) → Buf (Elt Ideal) ℓ) : Prop :=
  ∀ c : Dev Cert.MemattnIdeal.nD,
    (Cert.Pre_finite.fn (F := Ideal) (m ((c.tc : Thread Cert.MemattnIdeal.nD Cert.MemattnIdeal.τ).loc Cert.MemattnIdeal.main_arg0)) (m ((c.tc : Thread Cert.MemattnIdeal.nD Cert.MemattnIdeal.τ).loc Cert.MemattnIdeal.main_arg1))).1 = (fun _ => 1#1)
    ∧ (Cert.Pre_finite.fn (F := Ideal) (m ((c.tc : Thread Cert.MemattnIdeal.nD Cert.MemattnIdeal.τ).loc Cert.MemattnIdeal.main_arg0)) (m ((c.tc : Thread Cert.MemattnIdeal.nD Cert.MemattnIdeal.τ).loc Cert.MemattnIdeal.main_arg1))).2 = (fun _ => 1#1)

def Pre_MemattnRefIdeal (m : (ℓ : Loc Cert.MemattnRefIdeal.nD Cert.MemattnRefIdeal.τ Cert.MemattnRefIdeal.sig) → Buf (Elt Ideal) ℓ) : Prop :=
  True

def Pre_MemattnRefIdeal_finite [hPre_finite : Cert.Pre_finite.Facts] (m : (ℓ : Loc Cert.MemattnRefIdeal.nD Cert.MemattnRefIdeal.τ Cert.MemattnRefIdeal.sig) → Buf (Elt Ideal) ℓ) : Prop :=
  ∀ c : Dev Cert.MemattnRefIdeal.nD,
    (Cert.Pre_finite.fn (F := Ideal) (m ((c.tc : Thread Cert.MemattnRefIdeal.nD Cert.MemattnRefIdeal.τ).loc Cert.MemattnRefIdeal.main_arg0)) (m ((c.tc : Thread Cert.MemattnRefIdeal.nD Cert.MemattnRefIdeal.τ).loc Cert.MemattnRefIdeal.main_arg1))).1 = (fun _ => 1#1)
    ∧ (Cert.Pre_finite.fn (F := Ideal) (m ((c.tc : Thread Cert.MemattnRefIdeal.nD Cert.MemattnRefIdeal.τ).loc Cert.MemattnRefIdeal.main_arg0)) (m ((c.tc : Thread Cert.MemattnRefIdeal.nD Cert.MemattnRefIdeal.τ).loc Cert.MemattnRefIdeal.main_arg1))).2 = (fun _ => 1#1)

def Pre_Wo (m : (ℓ : Loc Cert.Wo.nD Cert.Wo.τ Cert.Wo.sig) → Buf (Elt Bits) ℓ) : Prop :=
  True

def Pre_WoIdeal (m : (ℓ : Loc Cert.WoIdeal.nD Cert.WoIdeal.τ Cert.WoIdeal.sig) → Buf (Elt Ideal) ℓ) : Prop :=
  True

def Pre_WoRefIdeal (m : (ℓ : Loc Cert.WoRefIdeal.nD Cert.WoRefIdeal.τ Cert.WoRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_Natten [hNatten : Cert.Natten.Facts] : Prop :=
  ∀ (m : (ℓ : Loc Cert.Natten.nD Cert.Natten.τ Cert.Natten.sig) → Buf (Elt Bits) ℓ) (g : Dev Cert.Natten.nD → PrngReg), Pre_Natten m →
    θ_run (Cert.Natten.defs (F := Bits)) (onTc (τ := Cert.Natten.τ) (Cert.Natten.main (F := Bits))) ⟨m, fun _ => 0, g⟩ (fun r => (∀ c : Dev Cert.Natten.nD,
      r.2.mem ((c.tc : Thread Cert.Natten.nD Cert.Natten.τ).loc Cert.Natten.main_arg0) = m ((c.tc : Thread Cert.Natten.nD Cert.Natten.τ).loc Cert.Natten.main_arg0)
      ∧ r.2.mem ((c.tc : Thread Cert.Natten.nD Cert.Natten.τ).loc Cert.Natten.main_arg1) = m ((c.tc : Thread Cert.Natten.nD Cert.Natten.τ).loc Cert.Natten.main_arg1))
      ∧ r.2.sem = fun _ => 0)

def quiescent_NattenIdeal [hNattenIdeal : Cert.NattenIdeal.Facts] : Prop :=
  ∀ (m : (ℓ : Loc Cert.NattenIdeal.nD Cert.NattenIdeal.τ Cert.NattenIdeal.sig) → Buf (Elt Ideal) ℓ) (g : Dev Cert.NattenIdeal.nD → PrngReg), Pre_NattenIdeal m →
    θ_run (Cert.NattenIdeal.defs (F := Ideal)) (onTc (τ := Cert.NattenIdeal.τ) (Cert.NattenIdeal.main (F := Ideal))) ⟨m, fun _ => 0, g⟩ (fun r => (∀ c : Dev Cert.NattenIdeal.nD,
      r.2.mem ((c.tc : Thread Cert.NattenIdeal.nD Cert.NattenIdeal.τ).loc Cert.NattenIdeal.main_arg0) = m ((c.tc : Thread Cert.NattenIdeal.nD Cert.NattenIdeal.τ).loc Cert.NattenIdeal.main_arg0)
      ∧ r.2.mem ((c.tc : Thread Cert.NattenIdeal.nD Cert.NattenIdeal.τ).loc Cert.NattenIdeal.main_arg1) = m ((c.tc : Thread Cert.NattenIdeal.nD Cert.NattenIdeal.τ).loc Cert.NattenIdeal.main_arg1))
      ∧ r.2.sem = fun _ => 0)

def quiescent_NattenIdeal_pre_finite_scores [hNattenIdeal : Cert.NattenIdeal.Facts] [hPre_finite_scores : Cert.Pre_finite_scores.Facts] : Prop :=
  ∀ (m : (ℓ : Loc Cert.NattenIdeal.nD Cert.NattenIdeal.τ Cert.NattenIdeal.sig) → Buf (Elt Ideal) ℓ) (g : Dev Cert.NattenIdeal.nD → PrngReg), Pre_NattenIdeal_finite_scores m →
    θ_run (Cert.NattenIdeal.defs (F := Ideal)) (onTc (τ := Cert.NattenIdeal.τ) (Cert.NattenIdeal.main (F := Ideal))) ⟨m, fun _ => 0, g⟩ (fun r => (∀ c : Dev Cert.NattenIdeal.nD,
      r.2.mem ((c.tc : Thread Cert.NattenIdeal.nD Cert.NattenIdeal.τ).loc Cert.NattenIdeal.main_arg0) = m ((c.tc : Thread Cert.NattenIdeal.nD Cert.NattenIdeal.τ).loc Cert.NattenIdeal.main_arg0)
      ∧ r.2.mem ((c.tc : Thread Cert.NattenIdeal.nD Cert.NattenIdeal.τ).loc Cert.NattenIdeal.main_arg1) = m ((c.tc : Thread Cert.NattenIdeal.nD Cert.NattenIdeal.τ).loc Cert.NattenIdeal.main_arg1))
      ∧ r.2.sem = fun _ => 0)

def quiescent_NattenRefIdeal [hNattenRefIdeal : Cert.NattenRefIdeal.Facts] : Prop :=
  ∀ (m : (ℓ : Loc Cert.NattenRefIdeal.nD Cert.NattenRefIdeal.τ Cert.NattenRefIdeal.sig) → Buf (Elt Ideal) ℓ) (g : Dev Cert.NattenRefIdeal.nD → PrngReg), Pre_NattenRefIdeal m →
    θ_run (Cert.NattenRefIdeal.defs (F := Ideal)) (onTc (τ := Cert.NattenRefIdeal.τ) (Cert.NattenRefIdeal.main (F := Ideal))) ⟨m, fun _ => 0, g⟩ (fun r => (∀ c : Dev Cert.NattenRefIdeal.nD,
      r.2.mem ((c.tc : Thread Cert.NattenRefIdeal.nD Cert.NattenRefIdeal.τ).loc Cert.NattenRefIdeal.main_arg0) = m ((c.tc : Thread Cert.NattenRefIdeal.nD Cert.NattenRefIdeal.τ).loc Cert.NattenRefIdeal.main_arg0)
      ∧ r.2.mem ((c.tc : Thread Cert.NattenRefIdeal.nD Cert.NattenRefIdeal.τ).loc Cert.NattenRefIdeal.main_arg1) = m ((c.tc : Thread Cert.NattenRefIdeal.nD Cert.NattenRefIdeal.τ).loc Cert.NattenRefIdeal.main_arg1))
      ∧ r.2.sem = fun _ => 0)

def quiescent_NattenRefIdeal_pre_finite_scores [hNattenRefIdeal : Cert.NattenRefIdeal.Facts] [hPre_finite_scores : Cert.Pre_finite_scores.Facts] : Prop :=
  ∀ (m : (ℓ : Loc Cert.NattenRefIdeal.nD Cert.NattenRefIdeal.τ Cert.NattenRefIdeal.sig) → Buf (Elt Ideal) ℓ) (g : Dev Cert.NattenRefIdeal.nD → PrngReg), Pre_NattenRefIdeal_finite_scores m →
    θ_run (Cert.NattenRefIdeal.defs (F := Ideal)) (onTc (τ := Cert.NattenRefIdeal.τ) (Cert.NattenRefIdeal.main (F := Ideal))) ⟨m, fun _ => 0, g⟩ (fun r => (∀ c : Dev Cert.NattenRefIdeal.nD,
      r.2.mem ((c.tc : Thread Cert.NattenRefIdeal.nD Cert.NattenRefIdeal.τ).loc Cert.NattenRefIdeal.main_arg0) = m ((c.tc : Thread Cert.NattenRefIdeal.nD Cert.NattenRefIdeal.τ).loc Cert.NattenRefIdeal.main_arg0)
      ∧ r.2.mem ((c.tc : Thread Cert.NattenRefIdeal.nD Cert.NattenRefIdeal.τ).loc Cert.NattenRefIdeal.main_arg1) = m ((c.tc : Thread Cert.NattenRefIdeal.nD Cert.NattenRefIdeal.τ).loc Cert.NattenRefIdeal.main_arg1))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4)
      ∧ r.2.mem ((c.tc : Thread Cert.Ffn1.nD Cert.Ffn1.τ).loc Cert.Ffn1.main_arg5) = m ((c.tc : Thread Cert.Ffn1.nD Cert.Ffn1.τ).loc Cert.Ffn1.main_arg5)
      ∧ r.2.mem ((c.tc : Thread Cert.Ffn1.nD Cert.Ffn1.τ).loc Cert.Ffn1.main_arg6) = m ((c.tc : Thread Cert.Ffn1.nD Cert.Ffn1.τ).loc Cert.Ffn1.main_arg6))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
      ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5)
      ∧ r.2.mem ((c.tc : Thread Cert.Ffn1Ideal.nD Cert.Ffn1Ideal.τ).loc Cert.Ffn1Ideal.main_arg6) = m ((c.tc : Thread Cert.Ffn1Ideal.nD Cert.Ffn1Ideal.τ).loc Cert.Ffn1Ideal.main_arg6))
      ∧ r.2.sem = fun _ => 0)

def quiescent_Ffn1RefIdeal [hFfn1RefIdeal : Cert.Ffn1RefIdeal.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1)
      ∧ r.2.mem ((c.tc : Thread Cert.Ffn1RefIdeal.nD Cert.Ffn1RefIdeal.τ).loc Cert.Ffn1RefIdeal.main_arg2) = m ((c.tc : Thread Cert.Ffn1RefIdeal.nD Cert.Ffn1RefIdeal.τ).loc Cert.Ffn1RefIdeal.main_arg2)
      ∧ r.2.mem ((c.tc : Thread Cert.Ffn1RefIdeal.nD Cert.Ffn1RefIdeal.τ).loc Cert.Ffn1RefIdeal.main_arg3) = m ((c.tc : Thread Cert.Ffn1RefIdeal.nD Cert.Ffn1RefIdeal.τ).loc Cert.Ffn1RefIdeal.main_arg3)
      ∧ r.2.mem ((c.tc : Thread Cert.Ffn1RefIdeal.nD Cert.Ffn1RefIdeal.τ).loc Cert.Ffn1RefIdeal.main_arg4) = m ((c.tc : Thread Cert.Ffn1RefIdeal.nD Cert.Ffn1RefIdeal.τ).loc Cert.Ffn1RefIdeal.main_arg4)
      ∧ r.2.mem ((c.tc : Thread Cert.Ffn1RefIdeal.nD Cert.Ffn1RefIdeal.τ).loc Cert.Ffn1RefIdeal.main_arg5) = m ((c.tc : Thread Cert.Ffn1RefIdeal.nD Cert.Ffn1RefIdeal.τ).loc Cert.Ffn1RefIdeal.main_arg5)
      ∧ r.2.mem ((c.tc : Thread Cert.Ffn1RefIdeal.nD Cert.Ffn1RefIdeal.τ).loc Cert.Ffn1RefIdeal.main_arg6) = m ((c.tc : Thread Cert.Ffn1RefIdeal.nD Cert.Ffn1RefIdeal.τ).loc Cert.Ffn1RefIdeal.main_arg6))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2)
      ∧ r.2.mem ((c.tc : Thread Cert.Ffn2.nD Cert.Ffn2.τ).loc Cert.Ffn2.main_arg3) = m ((c.tc : Thread Cert.Ffn2.nD Cert.Ffn2.τ).loc Cert.Ffn2.main_arg3)
      ∧ r.2.mem ((c.tc : Thread Cert.Ffn2.nD Cert.Ffn2.τ).loc Cert.Ffn2.main_arg4) = m ((c.tc : Thread Cert.Ffn2.nD Cert.Ffn2.τ).loc Cert.Ffn2.main_arg4)
      ∧ r.2.mem ((c.tc : Thread Cert.Ffn2.nD Cert.Ffn2.τ).loc Cert.Ffn2.main_arg5) = m ((c.tc : Thread Cert.Ffn2.nD Cert.Ffn2.τ).loc Cert.Ffn2.main_arg5)
      ∧ r.2.mem ((c.tc : Thread Cert.Ffn2.nD Cert.Ffn2.τ).loc Cert.Ffn2.main_arg6) = m ((c.tc : Thread Cert.Ffn2.nD Cert.Ffn2.τ).loc Cert.Ffn2.main_arg6))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
      ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
      ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5)
      ∧ r.2.mem ((c.tc : Thread Cert.Ffn2Ideal.nD Cert.Ffn2Ideal.τ).loc Cert.Ffn2Ideal.main_arg6) = m ((c.tc : Thread Cert.Ffn2Ideal.nD Cert.Ffn2Ideal.τ).loc Cert.Ffn2Ideal.main_arg6))
      ∧ r.2.sem = fun _ => 0)

def quiescent_Ffn2RefIdeal [hFfn2RefIdeal : Cert.Ffn2RefIdeal.Facts] : Prop :=
  ∀ (m : (ℓ : Loc Cert.Ffn2RefIdeal.nD Cert.Ffn2RefIdeal.τ Cert.Ffn2RefIdeal.sig) → Buf (Elt Ideal) ℓ) (g : Dev Cert.Ffn2RefIdeal.nD → PrngReg), Pre_Ffn2RefIdeal m →
    θ_run (Cert.Ffn2RefIdeal.defs (F := Ideal)) (onTc (τ := Cert.Ffn2RefIdeal.τ) (Cert.Ffn2RefIdeal.main (F := Ideal))) ⟨m, fun _ => 0, g⟩ (fun r => (∀ c : Dev Cert.Ffn2RefIdeal.nD,
      r.2.mem ((c.tc : Thread Cert.Ffn2RefIdeal.nD Cert.Ffn2RefIdeal.τ).loc Cert.Ffn2RefIdeal.main_arg0) = m ((c.tc : Thread Cert.Ffn2RefIdeal.nD Cert.Ffn2RefIdeal.τ).loc Cert.Ffn2RefIdeal.main_arg0)
      ∧ r.2.mem ((c.tc : Thread Cert.Ffn2RefIdeal.nD Cert.Ffn2RefIdeal.τ).loc Cert.Ffn2RefIdeal.main_arg1) = m ((c.tc : Thread Cert.Ffn2RefIdeal.nD Cert.Ffn2RefIdeal.τ).loc Cert.Ffn2RefIdeal.main_arg1)
      ∧ r.2.mem ((c.tc : Thread Cert.Ffn2RefIdeal.nD Cert.Ffn2RefIdeal.τ).loc Cert.Ffn2RefIdeal.main_arg2) = m ((c.tc : Thread Cert.Ffn2RefIdeal.nD Cert.Ffn2RefIdeal.τ).loc Cert.Ffn2RefIdeal.main_arg2)
      ∧ r.2.mem ((c.tc : Thread Cert.Ffn2RefIdeal.nD Cert.Ffn2RefIdeal.τ).loc Cert.Ffn2RefIdeal.main_arg3) = m ((c.tc : Thread Cert.Ffn2RefIdeal.nD Cert.Ffn2RefIdeal.τ).loc Cert.Ffn2RefIdeal.main_arg3)
      ∧ r.2.mem ((c.tc : Thread Cert.Ffn2RefIdeal.nD Cert.Ffn2RefIdeal.τ).loc Cert.Ffn2RefIdeal.main_arg4) = m ((c.tc : Thread Cert.Ffn2RefIdeal.nD Cert.Ffn2RefIdeal.τ).loc Cert.Ffn2RefIdeal.main_arg4)
      ∧ r.2.mem ((c.tc : Thread Cert.Ffn2RefIdeal.nD Cert.Ffn2RefIdeal.τ).loc Cert.Ffn2RefIdeal.main_arg5) = m ((c.tc : Thread Cert.Ffn2RefIdeal.nD Cert.Ffn2RefIdeal.τ).loc Cert.Ffn2RefIdeal.main_arg5)
      ∧ r.2.mem ((c.tc : Thread Cert.Ffn2RefIdeal.nD Cert.Ffn2RefIdeal.τ).loc Cert.Ffn2RefIdeal.main_arg6) = m ((c.tc : Thread Cert.Ffn2RefIdeal.nD Cert.Ffn2RefIdeal.τ).loc Cert.Ffn2RefIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ r.2.sem = fun _ => 0)

def quiescent_MemkvRefIdeal [hMemkvRefIdeal : Cert.MemkvRefIdeal.Facts] : Prop :=
  ∀ (m : (ℓ : Loc Cert.MemkvRefIdeal.nD Cert.MemkvRefIdeal.τ Cert.MemkvRefIdeal.sig) → Buf (Elt Ideal) ℓ) (g : Dev Cert.MemkvRefIdeal.nD → PrngReg), Pre_MemkvRefIdeal m →
    θ_run (Cert.MemkvRefIdeal.defs (F := Ideal)) (onTc (τ := Cert.MemkvRefIdeal.τ) (Cert.MemkvRefIdeal.main (F := Ideal))) ⟨m, fun _ => 0, g⟩ (fun r => (∀ c : Dev Cert.MemkvRefIdeal.nD,
      r.2.mem ((c.tc : Thread Cert.MemkvRefIdeal.nD Cert.MemkvRefIdeal.τ).loc Cert.MemkvRefIdeal.main_arg0) = m ((c.tc : Thread Cert.MemkvRefIdeal.nD Cert.MemkvRefIdeal.τ).loc Cert.MemkvRefIdeal.main_arg0)
      ∧ r.2.mem ((c.tc : Thread Cert.MemkvRefIdeal.nD Cert.MemkvRefIdeal.τ).loc Cert.MemkvRefIdeal.main_arg1) = m ((c.tc : Thread Cert.MemkvRefIdeal.nD Cert.MemkvRefIdeal.τ).loc Cert.MemkvRefIdeal.main_arg1)
      ∧ r.2.mem ((c.tc : Thread Cert.MemkvRefIdeal.nD Cert.MemkvRefIdeal.τ).loc Cert.MemkvRefIdeal.main_arg2) = m ((c.tc : Thread Cert.MemkvRefIdeal.nD Cert.MemkvRefIdeal.τ).loc Cert.MemkvRefIdeal.main_arg2))
      ∧ r.2.sem = fun _ => 0)

def quiescent_Memattn [hMemattn : Cert.Memattn.Facts] : Prop :=
  ∀ (m : (ℓ : Loc Cert.Memattn.nD Cert.Memattn.τ Cert.Memattn.sig) → Buf (Elt Bits) ℓ) (g : Dev Cert.Memattn.nD → PrngReg), Pre_Memattn m →
    θ_run (Cert.Memattn.defs (F := Bits)) (onTc (τ := Cert.Memattn.τ) (Cert.Memattn.main (F := Bits))) ⟨m, fun _ => 0, g⟩ (fun r => (∀ c : Dev Cert.Memattn.nD,
      r.2.mem ((c.tc : Thread Cert.Memattn.nD Cert.Memattn.τ).loc Cert.Memattn.main_arg0) = m ((c.tc : Thread Cert.Memattn.nD Cert.Memattn.τ).loc Cert.Memattn.main_arg0)
      ∧ r.2.mem ((c.tc : Thread Cert.Memattn.nD Cert.Memattn.τ).loc Cert.Memattn.main_arg1) = m ((c.tc : Thread Cert.Memattn.nD Cert.Memattn.τ).loc Cert.Memattn.main_arg1))
      ∧ r.2.sem = fun _ => 0)

def quiescent_MemattnIdeal [hMemattnIdeal : Cert.MemattnIdeal.Facts] : Prop :=
  ∀ (m : (ℓ : Loc Cert.MemattnIdeal.nD Cert.MemattnIdeal.τ Cert.MemattnIdeal.sig) → Buf (Elt Ideal) ℓ) (g : Dev Cert.MemattnIdeal.nD → PrngReg), Pre_MemattnIdeal m →
    θ_run (Cert.MemattnIdeal.defs (F := Ideal)) (onTc (τ := Cert.MemattnIdeal.τ) (Cert.MemattnIdeal.main (F := Ideal))) ⟨m, fun _ => 0, g⟩ (fun r => (∀ c : Dev Cert.MemattnIdeal.nD,
      r.2.mem ((c.tc : Thread Cert.MemattnIdeal.nD Cert.MemattnIdeal.τ).loc Cert.MemattnIdeal.main_arg0) = m ((c.tc : Thread Cert.MemattnIdeal.nD Cert.MemattnIdeal.τ).loc Cert.MemattnIdeal.main_arg0)
      ∧ r.2.mem ((c.tc : Thread Cert.MemattnIdeal.nD Cert.MemattnIdeal.τ).loc Cert.MemattnIdeal.main_arg1) = m ((c.tc : Thread Cert.MemattnIdeal.nD Cert.MemattnIdeal.τ).loc Cert.MemattnIdeal.main_arg1))
      ∧ r.2.sem = fun _ => 0)

def quiescent_MemattnIdeal_pre_finite [hMemattnIdeal : Cert.MemattnIdeal.Facts] [hPre_finite : Cert.Pre_finite.Facts] : Prop :=
  ∀ (m : (ℓ : Loc Cert.MemattnIdeal.nD Cert.MemattnIdeal.τ Cert.MemattnIdeal.sig) → Buf (Elt Ideal) ℓ) (g : Dev Cert.MemattnIdeal.nD → PrngReg), Pre_MemattnIdeal_finite m →
    θ_run (Cert.MemattnIdeal.defs (F := Ideal)) (onTc (τ := Cert.MemattnIdeal.τ) (Cert.MemattnIdeal.main (F := Ideal))) ⟨m, fun _ => 0, g⟩ (fun r => (∀ c : Dev Cert.MemattnIdeal.nD,
      r.2.mem ((c.tc : Thread Cert.MemattnIdeal.nD Cert.MemattnIdeal.τ).loc Cert.MemattnIdeal.main_arg0) = m ((c.tc : Thread Cert.MemattnIdeal.nD Cert.MemattnIdeal.τ).loc Cert.MemattnIdeal.main_arg0)
      ∧ r.2.mem ((c.tc : Thread Cert.MemattnIdeal.nD Cert.MemattnIdeal.τ).loc Cert.MemattnIdeal.main_arg1) = m ((c.tc : Thread Cert.MemattnIdeal.nD Cert.MemattnIdeal.τ).loc Cert.MemattnIdeal.main_arg1))
      ∧ r.2.sem = fun _ => 0)

def quiescent_MemattnRefIdeal [hMemattnRefIdeal : Cert.MemattnRefIdeal.Facts] : Prop :=
  ∀ (m : (ℓ : Loc Cert.MemattnRefIdeal.nD Cert.MemattnRefIdeal.τ Cert.MemattnRefIdeal.sig) → Buf (Elt Ideal) ℓ) (g : Dev Cert.MemattnRefIdeal.nD → PrngReg), Pre_MemattnRefIdeal m →
    θ_run (Cert.MemattnRefIdeal.defs (F := Ideal)) (onTc (τ := Cert.MemattnRefIdeal.τ) (Cert.MemattnRefIdeal.main (F := Ideal))) ⟨m, fun _ => 0, g⟩ (fun r => (∀ c : Dev Cert.MemattnRefIdeal.nD,
      r.2.mem ((c.tc : Thread Cert.MemattnRefIdeal.nD Cert.MemattnRefIdeal.τ).loc Cert.MemattnRefIdeal.main_arg0) = m ((c.tc : Thread Cert.MemattnRefIdeal.nD Cert.MemattnRefIdeal.τ).loc Cert.MemattnRefIdeal.main_arg0)
      ∧ r.2.mem ((c.tc : Thread Cert.MemattnRefIdeal.nD Cert.MemattnRefIdeal.τ).loc Cert.MemattnRefIdeal.main_arg1) = m ((c.tc : Thread Cert.MemattnRefIdeal.nD Cert.MemattnRefIdeal.τ).loc Cert.MemattnRefIdeal.main_arg1))
      ∧ r.2.sem = fun _ => 0)

def quiescent_MemattnRefIdeal_pre_finite [hMemattnRefIdeal : Cert.MemattnRefIdeal.Facts] [hPre_finite : Cert.Pre_finite.Facts] : Prop :=
  ∀ (m : (ℓ : Loc Cert.MemattnRefIdeal.nD Cert.MemattnRefIdeal.τ Cert.MemattnRefIdeal.sig) → Buf (Elt Ideal) ℓ) (g : Dev Cert.MemattnRefIdeal.nD → PrngReg), Pre_MemattnRefIdeal_finite m →
    θ_run (Cert.MemattnRefIdeal.defs (F := Ideal)) (onTc (τ := Cert.MemattnRefIdeal.τ) (Cert.MemattnRefIdeal.main (F := Ideal))) ⟨m, fun _ => 0, g⟩ (fun r => (∀ c : Dev Cert.MemattnRefIdeal.nD,
      r.2.mem ((c.tc : Thread Cert.MemattnRefIdeal.nD Cert.MemattnRefIdeal.τ).loc Cert.MemattnRefIdeal.main_arg0) = m ((c.tc : Thread Cert.MemattnRefIdeal.nD Cert.MemattnRefIdeal.τ).loc Cert.MemattnRefIdeal.main_arg0)
      ∧ r.2.mem ((c.tc : Thread Cert.MemattnRefIdeal.nD Cert.MemattnRefIdeal.τ).loc Cert.MemattnRefIdeal.main_arg1) = m ((c.tc : Thread Cert.MemattnRefIdeal.nD Cert.MemattnRefIdeal.τ).loc Cert.MemattnRefIdeal.main_arg1))
      ∧ r.2.sem = fun _ => 0)

def quiescent_Wo [hWo : Cert.Wo.Facts] : Prop :=
  ∀ (m : (ℓ : Loc Cert.Wo.nD Cert.Wo.τ Cert.Wo.sig) → Buf (Elt Bits) ℓ) (g : Dev Cert.Wo.nD → PrngReg), Pre_Wo m →
    θ_run (Cert.Wo.defs (F := Bits)) (onTc (τ := Cert.Wo.τ) (Cert.Wo.main (F := Bits))) ⟨m, fun _ => 0, g⟩ (fun r => (∀ c : Dev Cert.Wo.nD,
      r.2.mem ((c.tc : Thread Cert.Wo.nD Cert.Wo.τ).loc Cert.Wo.main_arg0) = m ((c.tc : Thread Cert.Wo.nD Cert.Wo.τ).loc Cert.Wo.main_arg0)
      ∧ r.2.mem ((c.tc : Thread Cert.Wo.nD Cert.Wo.τ).loc Cert.Wo.main_arg1) = m ((c.tc : Thread Cert.Wo.nD Cert.Wo.τ).loc Cert.Wo.main_arg1)
      ∧ r.2.mem ((c.tc : Thread Cert.Wo.nD Cert.Wo.τ).loc Cert.Wo.main_arg2) = m ((c.tc : Thread Cert.Wo.nD Cert.Wo.τ).loc Cert.Wo.main_arg2)
      ∧ r.2.mem ((c.tc : Thread Cert.Wo.nD Cert.Wo.τ).loc Cert.Wo.main_arg3) = m ((c.tc : Thread Cert.Wo.nD Cert.Wo.τ).loc Cert.Wo.main_arg3))
      ∧ r.2.sem = fun _ => 0)

def quiescent_WoIdeal [hWoIdeal : Cert.WoIdeal.Facts] : Prop :=
  ∀ (m : (ℓ : Loc Cert.WoIdeal.nD Cert.WoIdeal.τ Cert.WoIdeal.sig) → Buf (Elt Ideal) ℓ) (g : Dev Cert.WoIdeal.nD → PrngReg), Pre_WoIdeal m →
    θ_run (Cert.WoIdeal.defs (F := Ideal)) (onTc (τ := Cert.WoIdeal.τ) (Cert.WoIdeal.main (F := Ideal))) ⟨m, fun _ => 0, g⟩ (fun r => (∀ c : Dev Cert.WoIdeal.nD,
      r.2.mem ((c.tc : Thread Cert.WoIdeal.nD Cert.WoIdeal.τ).loc Cert.WoIdeal.main_arg0) = m ((c.tc : Thread Cert.WoIdeal.nD Cert.WoIdeal.τ).loc Cert.WoIdeal.main_arg0)
      ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
      ∧ r.2.mem ((c.tc : Thread Cert.WoIdeal.nD Cert.WoIdeal.τ).loc Cert.WoIdeal.main_arg2) = m ((c.tc : Thread Cert.WoIdeal.nD Cert.WoIdeal.τ).loc Cert.WoIdeal.main_arg2)
      ∧ r.2.mem ((c.tc : Thread Cert.WoIdeal.nD Cert.WoIdeal.τ).loc Cert.WoIdeal.main_arg3) = m ((c.tc : Thread Cert.WoIdeal.nD Cert.WoIdeal.τ).loc Cert.WoIdeal.main_arg3))
      ∧ r.2.sem = fun _ => 0)

def quiescent_WoRefIdeal [hWoRefIdeal : Cert.WoRefIdeal.Facts] : Prop :=
  ∀ (m : (ℓ : Loc Cert.WoRefIdeal.nD Cert.WoRefIdeal.τ Cert.WoRefIdeal.sig) → Buf (Elt Ideal) ℓ) (g : Dev Cert.WoRefIdeal.nD → PrngReg), Pre_WoRefIdeal m →
    θ_run (Cert.WoRefIdeal.defs (F := Ideal)) (onTc (τ := Cert.WoRefIdeal.τ) (Cert.WoRefIdeal.main (F := Ideal))) ⟨m, fun _ => 0, g⟩ (fun r => (∀ c : Dev Cert.WoRefIdeal.nD,
      r.2.mem ((c.tc : Thread Cert.WoRefIdeal.nD Cert.WoRefIdeal.τ).loc Cert.WoRefIdeal.main_arg0) = m ((c.tc : Thread Cert.WoRefIdeal.nD Cert.WoRefIdeal.τ).loc Cert.WoRefIdeal.main_arg0)
      ∧ r.2.mem ((c.tc : Thread Cert.WoRefIdeal.nD Cert.WoRefIdeal.τ).loc Cert.WoRefIdeal.main_arg1) = m ((c.tc : Thread Cert.WoRefIdeal.nD Cert.WoRefIdeal.τ).loc Cert.WoRefIdeal.main_arg1)
      ∧ r.2.mem ((c.tc : Thread Cert.WoRefIdeal.nD Cert.WoRefIdeal.τ).loc Cert.WoRefIdeal.main_arg2) = m ((c.tc : Thread Cert.WoRefIdeal.nD Cert.WoRefIdeal.τ).loc Cert.WoRefIdeal.main_arg2)
      ∧ r.2.mem ((c.tc : Thread Cert.WoRefIdeal.nD Cert.WoRefIdeal.τ).loc Cert.WoRefIdeal.main_arg3) = m ((c.tc : Thread Cert.WoRefIdeal.nD Cert.WoRefIdeal.τ).loc Cert.WoRefIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def preserves_Natten_NattenIdeal : Prop :=
  True

def algebraic_NattenIdeal_NattenRefIdeal_pre_finite_scores [hNattenIdeal : Cert.NattenIdeal.Facts] [hNattenRefIdeal : Cert.NattenRefIdeal.Facts] [hPre_finite_scores : Cert.Pre_finite_scores.Facts] : Prop :=
  ∀ (m : (ℓ : Loc Cert.NattenIdeal.nD Cert.NattenIdeal.τ Cert.NattenIdeal.sig) → Buf (Elt Ideal) ℓ) (g : Dev Cert.NattenIdeal.nD → PrngReg)
    (m' : (ℓ : Loc Cert.NattenRefIdeal.nD Cert.NattenRefIdeal.τ Cert.NattenRefIdeal.sig) → Buf (Elt Ideal) ℓ) (g' : Dev Cert.NattenRefIdeal.nD → PrngReg), Pre_NattenIdeal_finite_scores m →
    (∀ c : Dev Cert.NattenIdeal.nD,
      m' ((c.tc : Thread Cert.NattenRefIdeal.nD Cert.NattenRefIdeal.τ).loc Cert.NattenRefIdeal.main_arg0) = m ((c.tc : Thread Cert.NattenIdeal.nD Cert.NattenIdeal.τ).loc Cert.NattenIdeal.main_arg0)
      ∧ m' ((c.tc : Thread Cert.NattenRefIdeal.nD Cert.NattenRefIdeal.τ).loc Cert.NattenRefIdeal.main_arg1) = m ((c.tc : Thread Cert.NattenIdeal.nD Cert.NattenIdeal.τ).loc Cert.NattenIdeal.main_arg1)) →
    ∃ (v0 : (c : Dev Cert.NattenIdeal.nD) → Buf (Elt Ideal) ((c.tc : Thread Cert.NattenIdeal.nD Cert.NattenIdeal.τ).loc Cert.NattenIdeal.main_v267)),
      θ_run (Cert.NattenIdeal.defs (F := Ideal)) (onTc (τ := Cert.NattenIdeal.τ) (Cert.NattenIdeal.main (F := Ideal))) ⟨m, fun _ => 0, g⟩ (fun r => ∀ c : Dev Cert.NattenIdeal.nD,
          r.2.mem ((c.tc : Thread Cert.NattenIdeal.nD Cert.NattenIdeal.τ).loc Cert.NattenIdeal.main_v267) = v0 c
          ∧ r.2.mem ((c.tc : Thread Cert.NattenIdeal.nD Cert.NattenIdeal.τ).loc Cert.NattenIdeal.main_arg0) = m ((c.tc : Thread Cert.NattenIdeal.nD Cert.NattenIdeal.τ).loc Cert.NattenIdeal.main_arg0)
          ∧ r.2.mem ((c.tc : Thread Cert.NattenIdeal.nD Cert.NattenIdeal.τ).loc Cert.NattenIdeal.main_arg1) = m ((c.tc : Thread Cert.NattenIdeal.nD Cert.NattenIdeal.τ).loc Cert.NattenIdeal.main_arg1))
      ∧ θ_run (Cert.NattenRefIdeal.defs (F := Ideal)) (onTc (τ := Cert.NattenRefIdeal.τ) (Cert.NattenRefIdeal.main (F := Ideal))) ⟨m', fun _ => 0, g'⟩ (fun r => ∀ c : Dev Cert.NattenRefIdeal.nD,
          r.2.mem ((c.tc : Thread Cert.NattenRefIdeal.nD Cert.NattenRefIdeal.τ).loc Cert.NattenRefIdeal.main_v98) = v0 c
          ∧ r.2.mem ((c.tc : Thread Cert.NattenRefIdeal.nD Cert.NattenRefIdeal.τ).loc Cert.NattenRefIdeal.main_arg0) = m' ((c.tc : Thread Cert.NattenRefIdeal.nD Cert.NattenRefIdeal.τ).loc Cert.NattenRefIdeal.main_arg0)
          ∧ r.2.mem ((c.tc : Thread Cert.NattenRefIdeal.nD Cert.NattenRefIdeal.τ).loc Cert.NattenRefIdeal.main_arg1) = m' ((c.tc : Thread Cert.NattenRefIdeal.nD Cert.NattenRefIdeal.τ).loc Cert.NattenRefIdeal.main_arg1))

def preserves_Ffn1_Ffn1Ideal : Prop :=
  True

def algebraic_Ffn1Ideal_Ffn1RefIdeal [hFfn1Ideal : Cert.Ffn1Ideal.Facts] [hFfn1RefIdeal : Cert.Ffn1RefIdeal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1RefIdeal.nD Cert.Ffn1RefIdeal.τ Cert.Ffn1RefIdeal.sig) → Buf (Elt Ideal) ℓ) (g' : Dev Cert.Ffn1RefIdeal.nD → PrngReg), Pre_Ffn1Ideal m →
    (∀ c : Dev Cert.Ffn1Ideal.nD,
      m' ((c.tc : Thread Cert.Ffn1RefIdeal.nD Cert.Ffn1RefIdeal.τ).loc Cert.Ffn1RefIdeal.main_arg0) = m ((c.tc : Thread Cert.Ffn1Ideal.nD Cert.Ffn1Ideal.τ).loc Cert.Ffn1Ideal.main_arg0)
      ∧ m' ((c.tc : Thread Cert.Ffn1RefIdeal.nD Cert.Ffn1RefIdeal.τ).loc Cert.Ffn1RefIdeal.main_arg1) = m ((c.tc : Thread Cert.Ffn1Ideal.nD Cert.Ffn1Ideal.τ).loc Cert.Ffn1Ideal.main_arg1)
      ∧ m' ((c.tc : Thread Cert.Ffn1RefIdeal.nD Cert.Ffn1RefIdeal.τ).loc Cert.Ffn1RefIdeal.main_arg2) = m ((c.tc : Thread Cert.Ffn1Ideal.nD Cert.Ffn1Ideal.τ).loc Cert.Ffn1Ideal.main_arg2)
      ∧ m' ((c.tc : Thread Cert.Ffn1RefIdeal.nD Cert.Ffn1RefIdeal.τ).loc Cert.Ffn1RefIdeal.main_arg3) = m ((c.tc : Thread Cert.Ffn1Ideal.nD Cert.Ffn1Ideal.τ).loc Cert.Ffn1Ideal.main_arg3)
      ∧ m' ((c.tc : Thread Cert.Ffn1RefIdeal.nD Cert.Ffn1RefIdeal.τ).loc Cert.Ffn1RefIdeal.main_arg4) = m ((c.tc : Thread Cert.Ffn1Ideal.nD Cert.Ffn1Ideal.τ).loc Cert.Ffn1Ideal.main_arg4)
      ∧ m' ((c.tc : Thread Cert.Ffn1RefIdeal.nD Cert.Ffn1RefIdeal.τ).loc Cert.Ffn1RefIdeal.main_arg5) = m ((c.tc : Thread Cert.Ffn1Ideal.nD Cert.Ffn1Ideal.τ).loc Cert.Ffn1Ideal.main_arg5)
      ∧ m' ((c.tc : Thread Cert.Ffn1RefIdeal.nD Cert.Ffn1RefIdeal.τ).loc Cert.Ffn1RefIdeal.main_arg6) = m ((c.tc : Thread Cert.Ffn1Ideal.nD Cert.Ffn1Ideal.τ).loc Cert.Ffn1Ideal.main_arg6)) →
    ∃ (v0 : (c : Dev Cert.Ffn1Ideal.nD) → Buf (Elt Ideal) ((c.tc : Thread Cert.Ffn1Ideal.nD Cert.Ffn1Ideal.τ).loc Cert.Ffn1Ideal.main_v0)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v0) = v0 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
          ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5)
          ∧ r.2.mem ((c.tc : Thread Cert.Ffn1Ideal.nD Cert.Ffn1Ideal.τ).loc Cert.Ffn1Ideal.main_arg6) = m ((c.tc : Thread Cert.Ffn1Ideal.nD Cert.Ffn1Ideal.τ).loc Cert.Ffn1Ideal.main_arg6))
      ∧ θ_run (Cert.Ffn1RefIdeal.defs (F := Ideal)) (onTc (τ := Cert.Ffn1RefIdeal.τ) (Cert.Ffn1RefIdeal.main (F := Ideal))) ⟨m', fun _ => 0, g'⟩ (fun r => ∀ c : Dev Cert.Ffn1RefIdeal.nD,
          r.2.mem ((c.tc : Thread Cert.Ffn1RefIdeal.nD Cert.Ffn1RefIdeal.τ).loc Cert.Ffn1RefIdeal.main_v34) = v0 c
          ∧ r.2.mem ((c.tc : Thread Cert.Ffn1RefIdeal.nD Cert.Ffn1RefIdeal.τ).loc Cert.Ffn1RefIdeal.main_arg0) = m' ((c.tc : Thread Cert.Ffn1RefIdeal.nD Cert.Ffn1RefIdeal.τ).loc Cert.Ffn1RefIdeal.main_arg0)
          ∧ r.2.mem ((c.tc : Thread Cert.Ffn1RefIdeal.nD Cert.Ffn1RefIdeal.τ).loc Cert.Ffn1RefIdeal.main_arg1) = m' ((c.tc : Thread Cert.Ffn1RefIdeal.nD Cert.Ffn1RefIdeal.τ).loc Cert.Ffn1RefIdeal.main_arg1)
          ∧ r.2.mem ((c.tc : Thread Cert.Ffn1RefIdeal.nD Cert.Ffn1RefIdeal.τ).loc Cert.Ffn1RefIdeal.main_arg2) = m' ((c.tc : Thread Cert.Ffn1RefIdeal.nD Cert.Ffn1RefIdeal.τ).loc Cert.Ffn1RefIdeal.main_arg2)
          ∧ r.2.mem ((c.tc : Thread Cert.Ffn1RefIdeal.nD Cert.Ffn1RefIdeal.τ).loc Cert.Ffn1RefIdeal.main_arg3) = m' ((c.tc : Thread Cert.Ffn1RefIdeal.nD Cert.Ffn1RefIdeal.τ).loc Cert.Ffn1RefIdeal.main_arg3)
          ∧ r.2.mem ((c.tc : Thread Cert.Ffn1RefIdeal.nD Cert.Ffn1RefIdeal.τ).loc Cert.Ffn1RefIdeal.main_arg4) = m' ((c.tc : Thread Cert.Ffn1RefIdeal.nD Cert.Ffn1RefIdeal.τ).loc Cert.Ffn1RefIdeal.main_arg4)
          ∧ r.2.mem ((c.tc : Thread Cert.Ffn1RefIdeal.nD Cert.Ffn1RefIdeal.τ).loc Cert.Ffn1RefIdeal.main_arg5) = m' ((c.tc : Thread Cert.Ffn1RefIdeal.nD Cert.Ffn1RefIdeal.τ).loc Cert.Ffn1RefIdeal.main_arg5)
          ∧ r.2.mem ((c.tc : Thread Cert.Ffn1RefIdeal.nD Cert.Ffn1RefIdeal.τ).loc Cert.Ffn1RefIdeal.main_arg6) = m' ((c.tc : Thread Cert.Ffn1RefIdeal.nD Cert.Ffn1RefIdeal.τ).loc Cert.Ffn1RefIdeal.main_arg6))

def preserves_Ffn2_Ffn2Ideal : Prop :=
  True

def algebraic_Ffn2Ideal_Ffn2RefIdeal [hFfn2Ideal : Cert.Ffn2Ideal.Facts] [hFfn2RefIdeal : Cert.Ffn2RefIdeal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.Ffn2RefIdeal.nD Cert.Ffn2RefIdeal.τ Cert.Ffn2RefIdeal.sig) → Buf (Elt Ideal) ℓ) (g' : Dev Cert.Ffn2RefIdeal.nD → PrngReg), Pre_Ffn2Ideal m →
    (∀ c : Dev Cert.Ffn2Ideal.nD,
      m' ((c.tc : Thread Cert.Ffn2RefIdeal.nD Cert.Ffn2RefIdeal.τ).loc Cert.Ffn2RefIdeal.main_arg0) = m ((c.tc : Thread Cert.Ffn2Ideal.nD Cert.Ffn2Ideal.τ).loc Cert.Ffn2Ideal.main_arg0)
      ∧ m' ((c.tc : Thread Cert.Ffn2RefIdeal.nD Cert.Ffn2RefIdeal.τ).loc Cert.Ffn2RefIdeal.main_arg1) = m ((c.tc : Thread Cert.Ffn2Ideal.nD Cert.Ffn2Ideal.τ).loc Cert.Ffn2Ideal.main_arg1)
      ∧ m' ((c.tc : Thread Cert.Ffn2RefIdeal.nD Cert.Ffn2RefIdeal.τ).loc Cert.Ffn2RefIdeal.main_arg2) = m ((c.tc : Thread Cert.Ffn2Ideal.nD Cert.Ffn2Ideal.τ).loc Cert.Ffn2Ideal.main_arg2)
      ∧ m' ((c.tc : Thread Cert.Ffn2RefIdeal.nD Cert.Ffn2RefIdeal.τ).loc Cert.Ffn2RefIdeal.main_arg3) = m ((c.tc : Thread Cert.Ffn2Ideal.nD Cert.Ffn2Ideal.τ).loc Cert.Ffn2Ideal.main_arg3)
      ∧ m' ((c.tc : Thread Cert.Ffn2RefIdeal.nD Cert.Ffn2RefIdeal.τ).loc Cert.Ffn2RefIdeal.main_arg4) = m ((c.tc : Thread Cert.Ffn2Ideal.nD Cert.Ffn2Ideal.τ).loc Cert.Ffn2Ideal.main_arg4)
      ∧ m' ((c.tc : Thread Cert.Ffn2RefIdeal.nD Cert.Ffn2RefIdeal.τ).loc Cert.Ffn2RefIdeal.main_arg5) = m ((c.tc : Thread Cert.Ffn2Ideal.nD Cert.Ffn2Ideal.τ).loc Cert.Ffn2Ideal.main_arg5)
      ∧ m' ((c.tc : Thread Cert.Ffn2RefIdeal.nD Cert.Ffn2RefIdeal.τ).loc Cert.Ffn2RefIdeal.main_arg6) = m ((c.tc : Thread Cert.Ffn2Ideal.nD Cert.Ffn2Ideal.τ).loc Cert.Ffn2Ideal.main_arg6)) →
    ∃ (v0 : (c : Dev Cert.Ffn2Ideal.nD) → Buf (Elt Ideal) ((c.tc : Thread Cert.Ffn2Ideal.nD Cert.Ffn2Ideal.τ).loc Cert.Ffn2Ideal.main_v0)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v0) = v0 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
          ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
          ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
          ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5)
          ∧ r.2.mem ((c.tc : Thread Cert.Ffn2Ideal.nD Cert.Ffn2Ideal.τ).loc Cert.Ffn2Ideal.main_arg6) = m ((c.tc : Thread Cert.Ffn2Ideal.nD Cert.Ffn2Ideal.τ).loc Cert.Ffn2Ideal.main_arg6))
      ∧ θ_run (Cert.Ffn2RefIdeal.defs (F := Ideal)) (onTc (τ := Cert.Ffn2RefIdeal.τ) (Cert.Ffn2RefIdeal.main (F := Ideal))) ⟨m', fun _ => 0, g'⟩ (fun r => ∀ c : Dev Cert.Ffn2RefIdeal.nD,
          r.2.mem ((c.tc : Thread Cert.Ffn2RefIdeal.nD Cert.Ffn2RefIdeal.τ).loc Cert.Ffn2RefIdeal.main_v46) = v0 c
          ∧ r.2.mem ((c.tc : Thread Cert.Ffn2RefIdeal.nD Cert.Ffn2RefIdeal.τ).loc Cert.Ffn2RefIdeal.main_arg0) = m' ((c.tc : Thread Cert.Ffn2RefIdeal.nD Cert.Ffn2RefIdeal.τ).loc Cert.Ffn2RefIdeal.main_arg0)
          ∧ r.2.mem ((c.tc : Thread Cert.Ffn2RefIdeal.nD Cert.Ffn2RefIdeal.τ).loc Cert.Ffn2RefIdeal.main_arg1) = m' ((c.tc : Thread Cert.Ffn2RefIdeal.nD Cert.Ffn2RefIdeal.τ).loc Cert.Ffn2RefIdeal.main_arg1)
          ∧ r.2.mem ((c.tc : Thread Cert.Ffn2RefIdeal.nD Cert.Ffn2RefIdeal.τ).loc Cert.Ffn2RefIdeal.main_arg2) = m' ((c.tc : Thread Cert.Ffn2RefIdeal.nD Cert.Ffn2RefIdeal.τ).loc Cert.Ffn2RefIdeal.main_arg2)
          ∧ r.2.mem ((c.tc : Thread Cert.Ffn2RefIdeal.nD Cert.Ffn2RefIdeal.τ).loc Cert.Ffn2RefIdeal.main_arg3) = m' ((c.tc : Thread Cert.Ffn2RefIdeal.nD Cert.Ffn2RefIdeal.τ).loc Cert.Ffn2RefIdeal.main_arg3)
          ∧ r.2.mem ((c.tc : Thread Cert.Ffn2RefIdeal.nD Cert.Ffn2RefIdeal.τ).loc Cert.Ffn2RefIdeal.main_arg4) = m' ((c.tc : Thread Cert.Ffn2RefIdeal.nD Cert.Ffn2RefIdeal.τ).loc Cert.Ffn2RefIdeal.main_arg4)
          ∧ r.2.mem ((c.tc : Thread Cert.Ffn2RefIdeal.nD Cert.Ffn2RefIdeal.τ).loc Cert.Ffn2RefIdeal.main_arg5) = m' ((c.tc : Thread Cert.Ffn2RefIdeal.nD Cert.Ffn2RefIdeal.τ).loc Cert.Ffn2RefIdeal.main_arg5)
          ∧ r.2.mem ((c.tc : Thread Cert.Ffn2RefIdeal.nD Cert.Ffn2RefIdeal.τ).loc Cert.Ffn2RefIdeal.main_arg6) = m' ((c.tc : Thread Cert.Ffn2RefIdeal.nD Cert.Ffn2RefIdeal.τ).loc Cert.Ffn2RefIdeal.main_arg6))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v34) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Memkv_MemkvIdeal : Prop :=
  True

def algebraic_MemkvIdeal_MemkvRefIdeal [hMemkvIdeal : Cert.MemkvIdeal.Facts] [hMemkvRefIdeal : Cert.MemkvRefIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvRefIdeal.nD Cert.MemkvRefIdeal.τ Cert.MemkvRefIdeal.sig) → Buf (Elt Ideal) ℓ) (g' : Dev Cert.MemkvRefIdeal.nD → PrngReg), Pre_MemkvIdeal m →
    (∀ c : Dev Cert.MemkvIdeal.nD,
      m' ((c.tc : Thread Cert.MemkvRefIdeal.nD Cert.MemkvRefIdeal.τ).loc Cert.MemkvRefIdeal.main_arg0) = m ((c.tc : Thread Cert.MemkvIdeal.nD Cert.MemkvIdeal.τ).loc Cert.MemkvIdeal.main_arg0)
      ∧ m' ((c.tc : Thread Cert.MemkvRefIdeal.nD Cert.MemkvRefIdeal.τ).loc Cert.MemkvRefIdeal.main_arg1) = m ((c.tc : Thread Cert.MemkvIdeal.nD Cert.MemkvIdeal.τ).loc Cert.MemkvIdeal.main_arg1)
      ∧ m' ((c.tc : Thread Cert.MemkvRefIdeal.nD Cert.MemkvRefIdeal.τ).loc Cert.MemkvRefIdeal.main_arg2) = m ((c.tc : Thread Cert.MemkvIdeal.nD Cert.MemkvIdeal.τ).loc Cert.MemkvIdeal.main_arg2)) →
    ∃ (v0 : (c : Dev Cert.MemkvIdeal.nD) → Buf (Elt Ideal) ((c.tc : Thread Cert.MemkvIdeal.nD Cert.MemkvIdeal.τ).loc Cert.MemkvIdeal.main_v0)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v0) = v0 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ θ_run (Cert.MemkvRefIdeal.defs (F := Ideal)) (onTc (τ := Cert.MemkvRefIdeal.τ) (Cert.MemkvRefIdeal.main (F := Ideal))) ⟨m', fun _ => 0, g'⟩ (fun r => ∀ c : Dev Cert.MemkvRefIdeal.nD,
          r.2.mem ((c.tc : Thread Cert.MemkvRefIdeal.nD Cert.MemkvRefIdeal.τ).loc Cert.MemkvRefIdeal.main_v14) = v0 c
          ∧ r.2.mem ((c.tc : Thread Cert.MemkvRefIdeal.nD Cert.MemkvRefIdeal.τ).loc Cert.MemkvRefIdeal.main_arg0) = m' ((c.tc : Thread Cert.MemkvRefIdeal.nD Cert.MemkvRefIdeal.τ).loc Cert.MemkvRefIdeal.main_arg0)
          ∧ r.2.mem ((c.tc : Thread Cert.MemkvRefIdeal.nD Cert.MemkvRefIdeal.τ).loc Cert.MemkvRefIdeal.main_arg1) = m' ((c.tc : Thread Cert.MemkvRefIdeal.nD Cert.MemkvRefIdeal.τ).loc Cert.MemkvRefIdeal.main_arg1)
          ∧ r.2.mem ((c.tc : Thread Cert.MemkvRefIdeal.nD Cert.MemkvRefIdeal.τ).loc Cert.MemkvRefIdeal.main_arg2) = m' ((c.tc : Thread Cert.MemkvRefIdeal.nD Cert.MemkvRefIdeal.τ).loc Cert.MemkvRefIdeal.main_arg2))

def preserves_Memattn_MemattnIdeal : Prop :=
  True

def algebraic_MemattnIdeal_MemattnRefIdeal_pre_finite [hMemattnIdeal : Cert.MemattnIdeal.Facts] [hMemattnRefIdeal : Cert.MemattnRefIdeal.Facts] [hPre_finite : Cert.Pre_finite.Facts] : Prop :=
  ∀ (m : (ℓ : Loc Cert.MemattnIdeal.nD Cert.MemattnIdeal.τ Cert.MemattnIdeal.sig) → Buf (Elt Ideal) ℓ) (g : Dev Cert.MemattnIdeal.nD → PrngReg)
    (m' : (ℓ : Loc Cert.MemattnRefIdeal.nD Cert.MemattnRefIdeal.τ Cert.MemattnRefIdeal.sig) → Buf (Elt Ideal) ℓ) (g' : Dev Cert.MemattnRefIdeal.nD → PrngReg), Pre_MemattnIdeal_finite m →
    (∀ c : Dev Cert.MemattnIdeal.nD,
      m' ((c.tc : Thread Cert.MemattnRefIdeal.nD Cert.MemattnRefIdeal.τ).loc Cert.MemattnRefIdeal.main_arg0) = m ((c.tc : Thread Cert.MemattnIdeal.nD Cert.MemattnIdeal.τ).loc Cert.MemattnIdeal.main_arg0)
      ∧ m' ((c.tc : Thread Cert.MemattnRefIdeal.nD Cert.MemattnRefIdeal.τ).loc Cert.MemattnRefIdeal.main_arg1) = m ((c.tc : Thread Cert.MemattnIdeal.nD Cert.MemattnIdeal.τ).loc Cert.MemattnIdeal.main_arg1)) →
    ∃ (v0 : (c : Dev Cert.MemattnIdeal.nD) → Buf (Elt Ideal) ((c.tc : Thread Cert.MemattnIdeal.nD Cert.MemattnIdeal.τ).loc Cert.MemattnIdeal.main_v0)),
      θ_run (Cert.MemattnIdeal.defs (F := Ideal)) (onTc (τ := Cert.MemattnIdeal.τ) (Cert.MemattnIdeal.main (F := Ideal))) ⟨m, fun _ => 0, g⟩ (fun r => ∀ c : Dev Cert.MemattnIdeal.nD,
          r.2.mem ((c.tc : Thread Cert.MemattnIdeal.nD Cert.MemattnIdeal.τ).loc Cert.MemattnIdeal.main_v0) = v0 c
          ∧ r.2.mem ((c.tc : Thread Cert.MemattnIdeal.nD Cert.MemattnIdeal.τ).loc Cert.MemattnIdeal.main_arg0) = m ((c.tc : Thread Cert.MemattnIdeal.nD Cert.MemattnIdeal.τ).loc Cert.MemattnIdeal.main_arg0)
          ∧ r.2.mem ((c.tc : Thread Cert.MemattnIdeal.nD Cert.MemattnIdeal.τ).loc Cert.MemattnIdeal.main_arg1) = m ((c.tc : Thread Cert.MemattnIdeal.nD Cert.MemattnIdeal.τ).loc Cert.MemattnIdeal.main_arg1))
      ∧ θ_run (Cert.MemattnRefIdeal.defs (F := Ideal)) (onTc (τ := Cert.MemattnRefIdeal.τ) (Cert.MemattnRefIdeal.main (F := Ideal))) ⟨m', fun _ => 0, g'⟩ (fun r => ∀ c : Dev Cert.MemattnRefIdeal.nD,
          r.2.mem ((c.tc : Thread Cert.MemattnRefIdeal.nD Cert.MemattnRefIdeal.τ).loc Cert.MemattnRefIdeal.main_v25) = v0 c
          ∧ r.2.mem ((c.tc : Thread Cert.MemattnRefIdeal.nD Cert.MemattnRefIdeal.τ).loc Cert.MemattnRefIdeal.main_arg0) = m' ((c.tc : Thread Cert.MemattnRefIdeal.nD Cert.MemattnRefIdeal.τ).loc Cert.MemattnRefIdeal.main_arg0)
          ∧ r.2.mem ((c.tc : Thread Cert.MemattnRefIdeal.nD Cert.MemattnRefIdeal.τ).loc Cert.MemattnRefIdeal.main_arg1) = m' ((c.tc : Thread Cert.MemattnRefIdeal.nD Cert.MemattnRefIdeal.τ).loc Cert.MemattnRefIdeal.main_arg1))

def preserves_Wo_WoIdeal : Prop :=
  True

def algebraic_WoIdeal_WoRefIdeal [hWoIdeal : Cert.WoIdeal.Facts] [hWoRefIdeal : Cert.WoRefIdeal.Facts] : Prop :=
  ∀ (m : (ℓ : Loc Cert.WoIdeal.nD Cert.WoIdeal.τ Cert.WoIdeal.sig) → Buf (Elt Ideal) ℓ) (g : Dev Cert.WoIdeal.nD → PrngReg)
    (m' : (ℓ : Loc Cert.WoRefIdeal.nD Cert.WoRefIdeal.τ Cert.WoRefIdeal.sig) → Buf (Elt Ideal) ℓ) (g' : Dev Cert.WoRefIdeal.nD → PrngReg), Pre_WoIdeal m →
    (∀ c : Dev Cert.WoIdeal.nD,
      m' ((c.tc : Thread Cert.WoRefIdeal.nD Cert.WoRefIdeal.τ).loc Cert.WoRefIdeal.main_arg0) = m ((c.tc : Thread Cert.WoIdeal.nD Cert.WoIdeal.τ).loc Cert.WoIdeal.main_arg0)
      ∧ m' ((c.tc : Thread Cert.WoRefIdeal.nD Cert.WoRefIdeal.τ).loc Cert.WoRefIdeal.main_arg1) = m ((c.tc : Thread Cert.WoIdeal.nD Cert.WoIdeal.τ).loc Cert.WoIdeal.main_arg1)
      ∧ m' ((c.tc : Thread Cert.WoRefIdeal.nD Cert.WoRefIdeal.τ).loc Cert.WoRefIdeal.main_arg2) = m ((c.tc : Thread Cert.WoIdeal.nD Cert.WoIdeal.τ).loc Cert.WoIdeal.main_arg2)
      ∧ m' ((c.tc : Thread Cert.WoRefIdeal.nD Cert.WoRefIdeal.τ).loc Cert.WoRefIdeal.main_arg3) = m ((c.tc : Thread Cert.WoIdeal.nD Cert.WoIdeal.τ).loc Cert.WoIdeal.main_arg3)) →
    ∃ (v0 : (c : Dev Cert.WoIdeal.nD) → Buf (Elt Ideal) ((c.tc : Thread Cert.WoIdeal.nD Cert.WoIdeal.τ).loc Cert.WoIdeal.main_v0)),
      θ_run (Cert.WoIdeal.defs (F := Ideal)) (onTc (τ := Cert.WoIdeal.τ) (Cert.WoIdeal.main (F := Ideal))) ⟨m, fun _ => 0, g⟩ (fun r => ∀ c : Dev Cert.WoIdeal.nD,
          r.2.mem ((c.tc : Thread Cert.WoIdeal.nD Cert.WoIdeal.τ).loc Cert.WoIdeal.main_v0) = v0 c
          ∧ r.2.mem ((c.tc : Thread Cert.WoIdeal.nD Cert.WoIdeal.τ).loc Cert.WoIdeal.main_arg0) = m ((c.tc : Thread Cert.WoIdeal.nD Cert.WoIdeal.τ).loc Cert.WoIdeal.main_arg0)
          ∧ r.2.mem ((c.tc : Thread Cert.WoIdeal.nD Cert.WoIdeal.τ).loc Cert.WoIdeal.main_arg1) = m ((c.tc : Thread Cert.WoIdeal.nD Cert.WoIdeal.τ).loc Cert.WoIdeal.main_arg1)
          ∧ r.2.mem ((c.tc : Thread Cert.WoIdeal.nD Cert.WoIdeal.τ).loc Cert.WoIdeal.main_arg2) = m ((c.tc : Thread Cert.WoIdeal.nD Cert.WoIdeal.τ).loc Cert.WoIdeal.main_arg2)
          ∧ r.2.mem ((c.tc : Thread Cert.WoIdeal.nD Cert.WoIdeal.τ).loc Cert.WoIdeal.main_arg3) = m ((c.tc : Thread Cert.WoIdeal.nD Cert.WoIdeal.τ).loc Cert.WoIdeal.main_arg3))
      ∧ θ_run (Cert.WoRefIdeal.defs (F := Ideal)) (onTc (τ := Cert.WoRefIdeal.τ) (Cert.WoRefIdeal.main (F := Ideal))) ⟨m', fun _ => 0, g'⟩ (fun r => ∀ c : Dev Cert.WoRefIdeal.nD,
          r.2.mem ((c.tc : Thread Cert.WoRefIdeal.nD Cert.WoRefIdeal.τ).loc Cert.WoRefIdeal.main_v15) = v0 c
          ∧ r.2.mem ((c.tc : Thread Cert.WoRefIdeal.nD Cert.WoRefIdeal.τ).loc Cert.WoRefIdeal.main_arg0) = m' ((c.tc : Thread Cert.WoRefIdeal.nD Cert.WoRefIdeal.τ).loc Cert.WoRefIdeal.main_arg0)
          ∧ r.2.mem ((c.tc : Thread Cert.WoRefIdeal.nD Cert.WoRefIdeal.τ).loc Cert.WoRefIdeal.main_arg1) = m' ((c.tc : Thread Cert.WoRefIdeal.nD Cert.WoRefIdeal.τ).loc Cert.WoRefIdeal.main_arg1)
          ∧ r.2.mem ((c.tc : Thread Cert.WoRefIdeal.nD Cert.WoRefIdeal.τ).loc Cert.WoRefIdeal.main_arg2) = m' ((c.tc : Thread Cert.WoRefIdeal.nD Cert.WoRefIdeal.τ).loc Cert.WoRefIdeal.main_arg2)
          ∧ r.2.mem ((c.tc : Thread Cert.WoRefIdeal.nD Cert.WoRefIdeal.τ).loc Cert.WoRefIdeal.main_arg3) = m' ((c.tc : Thread Cert.WoRefIdeal.nD Cert.WoRefIdeal.τ).loc Cert.WoRefIdeal.main_arg3))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v0_0)) (v1 : (c : Dev Cert.InprojIdeal.nD) → Buf (Elt Ideal) ((c.tc : Thread Cert.InprojIdeal.nD Cert.InprojIdeal.τ).loc Cert.InprojIdeal.main_v0_1)) (v2 : (c : Dev Cert.InprojIdeal.nD) → Buf (Elt Ideal) ((c.tc : Thread Cert.InprojIdeal.nD Cert.InprojIdeal.τ).loc Cert.InprojIdeal.main_v0_2)) (v3 : (c : Dev Cert.InprojIdeal.nD) → Buf (Elt Ideal) ((c.tc : Thread Cert.InprojIdeal.nD Cert.InprojIdeal.τ).loc Cert.InprojIdeal.main_v0_3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0_0) = v0 c
          ∧ r.2.mem ((c.tc : Thread Cert.InprojIdeal.nD Cert.InprojIdeal.τ).loc Cert.InprojIdeal.main_v0_1) = v1 c
          ∧ r.2.mem ((c.tc : Thread Cert.InprojIdeal.nD Cert.InprojIdeal.τ).loc Cert.InprojIdeal.main_v0_2) = v2 c
          ∧ r.2.mem ((c.tc : Thread Cert.InprojIdeal.nD Cert.InprojIdeal.τ).loc Cert.InprojIdeal.main_v0_3) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v18) = v0 c
          ∧ r.2.mem ((c.tc : Thread Cert.InprojRefIdeal.nD Cert.InprojRefIdeal.τ).loc Cert.InprojRefIdeal.main_v19) = v1 c
          ∧ r.2.mem ((c.tc : Thread Cert.InprojRefIdeal.nD Cert.InprojRefIdeal.τ).loc Cert.InprojRefIdeal.main_v15) = v2 c
          ∧ r.2.mem ((c.tc : Thread Cert.InprojRefIdeal.nD Cert.InprojRefIdeal.τ).loc Cert.InprojRefIdeal.main_v20) = v3 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def Claim : Prop :=
  ∃ (hNatten : Cert.Natten.Facts) (hNattenIdeal : Cert.NattenIdeal.Facts) (hNattenRefIdeal : Cert.NattenRefIdeal.Facts) (hFfn1 : Cert.Ffn1.Facts) (hFfn1Ideal : Cert.Ffn1Ideal.Facts) (hFfn1RefIdeal : Cert.Ffn1RefIdeal.Facts) (hFfn2 : Cert.Ffn2.Facts) (hFfn2Ideal : Cert.Ffn2Ideal.Facts) (hFfn2RefIdeal : Cert.Ffn2RefIdeal.Facts) (hMerge : Cert.Merge.Facts) (hMergeIdeal : Cert.MergeIdeal.Facts) (hMergeRefIdeal : Cert.MergeRefIdeal.Facts) (hMemkv : Cert.Memkv.Facts) (hMemkvIdeal : Cert.MemkvIdeal.Facts) (hMemkvRefIdeal : Cert.MemkvRefIdeal.Facts) (hMemattn : Cert.Memattn.Facts) (hMemattnIdeal : Cert.MemattnIdeal.Facts) (hMemattnRefIdeal : Cert.MemattnRefIdeal.Facts) (hWo : Cert.Wo.Facts) (hWoIdeal : Cert.WoIdeal.Facts) (hWoRefIdeal : Cert.WoRefIdeal.Facts) (hInproj : Cert.Inproj.Facts) (hInprojIdeal : Cert.InprojIdeal.Facts) (hInprojRefIdeal : Cert.InprojRefIdeal.Facts) (hPre_finite_scores : Cert.Pre_finite_scores.Facts) (hPre_finite : Cert.Pre_finite.Facts),
    quiescent_Natten (hNatten := hNatten)
    ∧ quiescent_NattenIdeal (hNattenIdeal := hNattenIdeal)
    ∧ quiescent_NattenIdeal_pre_finite_scores (hNattenIdeal := hNattenIdeal) (hPre_finite_scores := hPre_finite_scores)
    ∧ quiescent_NattenRefIdeal (hNattenRefIdeal := hNattenRefIdeal)
    ∧ quiescent_NattenRefIdeal_pre_finite_scores (hNattenRefIdeal := hNattenRefIdeal) (hPre_finite_scores := hPre_finite_scores)
    ∧ quiescent_Ffn1 (hFfn1 := hFfn1)
    ∧ quiescent_Ffn1Ideal (hFfn1Ideal := hFfn1Ideal)
    ∧ quiescent_Ffn1RefIdeal (hFfn1RefIdeal := hFfn1RefIdeal)
    ∧ quiescent_Ffn2 (hFfn2 := hFfn2)
    ∧ quiescent_Ffn2Ideal (hFfn2Ideal := hFfn2Ideal)
    ∧ quiescent_Ffn2RefIdeal (hFfn2RefIdeal := hFfn2RefIdeal)
    ∧ quiescent_Merge (hMerge := hMerge)
    ∧ quiescent_MergeIdeal (hMergeIdeal := hMergeIdeal)
    ∧ quiescent_MergeRefIdeal (hMergeRefIdeal := hMergeRefIdeal)
    ∧ quiescent_Memkv (hMemkv := hMemkv)
    ∧ quiescent_MemkvIdeal (hMemkvIdeal := hMemkvIdeal)
    ∧ quiescent_MemkvRefIdeal (hMemkvRefIdeal := hMemkvRefIdeal)
    ∧ quiescent_Memattn (hMemattn := hMemattn)
    ∧ quiescent_MemattnIdeal (hMemattnIdeal := hMemattnIdeal)
    ∧ quiescent_MemattnIdeal_pre_finite (hMemattnIdeal := hMemattnIdeal) (hPre_finite := hPre_finite)
    ∧ quiescent_MemattnRefIdeal (hMemattnRefIdeal := hMemattnRefIdeal)
    ∧ quiescent_MemattnRefIdeal_pre_finite (hMemattnRefIdeal := hMemattnRefIdeal) (hPre_finite := hPre_finite)
    ∧ quiescent_Wo (hWo := hWo)
    ∧ quiescent_WoIdeal (hWoIdeal := hWoIdeal)
    ∧ quiescent_WoRefIdeal (hWoRefIdeal := hWoRefIdeal)
    ∧ quiescent_Inproj (hInproj := hInproj)
    ∧ quiescent_InprojIdeal (hInprojIdeal := hInprojIdeal)
    ∧ quiescent_InprojRefIdeal (hInprojRefIdeal := hInprojRefIdeal)
    ∧ preserves_Natten_NattenIdeal
    ∧ algebraic_NattenIdeal_NattenRefIdeal_pre_finite_scores (hNattenIdeal := hNattenIdeal) (hNattenRefIdeal := hNattenRefIdeal) (hPre_finite_scores := hPre_finite_scores)
    ∧ preserves_Ffn1_Ffn1Ideal
    ∧ algebraic_Ffn1Ideal_Ffn1RefIdeal (hFfn1Ideal := hFfn1Ideal) (hFfn1RefIdeal := hFfn1RefIdeal)
    ∧ preserves_Ffn2_Ffn2Ideal
    ∧ algebraic_Ffn2Ideal_Ffn2RefIdeal (hFfn2Ideal := hFfn2Ideal) (hFfn2RefIdeal := hFfn2RefIdeal)
    ∧ preserves_Merge_MergeIdeal
    ∧ algebraic_MergeIdeal_MergeRefIdeal (hMergeIdeal := hMergeIdeal) (hMergeRefIdeal := hMergeRefIdeal)
    ∧ preserves_Memkv_MemkvIdeal
    ∧ algebraic_MemkvIdeal_MemkvRefIdeal (hMemkvIdeal := hMemkvIdeal) (hMemkvRefIdeal := hMemkvRefIdeal)
    ∧ preserves_Memattn_MemattnIdeal
    ∧ algebraic_MemattnIdeal_MemattnRefIdeal_pre_finite (hMemattnIdeal := hMemattnIdeal) (hMemattnRefIdeal := hMemattnRefIdeal) (hPre_finite := hPre_finite)
    ∧ preserves_Wo_WoIdeal
    ∧ algebraic_WoIdeal_WoRefIdeal (hWoIdeal := hWoIdeal) (hWoRefIdeal := hWoRefIdeal)
    ∧ preserves_Inproj_InprojIdeal
    ∧ algebraic_InprojIdeal_InprojRefIdeal (hInprojIdeal := hInprojIdeal) (hInprojRefIdeal := hInprojRefIdeal)
-- ==== Pre_finite.lean ====
abbrev S1x16384x1024 : Shape := ⟨3, ![1, 16384, 1024]⟩
abbrev S1x256x2048 : Shape := ⟨3, ![1, 256, 2048]⟩
abbrev S1x256x1024 : Shape := ⟨3, ![1, 256, 1024]⟩
abbrev S_ : Shape := ⟨0, ![]⟩

class Facts : Prop where
  bitsLt_bf16_f32 : FTy.bits .bf16 < FTy.bits .f32
  slices_S1x256x2048_S1x256x1024_0_0_0 : S1x256x2048.Slices ![0, 0, 0] S1x256x1024
  bcast_S_S1x16384x1024 : S_.BroadcastsInDim S1x16384x1024 (![] : Fin 0 → Fin S1x16384x1024.rank)
  bcast_S_S1x256x1024 : S_.BroadcastsInDim S1x256x1024 (![] : Fin 0 → Fin S1x256x1024.rank)

variable [Facts]

def fn {F : FTy → Type} [FloatOps F] (main_arg0 : FVec F S1x16384x1024 .bf16) (main_arg1 : FVec F S1x256x2048 .bf16) : IVec S1x16384x1024 1 × IVec S1x256x1024 1 :=
  let main_v0 : FVec F S1x16384x1024 .f32 := (extf .f32 · bitsLt_bf16_f32) main_arg0
  let main_v1 : FVec F S1x256x2048 .f32 := (extf .f32 · bitsLt_bf16_f32) main_arg1
  let main_v2 : FVec F S1x256x1024 .f32 := (extractStridedSlice S1x256x1024 ![0, 0, 0] · slices_S1x256x2048_S1x256x1024_0_0_0) main_v1
  let main_v3 : FVec F S1x16384x1024 .f32 := Host.absf main_v0
  let main_cst : FVec F S_ .f32 := constant S_ .f32 0x7F800000#32
  let main_v4 : FVec F S1x16384x1024 .f32 := broadcastInDim S1x16384x1024 ![] bcast_S_S1x16384x1024 main_cst
  let main_v5 : IVec S1x16384x1024 1 := cmpf .olt main_v3 main_v4
  let main_v6 : FVec F S1x256x1024 .f32 := Host.absf main_v2
  let main_cst_0 : FVec F S_ .f32 := constant S_ .f32 0x7F800000#32
  let main_v7 : FVec F S1x256x1024 .f32 := broadcastInDim S1x256x1024 ![] bcast_S_S1x256x1024 main_cst_0
  let main_v8 : IVec S1x256x1024 1 := cmpf .olt main_v6 main_v7
  (main_v5, main_v8)
-- ==== Pre_finite_scores.lean ====
abbrev S1x16384x6144 : Shape := ⟨3, ![1, 16384, 6144]⟩
abbrev S16x15x31 : Shape := ⟨3, ![16, 15, 31]⟩
abbrev S1x16384x4096 : Shape := ⟨3, ![1, 16384, 4096]⟩
abbrev S_ : Shape := ⟨0, ![]⟩

class Facts : Prop where
  bitsLt_bf16_f32 : FTy.bits .bf16 < FTy.bits .f32
  slices_S1x16384x6144_S1x16384x4096_0_0_0 : S1x16384x6144.Slices ![0, 0, 0] S1x16384x4096
  bcast_S_S1x16384x4096 : S_.BroadcastsInDim S1x16384x4096 (![] : Fin 0 → Fin S1x16384x4096.rank)
  bcast_S_S16x15x31 : S_.BroadcastsInDim S16x15x31 (![] : Fin 0 → Fin S16x15x31.rank)

variable [Facts]

def fn {F : FTy → Type} [FloatOps F] (main_arg0 : FVec F S1x16384x6144 .bf16) (main_arg1 : FVec F S16x15x31 .f32) : IVec S1x16384x4096 1 × IVec S16x15x31 1 :=
  let main_v0 : FVec F S1x16384x6144 .f32 := (extf .f32 · bitsLt_bf16_f32) main_arg0
  let main_v1 : FVec F S1x16384x4096 .f32 := (extractStridedSlice S1x16384x4096 ![0, 0, 0] · slices_S1x16384x6144_S1x16384x4096_0_0_0) main_v0
  let main_v2 : FVec F S1x16384x4096 .f32 := Host.absf main_v1
  let main_cst : FVec F S_ .f32 := constant S_ .f32 0x7F800000#32
  let main_v3 : FVec F S1x16384x4096 .f32 := broadcastInDim S1x16384x4096 ![] bcast_S_S1x16384x4096 main_cst
  let main_v4 : IVec S1x16384x4096 1 := cmpf .olt main_v2 main_v3
  let main_v5 : FVec F S16x15x31 .f32 := Host.absf main_arg1
  let main_cst_0 : FVec F S_ .f32 := constant S_ .f32 0x7F800000#32
  let main_v6 : FVec F S16x15x31 .f32 := broadcastInDim S16x15x31 ![] bcast_S_S16x15x31 main_cst_0
  let main_v7 : IVec S16x15x31 1 := cmpf .olt main_v5 main_v6
  (main_v4, main_v7)
-- ==== Natten.lean ====
abbrev S1x16384x6144 : Shape := ⟨3, ![1, 16384, 6144]⟩
abbrev S16x15x31 : Shape := ⟨3, ![16, 15, 31]⟩
abbrev S64x64 : Shape := ⟨2, ![64, 64]⟩
abbrev S16 : Shape := ⟨1, ![16]⟩
abbrev S_ : Shape := ⟨0, ![]⟩
abbrev S16x15x127 : Shape := ⟨3, ![16, 15, 127]⟩
abbrev S16x15x64 : Shape := ⟨3, ![16, 15, 64]⟩
abbrev S16x1x15x64 : Shape := ⟨4, ![16, 1, 15, 64]⟩
abbrev S16x16x15x64 : Shape := ⟨4, ![16, 16, 15, 64]⟩
abbrev S16x64x15x64 : Shape := ⟨4, ![16, 64, 15, 64]⟩
abbrev S1x64x1x64 : Shape := ⟨4, ![1, 64, 1, 64]⟩
abbrev S16x64x31x64 : Shape := ⟨4, ![16, 64, 31, 64]⟩
abbrev S16x64x16x64 : Shape := ⟨4, ![16, 64, 16, 64]⟩
abbrev S1x1x16x1 : Shape := ⟨4, ![1, 1, 16, 1]⟩
abbrev S16x64x1024 : Shape := ⟨3, ![16, 64, 1024]⟩
abbrev S16x1x64x1024 : Shape := ⟨4, ![16, 1, 64, 1024]⟩
abbrev S16x8x64x1024 : Shape := ⟨4, ![16, 8, 64, 1024]⟩
abbrev S16x512x1024 : Shape := ⟨3, ![16, 512, 1024]⟩
abbrev S1x16x512x1024 : Shape := ⟨4, ![1, 16, 512, 1024]⟩
abbrev S3x16x512x1024 : Shape := ⟨4, ![3, 16, 512, 1024]⟩
abbrev S1x16384x2048 : Shape := ⟨3, ![1, 16384, 2048]⟩
abbrev S1x512x128 : Shape := ⟨3, ![1, 512, 128]⟩
abbrev S1x256x128 : Shape := ⟨3, ![1, 256, 128]⟩
abbrev S1x1x512x1024 : Shape := ⟨4, ![1, 1, 512, 1024]⟩
abbrev S512x128 : Shape := ⟨2, ![512, 128]⟩
abbrev S256x128 : Shape := ⟨2, ![256, 128]⟩
abbrev S1024x128 : Shape := ⟨2, ![1024, 128]⟩
abbrev S512x1024 : Shape := ⟨2, ![512, 1024]⟩
abbrev S512 : Shape := ⟨1, ![512]⟩
abbrev S512x1 : Shape := ⟨2, ![512, 1]⟩

abbrev nBuf : Space → Nat
  | .hbm => 399
  | .vmem => 22
  | .smem => 0
  | _ => 0

abbrev hbmTy0_0 (i : Nat) : BufTy := match i % 128 with
  | 0 => ⟨S1x16384x6144, .bf16⟩
  | 1 => ⟨S16x15x31, .f32⟩
  | 2 => ⟨S64x64, .i1⟩
  | 3 => ⟨S16, .i1⟩
  | 4 => ⟨S16, .i1⟩
  | 5 => ⟨S16, .i1⟩
  | 6 => ⟨S16, .i1⟩
  | 7 => ⟨S16, .i1⟩
  | 8 => ⟨S16, .i1⟩
  | 9 => ⟨S16, .i1⟩
  | 10 => ⟨S16, .i1⟩
  | 11 => ⟨S16, .i1⟩
  | 12 => ⟨S16, .i1⟩
  | 13 => ⟨S16, .i1⟩
  | 14 => ⟨S16, .i1⟩
  | 15 => ⟨S16, .i1⟩
  | 16 => ⟨S16, .i1⟩
  | 17 => ⟨S16, .i1⟩
  | 18 => ⟨S16, .i1⟩
  | 19 => ⟨S16, .i1⟩
  | 20 => ⟨S16, .i1⟩
  | 21 => ⟨S16, .i1⟩
  | 22 => ⟨S16, .i1⟩
  | 23 => ⟨S16, .i1⟩
  | 24 => ⟨S16, .i1⟩
  | 25 => ⟨S16, .i1⟩
  | 26 => ⟨S16, .i1⟩
  | 27 => ⟨S_, .i32⟩
  | 28 => ⟨S_, .f32⟩
  | 29 => ⟨S16x15x127, .f32⟩
  | 30 => ⟨S16x15x64, .f32⟩
  | 31 => ⟨S16x15x64, .f32⟩
  | 32 => ⟨S16x15x64, .f32⟩
  | 33 => ⟨S16x15x64, .f32⟩
  | 34 => ⟨S16x15x64, .f32⟩
  | 35 => ⟨S16x15x64, .f32⟩
  | 36 => ⟨S16x15x64, .f32⟩
  | 37 => ⟨S16x15x64, .f32⟩
  | 38 => ⟨S16x15x64, .f32⟩
  | 39 => ⟨S16x15x64, .f32⟩
  | 40 => ⟨S16x15x64, .f32⟩
  | 41 => ⟨S16x15x64, .f32⟩
  | 42 => ⟨S16x15x64, .f32⟩
  | 43 => ⟨S16x15x64, .f32⟩
  | 44 => ⟨S16x15x64, .f32⟩
  | 45 => ⟨S16x15x64, .f32⟩
  | 46 => ⟨S16x15x64, .f32⟩
  | 47 => ⟨S16x15x64, .f32⟩
  | 48 => ⟨S16x15x64, .f32⟩
  | 49 => ⟨S16x15x64, .f32⟩
  | 50 => ⟨S16x15x64, .f32⟩
  | 51 => ⟨S16x15x64, .f32⟩
  | 52 => ⟨S16x15x64, .f32⟩
  | 53 => ⟨S16x15x64, .f32⟩
  | 54 => ⟨S16x15x64, .f32⟩
  | 55 => ⟨S16x15x64, .f32⟩
  | 56 => ⟨S16x15x64, .f32⟩
  | 57 => ⟨S16x15x64, .f32⟩
  | 58 => ⟨S16x15x64, .f32⟩
  | 59 => ⟨S16x15x64, .f32⟩
  | 60 => ⟨S16x15x64, .f32⟩
  | 61 => ⟨S16x15x64, .f32⟩
  | 62 => ⟨S16x15x64, .f32⟩
  | 63 => ⟨S16x15x64, .f32⟩
  | 64 => ⟨S16x15x64, .f32⟩
  | 65 => ⟨S16x15x64, .f32⟩
  | 66 => ⟨S16x15x64, .f32⟩
  | 67 => ⟨S16x15x64, .f32⟩
  | 68 => ⟨S16x15x64, .f32⟩
  | 69 => ⟨S16x15x64, .f32⟩
  | 70 => ⟨S16x15x64, .f32⟩
  | 71 => ⟨S16x15x64, .f32⟩
  | 72 => ⟨S16x15x64, .f32⟩
  | 73 => ⟨S16x15x64, .f32⟩
  | 74 => ⟨S16x15x64, .f32⟩
  | 75 => ⟨S16x15x64, .f32⟩
  | 76 => ⟨S16x15x64, .f32⟩
  | 77 => ⟨S16x15x64, .f32⟩
  | 78 => ⟨S16x15x64, .f32⟩
  | 79 => ⟨S16x15x64, .f32⟩
  | 80 => ⟨S16x15x64, .f32⟩
  | 81 => ⟨S16x15x64, .f32⟩
  | 82 => ⟨S16x15x64, .f32⟩
  | 83 => ⟨S16x15x64, .f32⟩
  | 84 => ⟨S16x15x64, .f32⟩
  | 85 => ⟨S16x15x64, .f32⟩
  | 86 => ⟨S16x15x64, .f32⟩
  | 87 => ⟨S16x15x64, .f32⟩
  | 88 => ⟨S16x15x64, .f32⟩
  | 89 => ⟨S16x15x64, .f32⟩
  | 90 => ⟨S16x15x64, .f32⟩
  | 91 => ⟨S16x15x64, .f32⟩
  | 92 => ⟨S16x15x64, .f32⟩
  | 93 => ⟨S16x15x64, .f32⟩
  | 94 => ⟨S16x1x15x64, .f32⟩
  | 95 => ⟨S16x1x15x64, .f32⟩
  | 96 => ⟨S16x1x15x64, .f32⟩
  | 97 => ⟨S16x1x15x64, .f32⟩
  | 98 => ⟨S16x1x15x64, .f32⟩
  | 99 => ⟨S16x1x15x64, .f32⟩
  | 100 => ⟨S16x1x15x64, .f32⟩
  | 101 => ⟨S16x1x15x64, .f32⟩
  | 102 => ⟨S16x1x15x64, .f32⟩
  | 103 => ⟨S16x1x15x64, .f32⟩
  | 104 => ⟨S16x1x15x64, .f32⟩
  | 105 => ⟨S16x1x15x64, .f32⟩
  | 106 => ⟨S16x1x15x64, .f32⟩
  | 107 => ⟨S16x1x15x64, .f32⟩
  | 108 => ⟨S16x1x15x64, .f32⟩
  | 109 => ⟨S16x1x15x64, .f32⟩
  | 110 => ⟨S16x1x15x64, .f32⟩
  | 111 => ⟨S16x1x15x64, .f32⟩
  | 112 => ⟨S16x1x15x64, .f32⟩
  | 113 => ⟨S16x1x15x64, .f32⟩
  | 114 => ⟨S16x1x15x64, .f32⟩
  | 115 => ⟨S16x1x15x64, .f32⟩
  | 116 => ⟨S16x1x15x64, .f32⟩
  | 117 => ⟨S16x1x15x64, .f32⟩
  | 118 => ⟨S16x1x15x64, .f32⟩
  | 119 => ⟨S16x1x15x64, .f32⟩
  | 120 => ⟨S16x1x15x64, .f32⟩
  | 121 => ⟨S16x1x15x64, .f32⟩
  | 122 => ⟨S16x1x15x64, .f32⟩
  | 123 => ⟨S16x1x15x64, .f32⟩
  | 124 => ⟨S16x1x15x64, .f32⟩
  | 125 => ⟨S16x1x15x64, .f32⟩
  | 126 => ⟨S16x1x15x64, .f32⟩
  | 127 => ⟨S16x1x15x64, .f32⟩
  | _ => ⟨S1x16384x6144, .bf16⟩

abbrev hbmTy0_1 (i : Nat) : BufTy := match i % 128 with
  | 0 => ⟨S16x1x15x64, .f32⟩
  | 1 => ⟨S16x1x15x64, .f32⟩
  | 2 => ⟨S16x1x15x64, .f32⟩
  | 3 => ⟨S16x1x15x64, .f32⟩
  | 4 => ⟨S16x1x15x64, .f32⟩
  | 5 => ⟨S16x1x15x64, .f32⟩
  | 6 => ⟨S16x1x15x64, .f32⟩
  | 7 => ⟨S16x1x15x64, .f32⟩
  | 8 => ⟨S16x1x15x64, .f32⟩
  | 9 => ⟨S16x1x15x64, .f32⟩
  | 10 => ⟨S16x1x15x64, .f32⟩
  | 11 => ⟨S16x1x15x64, .f32⟩
  | 12 => ⟨S16x1x15x64, .f32⟩
  | 13 => ⟨S16x1x15x64, .f32⟩
  | 14 => ⟨S16x1x15x64, .f32⟩
  | 15 => ⟨S16x1x15x64, .f32⟩
  | 16 => ⟨S16x1x15x64, .f32⟩
  | 17 => ⟨S16x1x15x64, .f32⟩
  | 18 => ⟨S16x1x15x64, .f32⟩
  | 19 => ⟨S16x1x15x64, .f32⟩
  | 20 => ⟨S16x1x15x64, .f32⟩
  | 21 => ⟨S16x1x15x64, .f32⟩
  | 22 => ⟨S16x1x15x64, .f32⟩
  | 23 => ⟨S16x1x15x64, .f32⟩
  | 24 => ⟨S16x1x15x64, .f32⟩
  | 25 => ⟨S16x1x15x64, .f32⟩
  | 26 => ⟨S16x1x15x64, .f32⟩
  | 27 => ⟨S16x1x15x64, .f32⟩
  | 28 => ⟨S16x1x15x64, .f32⟩
  | 29 => ⟨S16x1x15x64, .f32⟩
  | 30 => ⟨S16x16x15x64, .f32⟩
  | 31 => ⟨S16x16x15x64, .f32⟩
  | 32 => ⟨S16x16x15x64, .f32⟩
  | 33 => ⟨S16x16x15x64, .f32⟩
  | 34 => ⟨S16x64x15x64, .f32⟩
  | 35 => ⟨S1x64x1x64, .i1⟩
  | 36 => ⟨S_, .f32⟩
  | 37 => ⟨S_, .f32⟩
  | 38 => ⟨S16x64x15x64, .i1⟩
  | 39 => ⟨S16x64x15x64, .f32⟩
  | 40 => ⟨S16x64x15x64, .f32⟩
  | 41 => ⟨S_, .f32⟩
  | 42 => ⟨S_, .f32⟩
  | 43 => ⟨S16x64x31x64, .f32⟩
  | 44 => ⟨S16x64x16x64, .f32⟩
  | 45 => ⟨S1x1x16x1, .i1⟩
  | 46 => ⟨S_, .f32⟩
  | 47 => ⟨S_, .f32⟩
  | 48 => ⟨S16x64x16x64, .i1⟩
  | 49 => ⟨S16x64x16x64, .f32⟩
  | 50 => ⟨S16x64x16x64, .f32⟩
  | 51 => ⟨S16x64x1024, .f32⟩
  | 52 => ⟨S16x64x16x64, .f32⟩
  | 53 => ⟨S1x1x16x1, .i1⟩
  | 54 => ⟨S_, .f32⟩
  | 55 => ⟨S_, .f32⟩
  | 56 => ⟨S16x64x16x64, .i1⟩
  | 57 => ⟨S16x64x16x64, .f32⟩
  | 58 => ⟨S16x64x16x64, .f32⟩
  | 59 => ⟨S16x64x1024, .f32⟩
  | 60 => ⟨S16x64x16x64, .f32⟩
  | 61 => ⟨S1x1x16x1, .i1⟩
  | 62 => ⟨S_, .f32⟩
  | 63 => ⟨S_, .f32⟩
  | 64 => ⟨S16x64x16x64, .i1⟩
  | 65 => ⟨S16x64x16x64, .f32⟩
  | 66 => ⟨S16x64x16x64, .f32⟩
  | 67 => ⟨S16x64x1024, .f32⟩
  | 68 => ⟨S16x64x16x64, .f32⟩
  | 69 => ⟨S1x1x16x1, .i1⟩
  | 70 => ⟨S_, .f32⟩
  | 71 => ⟨S_, .f32⟩
  | 72 => ⟨S16x64x16x64, .i1⟩
  | 73 => ⟨S16x64x16x64, .f32⟩
  | 74 => ⟨S16x64x16x64, .f32⟩
  | 75 => ⟨S16x64x1024, .f32⟩
  | 76 => ⟨S16x64x16x64, .f32⟩
  | 77 => ⟨S1x1x16x1, .i1⟩
  | 78 => ⟨S_, .f32⟩
  | 79 => ⟨S_, .f32⟩
  | 80 => ⟨S16x64x16x64, .i1⟩
  | 81 => ⟨S16x64x16x64, .f32⟩
  | 82 => ⟨S16x64x16x64, .f32⟩
  | 83 => ⟨S16x64x1024, .f32⟩
  | 84 => ⟨S16x64x16x64, .f32⟩
  | 85 => ⟨S1x1x16x1, .i1⟩
  | 86 => ⟨S_, .f32⟩
  | 87 => ⟨S_, .f32⟩
  | 88 => ⟨S16x64x16x64, .i1⟩
  | 89 => ⟨S16x64x16x64, .f32⟩
  | 90 => ⟨S16x64x16x64, .f32⟩
  | 91 => ⟨S16x64x1024, .f32⟩
  | 92 => ⟨S16x64x16x64, .f32⟩
  | 93 => ⟨S1x1x16x1, .i1⟩
  | 94 => ⟨S_, .f32⟩
  | 95 => ⟨S_, .f32⟩
  | 96 => ⟨S16x64x16x64, .i1⟩
  | 97 => ⟨S16x64x16x64, .f32⟩
  | 98 => ⟨S16x64x16x64, .f32⟩
  | 99 => ⟨S16x64x1024, .f32⟩
  | 100 => ⟨S16x64x16x64, .f32⟩
  | 101 => ⟨S1x1x16x1, .i1⟩
  | 102 => ⟨S_, .f32⟩
  | 103 => ⟨S_, .f32⟩
  | 104 => ⟨S16x64x16x64, .i1⟩
  | 105 => ⟨S16x64x16x64, .f32⟩
  | 106 => ⟨S16x64x16x64, .f32⟩
  | 107 => ⟨S16x64x1024, .f32⟩
  | 108 => ⟨S16x1x64x1024, .f32⟩
  | 109 => ⟨S16x1x64x1024, .f32⟩
  | 110 => ⟨S16x1x64x1024, .f32⟩
  | 111 => ⟨S16x1x64x1024, .f32⟩
  | 112 => ⟨S16x1x64x1024, .f32⟩
  | 113 => ⟨S16x1x64x1024, .f32⟩
  | 114 => ⟨S16x1x64x1024, .f32⟩
  | 115 => ⟨S16x1x64x1024, .f32⟩
  | 116 => ⟨S16x8x64x1024, .f32⟩
  | 117 => ⟨S16x512x1024, .f32⟩
  | 118 => ⟨S16x64x16x64, .f32⟩
  | 119 => ⟨S1x1x16x1, .i1⟩
  | 120 => ⟨S_, .f32⟩
  | 121 => ⟨S_, .f32⟩
  | 122 => ⟨S16x64x16x64, .i1⟩
  | 123 => ⟨S16x64x16x64, .f32⟩
  | 124 => ⟨S16x64x16x64, .f32⟩
  | 125 => ⟨S16x64x1024, .f32⟩
  | 126 => ⟨S16x64x16x64, .f32⟩
  | 127 => ⟨S1x1x16x1, .i1⟩
  | _ => ⟨S1x16384x6144, .bf16⟩

abbrev hbmTy0_2 (i : Nat) : BufTy := match i % 128 with
  | 0 => ⟨S_, .f32⟩
  | 1 => ⟨S_, .f32⟩
  | 2 => ⟨S16x64x16x64, .i1⟩
  | 3 => ⟨S16x64x16x64, .f32⟩
  | 4 => ⟨S16x64x16x64, .f32⟩
  | 5 => ⟨S16x64x1024, .f32⟩
  | 6 => ⟨S16x64x16x64, .f32⟩
  | 7 => ⟨S1x1x16x1, .i1⟩
  | 8 => ⟨S_, .f32⟩
  | 9 => ⟨S_, .f32⟩
  | 10 => ⟨S16x64x16x64, .i1⟩
  | 11 => ⟨S16x64x16x64, .f32⟩
  | 12 => ⟨S16x64x16x64, .f32⟩
  | 13 => ⟨S16x64x1024, .f32⟩
  | 14 => ⟨S16x64x16x64, .f32⟩
  | 15 => ⟨S1x1x16x1, .i1⟩
  | 16 => ⟨S_, .f32⟩
  | 17 => ⟨S_, .f32⟩
  | 18 => ⟨S16x64x16x64, .i1⟩
  | 19 => ⟨S16x64x16x64, .f32⟩
  | 20 => ⟨S16x64x16x64, .f32⟩
  | 21 => ⟨S16x64x1024, .f32⟩
  | 22 => ⟨S16x64x16x64, .f32⟩
  | 23 => ⟨S1x1x16x1, .i1⟩
  | 24 => ⟨S_, .f32⟩
  | 25 => ⟨S_, .f32⟩
  | 26 => ⟨S16x64x16x64, .i1⟩
  | 27 => ⟨S16x64x16x64, .f32⟩
  | 28 => ⟨S16x64x16x64, .f32⟩
  | 29 => ⟨S16x64x1024, .f32⟩
  | 30 => ⟨S16x64x16x64, .f32⟩
  | 31 => ⟨S1x1x16x1, .i1⟩
  | 32 => ⟨S_, .f32⟩
  | 33 => ⟨S_, .f32⟩
  | 34 => ⟨S16x64x16x64, .i1⟩
  | 35 => ⟨S16x64x16x64, .f32⟩
  | 36 => ⟨S16x64x16x64, .f32⟩
  | 37 => ⟨S16x64x1024, .f32⟩
  | 38 => ⟨S16x64x16x64, .f32⟩
  | 39 => ⟨S1x1x16x1, .i1⟩
  | 40 => ⟨S_, .f32⟩
  | 41 => ⟨S_, .f32⟩
  | 42 => ⟨S16x64x16x64, .i1⟩
  | 43 => ⟨S16x64x16x64, .f32⟩
  | 44 => ⟨S16x64x16x64, .f32⟩
  | 45 => ⟨S16x64x1024, .f32⟩
  | 46 => ⟨S16x64x16x64, .f32⟩
  | 47 => ⟨S1x1x16x1, .i1⟩
  | 48 => ⟨S_, .f32⟩
  | 49 => ⟨S_, .f32⟩
  | 50 => ⟨S16x64x16x64, .i1⟩
  | 51 => ⟨S16x64x16x64, .f32⟩
  | 52 => ⟨S16x64x16x64, .f32⟩
  | 53 => ⟨S16x64x1024, .f32⟩
  | 54 => ⟨S16x1x64x1024, .f32⟩
  | 55 => ⟨S16x1x64x1024, .f32⟩
  | 56 => ⟨S16x1x64x1024, .f32⟩
  | 57 => ⟨S16x1x64x1024, .f32⟩
  | 58 => ⟨S16x1x64x1024, .f32⟩
  | 59 => ⟨S16x1x64x1024, .f32⟩
  | 60 => ⟨S16x1x64x1024, .f32⟩
  | 61 => ⟨S16x1x64x1024, .f32⟩
  | 62 => ⟨S16x8x64x1024, .f32⟩
  | 63 => ⟨S16x512x1024, .f32⟩
  | 64 => ⟨S16x64x16x64, .f32⟩
  | 65 => ⟨S1x1x16x1, .i1⟩
  | 66 => ⟨S_, .f32⟩
  | 67 => ⟨S_, .f32⟩
  | 68 => ⟨S16x64x16x64, .i1⟩
  | 69 => ⟨S16x64x16x64, .f32⟩
  | 70 => ⟨S16x64x16x64, .f32⟩
  | 71 => ⟨S16x64x1024, .f32⟩
  | 72 => ⟨S16x64x16x64, .f32⟩
  | 73 => ⟨S1x1x16x1, .i1⟩
  | 74 => ⟨S_, .f32⟩
  | 75 => ⟨S_, .f32⟩
  | 76 => ⟨S16x64x16x64, .i1⟩
  | 77 => ⟨S16x64x16x64, .f32⟩
  | 78 => ⟨S16x64x16x64, .f32⟩
  | 79 => ⟨S16x64x1024, .f32⟩
  | 80 => ⟨S16x64x16x64, .f32⟩
  | 81 => ⟨S1x1x16x1, .i1⟩
  | 82 => ⟨S_, .f32⟩
  | 83 => ⟨S_, .f32⟩
  | 84 => ⟨S16x64x16x64, .i1⟩
  | 85 => ⟨S16x64x16x64, .f32⟩
  | 86 => ⟨S16x64x16x64, .f32⟩
  | 87 => ⟨S16x64x1024, .f32⟩
  | 88 => ⟨S16x64x16x64, .f32⟩
  | 89 => ⟨S1x1x16x1, .i1⟩
  | 90 => ⟨S_, .f32⟩
  | 91 => ⟨S_, .f32⟩
  | 92 => ⟨S16x64x16x64, .i1⟩
  | 93 => ⟨S16x64x16x64, .f32⟩
  | 94 => ⟨S16x64x16x64, .f32⟩
  | 95 => ⟨S16x64x1024, .f32⟩
  | 96 => ⟨S16x64x16x64, .f32⟩
  | 97 => ⟨S1x1x16x1, .i1⟩
  | 98 => ⟨S_, .f32⟩
  | 99 => ⟨S_, .f32⟩
  | 100 => ⟨S16x64x16x64, .i1⟩
  | 101 => ⟨S16x64x16x64, .f32⟩
  | 102 => ⟨S16x64x16x64, .f32⟩
  | 103 => ⟨S16x64x1024, .f32⟩
  | 104 => ⟨S16x64x16x64, .f32⟩
  | 105 => ⟨S1x1x16x1, .i1⟩
  | 106 => ⟨S_, .f32⟩
  | 107 => ⟨S_, .f32⟩
  | 108 => ⟨S16x64x16x64, .i1⟩
  | 109 => ⟨S16x64x16x64, .f32⟩
  | 110 => ⟨S16x64x16x64, .f32⟩
  | 111 => ⟨S16x64x1024, .f32⟩
  | 112 => ⟨S16x64x16x64, .f32⟩
  | 113 => ⟨S1x1x16x1, .i1⟩
  | 114 => ⟨S_, .f32⟩
  | 115 => ⟨S_, .f32⟩
  | 116 => ⟨S16x64x16x64, .i1⟩
  | 117 => ⟨S16x64x16x64, .f32⟩
  | 118 => ⟨S16x64x16x64, .f32⟩
  | 119 => ⟨S16x64x1024, .f32⟩
  | 120 => ⟨S16x64x16x64, .f32⟩
  | 121 => ⟨S1x1x16x1, .i1⟩
  | 122 => ⟨S_, .f32⟩
  | 123 => ⟨S_, .f32⟩
  | 124 => ⟨S16x64x16x64, .i1⟩
  | 125 => ⟨S16x64x16x64, .f32⟩
  | 126 => ⟨S16x64x16x64, .f32⟩
  | 127 => ⟨S16x64x1024, .f32⟩
  | _ => ⟨S1x16384x6144, .bf16⟩

abbrev hbmTy0_3 (i : Nat) : BufTy := match i % 128 with
  | 0 => ⟨S16x1x64x1024, .f32⟩
  | 1 => ⟨S16x1x64x1024, .f32⟩
  | 2 => ⟨S16x1x64x1024, .f32⟩
  | 3 => ⟨S16x1x64x1024, .f32⟩
  | 4 => ⟨S16x1x64x1024, .f32⟩
  | 5 => ⟨S16x1x64x1024, .f32⟩
  | 6 => ⟨S16x1x64x1024, .f32⟩
  | 7 => ⟨S16x1x64x1024, .f32⟩
  | 8 => ⟨S16x8x64x1024, .f32⟩
  | 9 => ⟨S16x512x1024, .f32⟩
  | 10 => ⟨S1x16x512x1024, .f32⟩
  | 11 => ⟨S1x16x512x1024, .f32⟩
  | 12 => ⟨S1x16x512x1024, .f32⟩
  | 13 => ⟨S3x16x512x1024, .f32⟩
  | 14 => ⟨S1x16384x2048, .bf16⟩
  | _ => ⟨S1x16384x6144, .bf16⟩

abbrev hbmTy (i : Nat) : BufTy := match i / 128 with
  | 0 => hbmTy0_0 i
  | 1 => hbmTy0_1 i
  | 2 => hbmTy0_2 i
  | 3 => hbmTy0_3 i
  | _ => ⟨S1x16384x6144, .bf16⟩

abbrev bufTy : (tb : Table) → Fin (tcTables nBuf tb) → BufTy
  | .hbm, ⟨i, _⟩ => hbmTy i
  | .local _ .vmem, ⟨0, _⟩ => ⟨S1x512x128, .bf16⟩
  | .local _ .vmem, ⟨1, _⟩ => ⟨S1x512x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x256x128, .bf16⟩
  | .local _ .vmem, ⟨11, _⟩ => ⟨S1x256x128, .bf16⟩
  | .local _ .vmem, ⟨12, _⟩ => ⟨S1x256x128, .bf16⟩
  | .local _ .vmem, ⟨13, _⟩ => ⟨S1x256x128, .bf16⟩
  | .local _ .vmem, ⟨14, _⟩ => ⟨S1x256x128, .bf16⟩
  | .local _ .vmem, ⟨15, _⟩ => ⟨S1x256x128, .bf16⟩
  | .local _ .vmem, ⟨16, _⟩ => ⟨S1x256x128, .bf16⟩
  | .local _ .vmem, ⟨17, _⟩ => ⟨S1x256x128, .bf16⟩
  | .local _ .vmem, ⟨18, _⟩ => ⟨S1x1x512x1024, .f32⟩
  | .local _ .vmem, ⟨19, _⟩ => ⟨S1x1x512x1024, .f32⟩
  | .local _ .vmem, ⟨20, _⟩ => ⟨S1x512x128, .bf16⟩
  | .local _ .vmem, ⟨21, _⟩ => ⟨S1x512x128, .bf16⟩
  | _, _ => ⟨S1x16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_c_6 : Ref sig .tc := ⟨.hbm, 9, rfl⟩
abbrev main_c_7 : Ref sig .tc := ⟨.hbm, 10, rfl⟩
abbrev main_c_8 : Ref sig .tc := ⟨.hbm, 11, rfl⟩
abbrev main_c_9 : Ref sig .tc := ⟨.hbm, 12, rfl⟩
abbrev main_c_10 : Ref sig .tc := ⟨.hbm, 13, rfl⟩
abbrev main_c_11 : Ref sig .tc := ⟨.hbm, 14, rfl⟩
abbrev main_c_12 : Ref sig .tc := ⟨.hbm, 15, rfl⟩
abbrev main_c_13 : Ref sig .tc := ⟨.hbm, 16, rfl⟩
abbrev main_c_14 : Ref sig .tc := ⟨.hbm, 17, rfl⟩
abbrev main_c_15 : Ref sig .tc := ⟨.hbm, 18, rfl⟩
abbrev main_c_16 : Ref sig .tc := ⟨.hbm, 19, rfl⟩
abbrev main_c_17 : Ref sig .tc := ⟨.hbm, 20, rfl⟩
abbrev main_c_18 : Ref sig .tc := ⟨.hbm, 21, rfl⟩
abbrev main_c_19 : Ref sig .tc := ⟨.hbm, 22, rfl⟩
abbrev main_c_20 : Ref sig .tc := ⟨.hbm, 23, rfl⟩
abbrev main_c_21 : Ref sig .tc := ⟨.hbm, 24, rfl⟩
abbrev main_c_22 : Ref sig .tc := ⟨.hbm, 25, rfl⟩
abbrev main_c_23 : Ref sig .tc := ⟨.hbm, 26, rfl⟩
abbrev main_c_24 : Ref sig .tc := ⟨.hbm, 27, rfl⟩
abbrev main_call0_v0 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_cst : Ref sig .tc := ⟨.hbm, 164, rfl⟩
abbrev main_call1_v0 : Ref sig .tc := ⟨.hbm, 165, rfl⟩
abbrev main_call1_v1 : Ref sig .tc := ⟨.hbm, 166, rfl⟩
abbrev main_call1_v2 : Ref sig .tc := ⟨.hbm, 167, rfl⟩
abbrev main_v135 : Ref sig .tc := ⟨.hbm, 168, rfl⟩
abbrev main_cst_25 : Ref sig .tc := ⟨.hbm, 169, rfl⟩
abbrev main_call2_v0 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_cst_26 : Ref sig .tc := ⟨.hbm, 174, rfl⟩
abbrev main_call3_v0 : Ref sig .tc := ⟨.hbm, 175, rfl⟩
abbrev main_call3_v1 : Ref sig .tc := ⟨.hbm, 176, rfl⟩
abbrev main_call3_v2 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_cst_27 : Ref sig .tc := ⟨.hbm, 182, rfl⟩
abbrev main_call4_v0 : Ref sig .tc := ⟨.hbm, 183, rfl⟩
abbrev main_call4_v1 : Ref sig .tc := ⟨.hbm, 184, rfl⟩
abbrev main_call4_v2 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_cst_28 : Ref sig .tc := ⟨.hbm, 190, rfl⟩
abbrev main_call5_v0 : Ref sig .tc := ⟨.hbm, 191, rfl⟩
abbrev main_call5_v1 : Ref sig .tc := ⟨.hbm, 192, rfl⟩
abbrev main_call5_v2 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_cst_29 : Ref sig .tc := ⟨.hbm, 198, rfl⟩
abbrev main_call6_v0 : Ref sig .tc := ⟨.hbm, 199, rfl⟩
abbrev main_call6_v1 : Ref sig .tc := ⟨.hbm, 200, rfl⟩
abbrev main_call6_v2 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_cst_30 : Ref sig .tc := ⟨.hbm, 206, rfl⟩
abbrev main_call7_v0 : Ref sig .tc := ⟨.hbm, 207, rfl⟩
abbrev main_call7_v1 : Ref sig .tc := ⟨.hbm, 208, rfl⟩
abbrev main_call7_v2 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_cst_31 : Ref sig .tc := ⟨.hbm, 214, rfl⟩
abbrev main_call8_v0 : Ref sig .tc := ⟨.hbm, 215, rfl⟩
abbrev main_call8_v1 : Ref sig .tc := ⟨.hbm, 216, rfl⟩
abbrev main_call8_v2 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_cst_32 : Ref sig .tc := ⟨.hbm, 222, rfl⟩
abbrev main_call9_v0 : Ref sig .tc := ⟨.hbm, 223, rfl⟩
abbrev main_call9_v1 : Ref sig .tc := ⟨.hbm, 224, rfl⟩
abbrev main_call9_v2 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_cst_33 : Ref sig .tc := ⟨.hbm, 230, rfl⟩
abbrev main_call10_v0 : Ref sig .tc := ⟨.hbm, 231, rfl⟩
abbrev main_call10_v1 : Ref sig .tc := ⟨.hbm, 232, rfl⟩
abbrev main_call10_v2 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_cst_34 : Ref sig .tc := ⟨.hbm, 248, rfl⟩
abbrev main_call11_v0 : Ref sig .tc := ⟨.hbm, 249, rfl⟩
abbrev main_call11_v1 : Ref sig .tc := ⟨.hbm, 250, rfl⟩
abbrev main_call11_v2 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_cst_35 : Ref sig .tc := ⟨.hbm, 256, rfl⟩
abbrev main_call12_v0 : Ref sig .tc := ⟨.hbm, 257, rfl⟩
abbrev main_call12_v1 : Ref sig .tc := ⟨.hbm, 258, rfl⟩
abbrev main_call12_v2 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_cst_36 : Ref sig .tc := ⟨.hbm, 264, rfl⟩
abbrev main_call13_v0 : Ref sig .tc := ⟨.hbm, 265, rfl⟩
abbrev main_call13_v1 : Ref sig .tc := ⟨.hbm, 266, rfl⟩
abbrev main_call13_v2 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_v192 : Ref sig .tc := ⟨.hbm, 271, rfl⟩
abbrev main_cst_37 : Ref sig .tc := ⟨.hbm, 272, rfl⟩
abbrev main_call14_v0 : Ref sig .tc := ⟨.hbm, 273, rfl⟩
abbrev main_call14_v1 : Ref sig .tc := ⟨.hbm, 274, rfl⟩
abbrev main_call14_v2 : Ref sig .tc := ⟨.hbm, 275, rfl⟩
abbrev main_v193 : Ref sig .tc := ⟨.hbm, 276, rfl⟩
abbrev main_v194 : Ref sig .tc := ⟨.hbm, 277, rfl⟩
abbrev main_v195 : Ref sig .tc := ⟨.hbm, 278, rfl⟩
abbrev main_v196 : Ref sig .tc := ⟨.hbm, 279, rfl⟩
abbrev main_cst_38 : Ref sig .tc := ⟨.hbm, 280, rfl⟩
abbrev main_call15_v0 : Ref sig .tc := ⟨.hbm, 281, rfl⟩
abbrev main_call15_v1 : Ref sig .tc := ⟨.hbm, 282, rfl⟩
abbrev main_call15_v2 : Ref sig .tc := ⟨.hbm, 283, rfl⟩
abbrev main_v197 : Ref sig .tc := ⟨.hbm, 284, rfl⟩
abbrev main_v198 : Ref sig .tc := ⟨.hbm, 285, rfl⟩
abbrev main_v199 : Ref sig .tc := ⟨.hbm, 286, rfl⟩
abbrev main_v200 : Ref sig .tc := ⟨.hbm, 287, rfl⟩
abbrev main_cst_39 : Ref sig .tc := ⟨.hbm, 288, rfl⟩
abbrev main_call16_v0 : Ref sig .tc := ⟨.hbm, 289, rfl⟩
abbrev main_call16_v1 : Ref sig .tc := ⟨.hbm, 290, rfl⟩
abbrev main_call16_v2 : Ref sig .tc := ⟨.hbm, 291, rfl⟩
abbrev main_v201 : Ref sig .tc := ⟨.hbm, 292, rfl⟩
abbrev main_v202 : Ref sig .tc := ⟨.hbm, 293, rfl⟩
abbrev main_v203 : Ref sig .tc := ⟨.hbm, 294, rfl⟩
abbrev main_v204 : Ref sig .tc := ⟨.hbm, 295, rfl⟩
abbrev main_cst_40 : Ref sig .tc := ⟨.hbm, 296, rfl⟩
abbrev main_call17_v0 : Ref sig .tc := ⟨.hbm, 297, rfl⟩
abbrev main_call17_v1 : Ref sig .tc := ⟨.hbm, 298, rfl⟩
abbrev main_call17_v2 : Ref sig .tc := ⟨.hbm, 299, rfl⟩
abbrev main_v205 : Ref sig .tc := ⟨.hbm, 300, rfl⟩
abbrev main_v206 : Ref sig .tc := ⟨.hbm, 301, rfl⟩
abbrev main_v207 : Ref sig .tc := ⟨.hbm, 302, rfl⟩
abbrev main_v208 : Ref sig .tc := ⟨.hbm, 303, rfl⟩
abbrev main_cst_41 : Ref sig .tc := ⟨.hbm, 304, rfl⟩
abbrev main_call18_v0 : Ref sig .tc := ⟨.hbm, 305, rfl⟩
abbrev main_call18_v1 : Ref sig .tc := ⟨.hbm, 306, rfl⟩
abbrev main_call18_v2 : Ref sig .tc := ⟨.hbm, 307, rfl⟩
abbrev main_v209 : Ref sig .tc := ⟨.hbm, 308, rfl⟩
abbrev main_v210 : Ref sig .tc := ⟨.hbm, 309, rfl⟩
abbrev main_v211 : Ref sig .tc := ⟨.hbm, 310, rfl⟩
abbrev main_v212 : Ref sig .tc := ⟨.hbm, 311, rfl⟩
abbrev main_v213 : Ref sig .tc := ⟨.hbm, 312, rfl⟩
abbrev main_v214 : Ref sig .tc := ⟨.hbm, 313, rfl⟩
abbrev main_v215 : Ref sig .tc := ⟨.hbm, 314, rfl⟩
abbrev main_v216 : Ref sig .tc := ⟨.hbm, 315, rfl⟩
abbrev main_v217 : Ref sig .tc := ⟨.hbm, 316, rfl⟩
abbrev main_v218 : Ref sig .tc := ⟨.hbm, 317, rfl⟩
abbrev main_v219 : Ref sig .tc := ⟨.hbm, 318, rfl⟩
abbrev main_v220 : Ref sig .tc := ⟨.hbm, 319, rfl⟩
abbrev main_v221 : Ref sig .tc := ⟨.hbm, 320, rfl⟩
abbrev main_v222 : Ref sig .tc := ⟨.hbm, 321, rfl⟩
abbrev main_cst_42 : Ref sig .tc := ⟨.hbm, 322, rfl⟩
abbrev main_call19_v0 : Ref sig .tc := ⟨.hbm, 323, rfl⟩
abbrev main_call19_v1 : Ref sig .tc := ⟨.hbm, 324, rfl⟩
abbrev main_call19_v2 : Ref sig .tc := ⟨.hbm, 325, rfl⟩
abbrev main_v223 : Ref sig .tc := ⟨.hbm, 326, rfl⟩
abbrev main_v224 : Ref sig .tc := ⟨.hbm, 327, rfl⟩
abbrev main_v225 : Ref sig .tc := ⟨.hbm, 328, rfl⟩
abbrev main_v226 : Ref sig .tc := ⟨.hbm, 329, rfl⟩
abbrev main_cst_43 : Ref sig .tc := ⟨.hbm, 330, rfl⟩
abbrev main_call20_v0 : Ref sig .tc := ⟨.hbm, 331, rfl⟩
abbrev main_call20_v1 : Ref sig .tc := ⟨.hbm, 332, rfl⟩
abbrev main_call20_v2 : Ref sig .tc := ⟨.hbm, 333, rfl⟩
abbrev main_v227 : Ref sig .tc := ⟨.hbm, 334, rfl⟩
abbrev main_v228 : Ref sig .tc := ⟨.hbm, 335, rfl⟩
abbrev main_v229 : Ref sig .tc := ⟨.hbm, 336, rfl⟩
abbrev main_v230 : Ref sig .tc := ⟨.hbm, 337, rfl⟩
abbrev main_cst_44 : Ref sig .tc := ⟨.hbm, 338, rfl⟩
abbrev main_call21_v0 : Ref sig .tc := ⟨.hbm, 339, rfl⟩
abbrev main_call21_v1 : Ref sig .tc := ⟨.hbm, 340, rfl⟩
abbrev main_call21_v2 : Ref sig .tc := ⟨.hbm, 341, rfl⟩
abbrev main_v231 : Ref sig .tc := ⟨.hbm, 342, rfl⟩
abbrev main_v232 : Ref sig .tc := ⟨.hbm, 343, rfl⟩
abbrev main_v233 : Ref sig .tc := ⟨.hbm, 344, rfl⟩
abbrev main_v234 : Ref sig .tc := ⟨.hbm, 345, rfl⟩
abbrev main_cst_45 : Ref sig .tc := ⟨.hbm, 346, rfl⟩
abbrev main_call22_v0 : Ref sig .tc := ⟨.hbm, 347, rfl⟩
abbrev main_call22_v1 : Ref sig .tc := ⟨.hbm, 348, rfl⟩
abbrev main_call22_v2 : Ref sig .tc := ⟨.hbm, 349, rfl⟩
abbrev main_v235 : Ref sig .tc := ⟨.hbm, 350, rfl⟩
abbrev main_v236 : Ref sig .tc := ⟨.hbm, 351, rfl⟩
abbrev main_v237 : Ref sig .tc := ⟨.hbm, 352, rfl⟩
abbrev main_v238 : Ref sig .tc := ⟨.hbm, 353, rfl⟩
abbrev main_cst_46 : Ref sig .tc := ⟨.hbm, 354, rfl⟩
abbrev main_call23_v0 : Ref sig .tc := ⟨.hbm, 355, rfl⟩
abbrev main_call23_v1 : Ref sig .tc := ⟨.hbm, 356, rfl⟩
abbrev main_call23_v2 : Ref sig .tc := ⟨.hbm, 357, rfl⟩
abbrev main_v239 : Ref sig .tc := ⟨.hbm, 358, rfl⟩
abbrev main_v240 : Ref sig .tc := ⟨.hbm, 359, rfl⟩
abbrev main_v241 : Ref sig .tc := ⟨.hbm, 360, rfl⟩
abbrev main_v242 : Ref sig .tc := ⟨.hbm, 361, rfl⟩
abbrev main_cst_47 : Ref sig .tc := ⟨.hbm, 362, rfl⟩
abbrev main_call24_v0 : Ref sig .tc := ⟨.hbm, 363, rfl⟩
abbrev main_call24_v1 : Ref sig .tc := ⟨.hbm, 364, rfl⟩
abbrev main_call24_v2 : Ref sig .tc := ⟨.hbm, 365, rfl⟩
abbrev main_v243 : Ref sig .tc := ⟨.hbm, 366, rfl⟩
abbrev main_v244 : Ref sig .tc := ⟨.hbm, 367, rfl⟩
abbrev main_v245 : Ref sig .tc := ⟨.hbm, 368, rfl⟩
abbrev main_v246 : Ref sig .tc := ⟨.hbm, 369, rfl⟩
abbrev main_cst_48 : Ref sig .tc := ⟨.hbm, 370, rfl⟩
abbrev main_call25_v0 : Ref sig .tc := ⟨.hbm, 371, rfl⟩
abbrev main_call25_v1 : Ref sig .tc := ⟨.hbm, 372, rfl⟩
abbrev main_call25_v2 : Ref sig .tc := ⟨.hbm, 373, rfl⟩
abbrev main_v247 : Ref sig .tc := ⟨.hbm, 374, rfl⟩
abbrev main_v248 : Ref sig .tc := ⟨.hbm, 375, rfl⟩
abbrev main_v249 : Ref sig .tc := ⟨.hbm, 376, rfl⟩
abbrev main_v250 : Ref sig .tc := ⟨.hbm, 377, rfl⟩
abbrev main_cst_49 : Ref sig .tc := ⟨.hbm, 378, rfl⟩
abbrev main_call26_v0 : Ref sig .tc := ⟨.hbm, 379, rfl⟩
abbrev main_call26_v1 : Ref sig .tc := ⟨.hbm, 380, rfl⟩
abbrev main_call26_v2 : Ref sig .tc := ⟨.hbm, 381, rfl⟩
abbrev main_v251 : Ref sig .tc := ⟨.hbm, 382, rfl⟩
abbrev main_v252 : Ref sig .tc := ⟨.hbm, 383, rfl⟩
abbrev main_v253 : Ref sig .tc := ⟨.hbm, 384, rfl⟩
abbrev main_v254 : Ref sig .tc := ⟨.hbm, 385, rfl⟩
abbrev main_v255 : Ref sig .tc := ⟨.hbm, 386, rfl⟩
abbrev main_v256 : Ref sig .tc := ⟨.hbm, 387, rfl⟩
abbrev main_v257 : Ref sig .tc := ⟨.hbm, 388, rfl⟩
abbrev main_v258 : Ref sig .tc := ⟨.hbm, 389, rfl⟩
abbrev main_v259 : Ref sig .tc := ⟨.hbm, 390, rfl⟩
abbrev main_v260 : Ref sig .tc := ⟨.hbm, 391, rfl⟩
abbrev main_v261 : Ref sig .tc := ⟨.hbm, 392, rfl⟩
abbrev main_v262 : Ref sig .tc := ⟨.hbm, 393, rfl⟩
abbrev main_v263 : Ref sig .tc := ⟨.hbm, 394, rfl⟩
abbrev main_v264 : Ref sig .tc := ⟨.hbm, 395, rfl⟩
abbrev main_v265 : Ref sig .tc := ⟨.hbm, 396, rfl⟩
abbrev main_v266 : Ref sig .tc := ⟨.hbm, 397, rfl⟩
abbrev main_v267 : Ref sig .tc := ⟨.hbm, 398, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![1, 16, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let c60_i32 : BitVec 32 := 60#32
  let v2 : BitVec 32 := Scalar.maxsi c0_i32 v1
  let v3 : BitVec 32 := Scalar.minsi c60_i32 v2
  let c0_i32_0 : BitVec 32 := 0#32
  let v4 : BitVec 32 := Scalar.addi v3 c0_i32_0
  let c16_i32 : BitVec 32 := 16#32
  let v5 : BitVec 32 := Scalar.addi c16_i32 arg1
  let c0_i32_1 : BitVec 32 := 0#32
  ![arg0.toNat, v4.toNat, v5.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let c60_i32 : BitVec 32 := 60#32
  let v2 : BitVec 32 := Scalar.maxsi c0_i32 v1
  let v3 : BitVec 32 := Scalar.minsi c60_i32 v2
  let c1_i32_0 : BitVec 32 := 1#32
  let v4 : BitVec 32 := Scalar.addi v3 c1_i32_0
  let c16_i32 : BitVec 32 := 16#32
  let v5 : BitVec 32 := Scalar.addi c16_i32 arg1
  let c0_i32_1 : BitVec 32 := 0#32
  ![arg0.toNat, v4.toNat, v5.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let c60_i32 : BitVec 32 := 60#32
  let v2 : BitVec 32 := Scalar.maxsi c0_i32 v1
  let v3 : BitVec 32 := Scalar.minsi c60_i32 v2
  let c2_i32_0 : BitVec 32 := 2#32
  let v4 : BitVec 32 := Scalar.addi v3 c2_i32_0
  let c16_i32 : BitVec 32 := 16#32
  let v5 : BitVec 32 := Scalar.addi c16_i32 arg1
  let c0_i32_1 : BitVec 32 := 0#32
  ![arg0.toNat, v4.toNat, v5.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let c60_i32 : BitVec 32 := 60#32
  let v2 : BitVec 32 := Scalar.maxsi c0_i32 v1
  let v3 : BitVec 32 := Scalar.minsi c60_i32 v2
  let c3_i32 : BitVec 32 := 3#32
  let v4 : BitVec 32 := Scalar.addi v3 c3_i32
  let c16_i32 : BitVec 32 := 16#32
  let v5 : BitVec 32 := Scalar.addi c16_i32 arg1
  let c0_i32_0 : BitVec 32 := 0#32
  ![arg0.toNat, v4.toNat, v5.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let c60_i32 : BitVec 32 := 60#32
  let v2 : BitVec 32 := Scalar.maxsi c0_i32 v1
  let v3 : BitVec 32 := Scalar.minsi c60_i32 v2
  let c0_i32_0 : BitVec 32 := 0#32
  let v4 : BitVec 32 := Scalar.addi v3 c0_i32_0
  let c32_i32 : BitVec 32 := 32#32
  let v5 : BitVec 32 := Scalar.addi c32_i32 arg1
  let c0_i32_1 : BitVec 32 := 0#32
  ![arg0.toNat, v4.toNat, v5.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let c60_i32 : BitVec 32 := 60#32
  let v2 : BitVec 32 := Scalar.maxsi c0_i32 v1
  let v3 : BitVec 32 := Scalar.minsi c60_i32 v2
  let c1_i32_0 : BitVec 32 := 1#32
  let v4 : BitVec 32 := Scalar.addi v3 c1_i32_0
  let c32_i32 : BitVec 32 := 32#32
  let v5 : BitVec 32 := Scalar.addi c32_i32 arg1
  let c0_i32_1 : BitVec 32 := 0#32
  ![arg0.toNat, v4.toNat, v5.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let c60_i32 : BitVec 32 := 60#32
  let v2 : BitVec 32 := Scalar.maxsi c0_i32 v1
  let v3 : BitVec 32 := Scalar.minsi c60_i32 v2
  let c2_i32_0 : BitVec 32 := 2#32
  let v4 : BitVec 32 := Scalar.addi v3 c2_i32_0
  let c32_i32 : BitVec 32 := 32#32
  let v5 : BitVec 32 := Scalar.addi c32_i32 arg1
  let c0_i32_1 : BitVec 32 := 0#32
  ![arg0.toNat, v4.toNat, v5.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let c60_i32 : BitVec 32 := 60#32
  let v2 : BitVec 32 := Scalar.maxsi c0_i32 v1
  let v3 : BitVec 32 := Scalar.minsi c60_i32 v2
  let c3_i32 : BitVec 32 := 3#32
  let v4 : BitVec 32 := Scalar.addi v3 c3_i32
  let c32_i32 : BitVec 32 := 32#32
  let v5 : BitVec 32 := Scalar.addi c32_i32 arg1
  let c0_i32_0 : BitVec 32 := 0#32
  ![arg0.toNat, v4.toNat, v5.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c31_i32 : BitVec 32 := 31#32
  let v1 : BitVec 1 := Scalar.cmpi .eq arg2 c31_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  ![v3.toNat, arg1.toNat, c0_i32_1.toNat, c0_i32_2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true]

abbrev stage0_10 : Fin 2 → Memref sig .tc .vmem S1x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== NattenRefIdeal.lean ====
abbrev S1x16384x6144 : Shape := ⟨3, ![1, 16384, 6144]⟩
abbrev S16x15x31 : Shape := ⟨3, ![16, 15, 31]⟩
abbrev S1x16384x2048 : Shape := ⟨3, ![1, 16384, 2048]⟩
abbrev S1x16384x16x128 : Shape := ⟨4, ![1, 16384, 16, 128]⟩
abbrev S64 : Shape := ⟨1, ![64]⟩
abbrev S_ : Shape := ⟨0, ![]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S1x256x64x16x128 : Shape := ⟨5, ![1, 256, 64, 16, 128]⟩
abbrev S256 : Shape := ⟨1, ![256]⟩
abbrev S256x1 : Shape := ⟨2, ![256, 1]⟩
abbrev S8 : Shape := ⟨1, ![8]⟩
abbrev S1x8 : Shape := ⟨2, ![1, 8]⟩
abbrev S256x8 : Shape := ⟨2, ![256, 8]⟩
abbrev S256x1x8x1 : Shape := ⟨4, ![256, 1, 8, 1]⟩
abbrev S1x64x1x16 : Shape := ⟨4, ![1, 64, 1, 16]⟩
abbrev S256x64x8x16 : Shape := ⟨4, ![256, 64, 8, 16]⟩
abbrev S256x64x128 : Shape := ⟨3, ![256, 64, 128]⟩
abbrev S256x64x8x16x1 : Shape := ⟨5, ![256, 64, 8, 16, 1]⟩
abbrev S256x64x8x16x2 : Shape := ⟨5, ![256, 64, 8, 16, 2]⟩
abbrev S16x256x64x8x16 : Shape := ⟨5, ![16, 256, 64, 8, 16]⟩
abbrev S16x256x64x128 : Shape := ⟨4, ![16, 256, 64, 128]⟩
abbrev S256x64x128x1 : Shape := ⟨4, ![256, 64, 128, 1]⟩
abbrev S1x256x64x128x16x128 : Shape := ⟨6, ![1, 256, 64, 128, 16, 128]⟩
abbrev S1x256x16x64x128 : Shape := ⟨5, ![1, 256, 16, 64, 128]⟩
abbrev S256x16x64x128 : Shape := ⟨4, ![256, 16, 64, 128]⟩
abbrev S1x256x16x64 : Shape := ⟨4, ![1, 256, 16, 64]⟩
abbrev S1x256x16x64x1 : Shape := ⟨5, ![1, 256, 16, 64, 1]⟩

abbrev nBuf : Space → Nat
  | .hbm => 132
  | .vmem => 0
  | .smem => 0
  | _ => 0

abbrev hbmTy0_0 (i : Nat) : BufTy := match i % 128 with
  | 0 => ⟨S1x16384x6144, .bf16⟩
  | 1 => ⟨S16x15x31, .f32⟩
  | 2 => ⟨S1x16384x6144, .f32⟩
  | 3 => ⟨S1x16384x2048, .f32⟩
  | 4 => ⟨S1x16384x2048, .f32⟩
  | 5 => ⟨S1x16384x2048, .f32⟩
  | 6 => ⟨S1x16384x16x128, .f32⟩
  | 7 => ⟨S1x16384x16x128, .f32⟩
  | 8 => ⟨S1x16384x16x128, .f32⟩
  | 9 => ⟨S64, .i32⟩
  | 10 => ⟨S_, .i32⟩
  | 11 => ⟨S64, .i32⟩
  | 12 => ⟨S64, .i32⟩
  | 13 => ⟨S_, .i32⟩
  | 14 => ⟨S_, .i32⟩
  | 15 => ⟨S_, .i32⟩
  | 16 => ⟨S64, .i32⟩
  | 17 => ⟨S64, .i32⟩
  | 18 => ⟨S_, .i32⟩
  | 19 => ⟨S64, .i32⟩
  | 20 => ⟨S64, .i32⟩
  | 21 => ⟨S64x1, .i32⟩
  | 22 => ⟨S16, .i32⟩
  | 23 => ⟨S1x16, .i32⟩
  | 24 => ⟨S64x16, .i32⟩
  | 25 => ⟨S64x16, .i32⟩
  | 26 => ⟨S64x16, .i32⟩
  | 27 => ⟨S64x1, .i32⟩
  | 28 => ⟨S64x16, .i32⟩
  | 29 => ⟨S64x16, .i32⟩
  | 30 => ⟨S_, .i32⟩
  | 31 => ⟨S64x16, .i32⟩
  | 32 => ⟨S64x16, .i32⟩
  | 33 => ⟨S1x256x64x16x128, .f32⟩
  | 34 => ⟨S256, .i32⟩
  | 35 => ⟨S_, .i32⟩
  | 36 => ⟨S256, .i32⟩
  | 37 => ⟨S256, .i32⟩
  | 38 => ⟨S_, .i32⟩
  | 39 => ⟨S_, .i32⟩
  | 40 => ⟨S_, .i32⟩
  | 41 => ⟨S256, .i32⟩
  | 42 => ⟨S256, .i32⟩
  | 43 => ⟨S_, .i32⟩
  | 44 => ⟨S256, .i32⟩
  | 45 => ⟨S256, .i32⟩
  | 46 => ⟨S256x1, .i32⟩
  | 47 => ⟨S8, .i32⟩
  | 48 => ⟨S1x8, .i32⟩
  | 49 => ⟨S256x8, .i32⟩
  | 50 => ⟨S256x8, .i32⟩
  | 51 => ⟨S256x8, .i32⟩
  | 52 => ⟨S256x1, .i32⟩
  | 53 => ⟨S256x8, .i32⟩
  | 54 => ⟨S256x8, .i32⟩
  | 55 => ⟨S_, .i32⟩
  | 56 => ⟨S256x8, .i32⟩
  | 57 => ⟨S256x8, .i32⟩
  | 58 => ⟨S256x1x8x1, .i32⟩
  | 59 => ⟨S_, .i32⟩
  | 60 => ⟨S256x1x8x1, .i32⟩
  | 61 => ⟨S256x1x8x1, .i32⟩
  | 62 => ⟨S1x64x1x16, .i32⟩
  | 63 => ⟨S256x64x8x16, .i32⟩
  | 64 => ⟨S256x64x8x16, .i32⟩
  | 65 => ⟨S256x64x8x16, .i32⟩
  | 66 => ⟨S256x64x128, .i32⟩
  | 67 => ⟨S256x1x8x1, .i32⟩
  | 68 => ⟨S1x64x1x16, .i32⟩
  | 69 => ⟨S_, .i32⟩
  | 70 => ⟨S256x1x8x1, .i32⟩
  | 71 => ⟨S256x1x8x1, .i1⟩
  | 72 => ⟨S_, .i32⟩
  | 73 => ⟨S256x1x8x1, .i32⟩
  | 74 => ⟨S256x1x8x1, .i32⟩
  | 75 => ⟨S256x1x8x1, .i32⟩
  | 76 => ⟨S_, .i32⟩
  | 77 => ⟨S1x64x1x16, .i32⟩
  | 78 => ⟨S1x64x1x16, .i1⟩
  | 79 => ⟨S_, .i32⟩
  | 80 => ⟨S1x64x1x16, .i32⟩
  | 81 => ⟨S1x64x1x16, .i32⟩
  | 82 => ⟨S1x64x1x16, .i32⟩
  | 83 => ⟨S256x64x8x16, .i32⟩
  | 84 => ⟨S256x64x8x16, .i32⟩
  | 85 => ⟨S256x64x8x16x1, .i32⟩
  | 86 => ⟨S256x64x8x16x1, .i32⟩
  | 87 => ⟨S256x64x8x16x2, .i32⟩
  | 88 => ⟨S16x256x64x8x16, .f32⟩
  | 89 => ⟨S16x256x64x128, .f32⟩
  | 90 => ⟨S_, .i32⟩
  | 91 => ⟨S256x64x128, .i32⟩
  | 92 => ⟨S256x64x128, .i1⟩
  | 93 => ⟨S_, .i32⟩
  | 94 => ⟨S256x64x128, .i32⟩
  | 95 => ⟨S256x64x128, .i32⟩
  | 96 => ⟨S256x64x128, .i32⟩
  | 97 => ⟨S256x64x128x1, .i32⟩
  | 98 => ⟨S1x256x64x128x16x128, .f32⟩
  | 99 => ⟨S_, .i32⟩
  | 100 => ⟨S256x64x128, .i32⟩
  | 101 => ⟨S256x64x128, .i1⟩
  | 102 => ⟨S_, .i32⟩
  | 103 => ⟨S256x64x128, .i32⟩
  | 104 => ⟨S256x64x128, .i32⟩
  | 105 => ⟨S256x64x128, .i32⟩
  | 106 => ⟨S256x64x128x1, .i32⟩
  | 107 => ⟨S1x256x64x128x16x128, .f32⟩
  | 108 => ⟨S1x256x16x64x128, .f32⟩
  | 109 => ⟨S_, .f32⟩
  | 110 => ⟨S1x256x16x64x128, .f32⟩
  | 111 => ⟨S1x256x16x64x128, .f32⟩
  | 112 => ⟨S256x16x64x128, .f32⟩
  | 113 => ⟨S1x256x16x64x128, .f32⟩
  | 114 => ⟨S1x256x16x64x128, .f32⟩
  | 115 => ⟨S_, .f32⟩
  | 116 => ⟨S1x256x16x64, .f32⟩
  | 117 => ⟨S_, .f32⟩
  | 118 => ⟨S1x256x16x64, .f32⟩
  | 119 => ⟨S1x256x16x64, .f32⟩
  | 120 => ⟨S1x256x16x64x1, .f32⟩
  | 121 => ⟨S1x256x16x64x128, .f32⟩
  | 122 => ⟨S1x256x16x64x128, .f32⟩
  | 123 => ⟨S1x256x16x64x128, .f32⟩
  | 124 => ⟨S_, .f32⟩
  | 125 => ⟨S1x256x16x64, .f32⟩
  | 126 => ⟨S1x256x16x64x1, .f32⟩
  | 127 => ⟨S1x256x16x64x128, .f32⟩
  | _ => ⟨S1x16384x6144, .bf16⟩

abbrev hbmTy0_1 (i : Nat) : BufTy := match i % 128 with
  | 0 => ⟨S1x256x16x64x128, .f32⟩
  | 1 => ⟨S1x256x64x16x128, .f32⟩
  | 2 => ⟨S1x16384x2048, .f32⟩
  | 3 => ⟨S1x16384x2048, .bf16⟩
  | _ => ⟨S1x16384x6144, .bf16⟩

abbrev hbmTy (i : Nat) : BufTy := match i / 128 with
  | 0 => hbmTy0_0 i
  | 1 => hbmTy0_1 i
  | _ => ⟨S1x16384x6144, .bf16⟩

abbrev bufTy : (tb : Table) → Fin (tcTables nBuf tb) → BufTy
  | .hbm, ⟨i, _⟩ => hbmTy i
  | _, _ => ⟨S1x16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_c_5 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_c_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_12 : Ref sig .tc := ⟨.hbm, 90, rfl⟩
abbrev main_v65 : Ref sig .tc := ⟨.hbm, 91, rfl⟩
abbrev main_v66 : Ref sig .tc := ⟨.hbm, 92, rfl⟩
abbrev main_c_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_14 : Ref sig .tc := ⟨.hbm, 99, rfl⟩
abbrev main_v72 : Ref sig .tc := ⟨.hbm, 100, rfl⟩
abbrev main_v73 : Ref sig .tc := ⟨.hbm, 101, rfl⟩
abbrev main_c_15 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_16 : Ref sig .tc := ⟨.hbm, 115, rfl⟩
abbrev main_v85 : Ref sig .tc := ⟨.hbm, 116, rfl⟩
abbrev main_cst_17 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_18 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩

abbrev nD : Nat := 1
abbrev τ : Topo := Topo.v7x

variable {F : FTy → Type} [FloatOps F]
-- ==== Ffn1.lean ====
abbrev S16384x4096 : Shape := ⟨2, ![16384, 4096]⟩
abbrev S1x4096 : Shape := ⟨2, ![1, 4096]⟩
abbrev S4096x11008 : Shape := ⟨2, ![4096, 11008]⟩
abbrev S11008x4096 : Shape := ⟨2, ![11008, 4096]⟩
abbrev S512x4096 : Shape := ⟨2, ![512, 4096]⟩
abbrev S4096x256 : Shape := ⟨2, ![4096, 256]⟩
abbrev S256x4096 : Shape := ⟨2, ![256, 4096]⟩
abbrev S64x4096 : Shape := ⟨2, ![64, 4096]⟩
abbrev S64 : Shape := ⟨1, ![64]⟩
abbrev S64x1 : Shape := ⟨2, ![64, 1]⟩
abbrev S512x256 : Shape := ⟨2, ![512, 256]⟩

abbrev nBuf : Space → Nat
  | .hbm => 8
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S4096x11008, .bf16⟩
  | .hbm, ⟨3, _⟩ => ⟨S4096x11008, .bf16⟩
  | .hbm, ⟨4, _⟩ => ⟨S11008x4096, .bf16⟩
  | .hbm, ⟨5, _⟩ => ⟨S1x4096, .f32⟩
  | .hbm, ⟨6, _⟩ => ⟨S1x4096, .f32⟩
  | .hbm, ⟨7, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S256x4096, .bf16⟩
  | .local _ .vmem, ⟨8, _⟩ => ⟨S256x4096, .bf16⟩
  | .local _ .vmem, ⟨9, _⟩ => ⟨S1x4096, .f32⟩
  | .local _ .vmem, ⟨10, _⟩ => ⟨S1x4096, .f32⟩
  | .local _ .vmem, ⟨11, _⟩ => ⟨S512x4096, .f32⟩
  | .local _ .vmem, ⟨12, _⟩ => ⟨S512x4096, .f32⟩
  | .local _ .vmem, ⟨13, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 43], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_18 : BitVec 32 := 0#32
  let c8_i32 : BitVec 32 := 8#32
  let v27 : BitVec 32 := Scalar.addi c0_i32_18 c8_i32
  let c1_i32 : BitVec 32 := 1#32
  ⟨c0_i32_18, v27, c1_i32⟩
def k0_mult1 (k0_t1 : Fin k0_t1_loop.trips) : BitVec 32 :=
  let c0_i32_18 : BitVec 32 := 0#32
  let c1_i32 : BitVec 32 := 1#32
  let arg11 : BitVec 32 := Scf.iv c0_i32_18 c1_i32 k0_t1
  let c64_i32 : BitVec 32 := 64#32
  let v28 : BitVec 32 := Scalar.muli arg11 c64_i32
  v28
def k0_off1 (k0_t1 : Fin k0_t1_loop.trips) : Fin 2 → Nat :=
  let c0_i32_18 : BitVec 32 := 0#32
  let c1_i32 : BitVec 32 := 1#32
  let arg11 : BitVec 32 := Scf.iv c0_i32_18 c1_i32 k0_t1
  let c64_i32 : BitVec 32 := 64#32
  let v28 : BitVec 32 := Scalar.muli arg11 c64_i32
  let v29 : BitVec 32 := v28
  let v30 : Index := Scalar.indexCast v29
  let c0_20 : Index := 0#32
  ![v30.toNat, 0]
def k0_cond2 (i : grid0.Coords) : BitVec 1 :=
  let arg1 : BitVec 32 := BitVec.ofNat 32 (i 1).val
  let c42_i32 : BitVec 32 := 42#32
  let v24 : BitVec 1 := Scalar.cmpi .eq arg1 c42_i32
  let v25 : BitVec 32 := Scalar.extui v24
  let c0_i32_17 : BitVec 32 := 0#32
  let v26 : BitVec 1 := Scalar.cmpi .ne v25 c0_i32_17
  v26

@[reducible] def k0_t2_loop : Scf.Loop 32 :=
  let c0_i32_18 : BitVec 32 := 0#32
  let c8_i32 : BitVec 32 := 8#32
  let v27 : BitVec 32 := Scalar.addi c0_i32_18 c8_i32
  let c1_i32 : BitVec 32 := 1#32
  ⟨c0_i32_18, v27, c1_i32⟩
def k0_mult2 (k0_t2 : Fin k0_t2_loop.trips) : BitVec 32 :=
  let c0_i32_18 : BitVec 32 := 0#32
  let c1_i32 : BitVec 32 := 1#32
  let arg11 : BitVec 32 := Scf.iv c0_i32_18 c1_i32 k0_t2
  let c64_i32 : BitVec 32 := 64#32
  let v28 : BitVec 32 := Scalar.muli arg11 c64_i32
  v28
def k0_off2 (k0_t2 : Fin k0_t2_loop.trips) : Fin 2 → Nat :=
  let c0_i32_18 : BitVec 32 := 0#32
  let c1_i32 : BitVec 32 := 1#32
  let arg11 : BitVec 32 := Scf.iv c0_i32_18 c1_i32 k0_t2
  let c64_i32 : BitVec 32 := 64#32
  let v28 : BitVec 32 := Scalar.muli arg11 c64_i32
  let v29 : BitVec 32 := v28
  let v30 : Index := Scalar.indexCast v29
  let c0_20 : Index := 0#32
  ![v30.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Ffn1RefIdeal.lean ====
abbrev S16384x4096 : Shape := ⟨2, ![16384, 4096]⟩
abbrev S1x4096 : Shape := ⟨2, ![1, 4096]⟩
abbrev S4096x11008 : Shape := ⟨2, ![4096, 11008]⟩
abbrev S11008x4096 : Shape := ⟨2, ![11008, 4096]⟩
abbrev S_ : Shape := ⟨0, ![]⟩
abbrev S16384 : Shape := ⟨1, ![16384]⟩
abbrev S16384x1 : Shape := ⟨2, ![16384, 1]⟩
abbrev S16384x11008 : Shape := ⟨2, ![16384, 11008]⟩

abbrev nBuf : Space → Nat
  | .hbm => 57
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S4096x11008, .bf16⟩
  | .hbm, ⟨3, _⟩ => ⟨S4096x11008, .bf16⟩
  | .hbm, ⟨4, _⟩ => ⟨S11008x4096, .bf16⟩
  | .hbm, ⟨5, _⟩ => ⟨S1x4096, .f32⟩
  | .hbm, ⟨6, _⟩ => ⟨S1x4096, .f32⟩
  | .hbm, ⟨7, _⟩ => ⟨S4096x11008, .f32⟩
  | .hbm, ⟨8, _⟩ => ⟨S4096x11008, .f32⟩
  | .hbm, ⟨9, _⟩ => ⟨S11008x4096, .f32⟩
  | .hbm, ⟨10, _⟩ => ⟨S16384x4096, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x11008, .f32⟩
  | .hbm, ⟨26, _⟩ => ⟨S16384x11008, .f32⟩
  | .hbm, ⟨27, _⟩ => ⟨S16384x11008, .f32⟩
  | .hbm, ⟨28, _⟩ => ⟨S_, .f32⟩
  | .hbm, ⟨29, _⟩ => ⟨S16384x11008, .f32⟩
  | .hbm, ⟨30, _⟩ => ⟨S16384x11008, .f32⟩
  | .hbm, ⟨31, _⟩ => ⟨S_, .f32⟩
  | .hbm, ⟨32, _⟩ => ⟨S16384x11008, .f32⟩
  | .hbm, ⟨33, _⟩ => ⟨S16384x11008, .f32⟩
  | .hbm, ⟨34, _⟩ => ⟨S16384x11008, .f32⟩
  | .hbm, ⟨35, _⟩ => ⟨S16384x11008, .f32⟩
  | .hbm, ⟨36, _⟩ => ⟨S16384x11008, .f32⟩
  | .hbm, ⟨37, _⟩ => ⟨S16384x4096, .f32⟩
  | .hbm, ⟨38, _⟩ => ⟨S16384x4096, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S16384x4096, .f32⟩
  | .hbm, ⟨50, _⟩ => ⟨S16384x4096, .f32⟩
  | .hbm, ⟨51, _⟩ => ⟨S16384x4096, .f32⟩
  | .hbm, ⟨52, _⟩ => ⟨S16384x4096, .f32⟩
  | .hbm, ⟨53, _⟩ => ⟨S_, .f32⟩
  | .hbm, ⟨54, _⟩ => ⟨S16384x4096, .f32⟩
  | .hbm, ⟨55, _⟩ => ⟨S16384x4096, .f32⟩
  | .hbm, ⟨56, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Ffn2.lean ====
abbrev S16384x4096 : Shape := ⟨2, ![16384, 4096]⟩
abbrev S1x4096 : Shape := ⟨2, ![1, 4096]⟩
abbrev S4096x11008 : Shape := ⟨2, ![4096, 11008]⟩
abbrev S11008x4096 : Shape := ⟨2, ![11008, 4096]⟩
abbrev S512x4096 : Shape := ⟨2, ![512, 4096]⟩
abbrev S4096x256 : Shape := ⟨2, ![4096, 256]⟩
abbrev S256x4096 : Shape := ⟨2, ![256, 4096]⟩
abbrev S64x4096 : Shape := ⟨2, ![64, 4096]⟩
abbrev S64 : Shape := ⟨1, ![64]⟩
abbrev S64x1 : Shape := ⟨2, ![64, 1]⟩
abbrev S512x256 : Shape := ⟨2, ![512, 256]⟩

abbrev nBuf : Space → Nat
  | .hbm => 8
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S4096x11008, .bf16⟩
  | .hbm, ⟨3, _⟩ => ⟨S4096x11008, .bf16⟩
  | .hbm, ⟨4, _⟩ => ⟨S11008x4096, .bf16⟩
  | .hbm, ⟨5, _⟩ => ⟨S1x4096, .f32⟩
  | .hbm, ⟨6, _⟩ => ⟨S1x4096, .f32⟩
  | .hbm, ⟨7, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S256x4096, .bf16⟩
  | .local _ .vmem, ⟨8, _⟩ => ⟨S256x4096, .bf16⟩
  | .local _ .vmem, ⟨9, _⟩ => ⟨S1x4096, .f32⟩
  | .local _ .vmem, ⟨10, _⟩ => ⟨S1x4096, .f32⟩
  | .local _ .vmem, ⟨11, _⟩ => ⟨S512x4096, .f32⟩
  | .local _ .vmem, ⟨12, _⟩ => ⟨S512x4096, .f32⟩
  | .local _ .vmem, ⟨13, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 43], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_18 : BitVec 32 := 0#32
  let c8_i32 : BitVec 32 := 8#32
  let v27 : BitVec 32 := Scalar.addi c0_i32_18 c8_i32
  let c1_i32 : BitVec 32 := 1#32
  ⟨c0_i32_18, v27, c1_i32⟩
def k0_mult1 (k0_t1 : Fin k0_t1_loop.trips) : BitVec 32 :=
  let c0_i32_18 : BitVec 32 := 0#32
  let c1_i32 : BitVec 32 := 1#32
  let arg11 : BitVec 32 := Scf.iv c0_i32_18 c1_i32 k0_t1
  let c64_i32 : BitVec 32 := 64#32
  let v28 : BitVec 32 := Scalar.muli arg11 c64_i32
  v28
def k0_off1 (k0_t1 : Fin k0_t1_loop.trips) : Fin 2 → Nat :=
  let c0_i32_18 : BitVec 32 := 0#32
  let c1_i32 : BitVec 32 := 1#32
  let arg11 : BitVec 32 := Scf.iv c0_i32_18 c1_i32 k0_t1
  let c64_i32 : BitVec 32 := 64#32
  let v28 : BitVec 32 := Scalar.muli arg11 c64_i32
  let v29 : BitVec 32 := v28
  let v30 : Index := Scalar.indexCast v29
  let c0_20 : Index := 0#32
  ![v30.toNat, 0]
def k0_cond2 (i : grid0.Coords) : BitVec 1 :=
  let arg1 : BitVec 32 := BitVec.ofNat 32 (i 1).val
  let c42_i32 : BitVec 32 := 42#32
  let v24 : BitVec 1 := Scalar.cmpi .eq arg1 c42_i32
  let v25 : BitVec 32 := Scalar.extui v24
  let c0_i32_17 : BitVec 32 := 0#32
  let v26 : BitVec 1 := Scalar.cmpi .ne v25 c0_i32_17
  v26

@[reducible] def k0_t2_loop : Scf.Loop 32 :=
  let c0_i32_18 : BitVec 32 := 0#32
  let c8_i32 : BitVec 32 := 8#32
  let v27 : BitVec 32 := Scalar.addi c0_i32_18 c8_i32
  let c1_i32 : BitVec 32 := 1#32
  ⟨c0_i32_18, v27, c1_i32⟩
def k0_mult2 (k0_t2 : Fin k0_t2_loop.trips) : BitVec 32 :=
  let c0_i32_18 : BitVec 32 := 0#32
  let c1_i32 : BitVec 32 := 1#32
  let arg11 : BitVec 32 := Scf.iv c0_i32_18 c1_i32 k0_t2
  let c64_i32 : BitVec 32 := 64#32
  let v28 : BitVec 32 := Scalar.muli arg11 c64_i32
  v28
def k0_off2 (k0_t2 : Fin k0_t2_loop.trips) : Fin 2 → Nat :=
  let c0_i32_18 : BitVec 32 := 0#32
  let c1_i32 : BitVec 32 := 1#32
  let arg11 : BitVec 32 := Scf.iv c0_i32_18 c1_i32 k0_t2
  let c64_i32 : BitVec 32 := 64#32
  let v28 : BitVec 32 := Scalar.muli arg11 c64_i32
  let v29 : BitVec 32 := v28
  let v30 : Index := Scalar.indexCast v29
  let c0_20 : Index := 0#32
  ![v30.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Ffn2RefIdeal.lean ====
abbrev S16384x4096 : Shape := ⟨2, ![16384, 4096]⟩
abbrev S1x4096 : Shape := ⟨2, ![1, 4096]⟩
abbrev S4096x11008 : Shape := ⟨2, ![4096, 11008]⟩
abbrev S11008x4096 : Shape := ⟨2, ![11008, 4096]⟩
abbrev S_ : Shape := ⟨0, ![]⟩
abbrev S16384 : Shape := ⟨1, ![16384]⟩
abbrev S16384x1 : Shape := ⟨2, ![16384, 1]⟩
abbrev S16384x11008 : Shape := ⟨2, ![16384, 11008]⟩

abbrev nBuf : Space → Nat
  | .hbm => 72
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S4096x11008, .bf16⟩
  | .hbm, ⟨3, _⟩ => ⟨S4096x11008, .bf16⟩
  | .hbm, ⟨4, _⟩ => ⟨S11008x4096, .bf16⟩
  | .hbm, ⟨5, _⟩ => ⟨S1x4096, .f32⟩
  | .hbm, ⟨6, _⟩ => ⟨S1x4096, .f32⟩
  | .hbm, ⟨7, _⟩ => ⟨S4096x11008, .f32⟩
  | .hbm, ⟨8, _⟩ => ⟨S4096x11008, .f32⟩
  | .hbm, ⟨9, _⟩ => ⟨S11008x4096, .f32⟩
  | .hbm, ⟨10, _⟩ => ⟨S16384x4096, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x11008, .f32⟩
  | .hbm, ⟨26, _⟩ => ⟨S16384x11008, .f32⟩
  | .hbm, ⟨27, _⟩ => ⟨S16384x11008, .f32⟩
  | .hbm, ⟨28, _⟩ => ⟨S_, .f32⟩
  | .hbm, ⟨29, _⟩ => ⟨S16384x11008, .f32⟩
  | .hbm, ⟨30, _⟩ => ⟨S16384x11008, .f32⟩
  | .hbm, ⟨31, _⟩ => ⟨S_, .f32⟩
  | .hbm, ⟨32, _⟩ => ⟨S16384x11008, .f32⟩
  | .hbm, ⟨33, _⟩ => ⟨S16384x11008, .f32⟩
  | .hbm, ⟨34, _⟩ => ⟨S16384x11008, .f32⟩
  | .hbm, ⟨35, _⟩ => ⟨S16384x11008, .f32⟩
  | .hbm, ⟨36, _⟩ => ⟨S16384x11008, .f32⟩
  | .hbm, ⟨37, _⟩ => ⟨S16384x4096, .f32⟩
  | .hbm, ⟨38, _⟩ => ⟨S16384x4096, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S16384x4096, .f32⟩
  | .hbm, ⟨50, _⟩ => ⟨S16384x4096, .f32⟩
  | .hbm, ⟨51, _⟩ => ⟨S16384x4096, .f32⟩
  | .hbm, ⟨52, _⟩ => ⟨S16384x4096, .f32⟩
  | .hbm, ⟨53, _⟩ => ⟨S_, .f32⟩
  | .hbm, ⟨54, _⟩ => ⟨S16384x4096, .f32⟩
  | .hbm, ⟨55, _⟩ => ⟨S16384x4096, .f32⟩
  | .hbm, ⟨56, _⟩ => ⟨S16384x4096, .f32⟩
  | .hbm, ⟨57, _⟩ => ⟨S16384x4096, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S16384x1, .f32⟩
  | .hbm, ⟨68, _⟩ => ⟨S16384x4096, .f32⟩
  | .hbm, ⟨69, _⟩ => ⟨S16384x4096, .f32⟩
  | .hbm, ⟨70, _⟩ => ⟨S16384x4096, .f32⟩
  | .hbm, ⟨71, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩

abbrev nD : Nat := 1
abbrev τ : Topo := Topo.v7x

variable {F : FTy → Type} [FloatOps F]
-- ==== Merge.lean ====
abbrev S16384x4096 : Shape := ⟨2, ![16384, 4096]⟩
abbrev S16384x2048 : Shape := ⟨2, ![16384, 2048]⟩
abbrev S16384x1024 : Shape := ⟨2, ![16384, 1024]⟩
abbrev S4096x20480 : Shape := ⟨2, ![4096, 20480]⟩
abbrev S3x4096 : Shape := ⟨2, ![3, 4096]⟩
abbrev S2048x4096 : Shape := ⟨2, ![2048, 4096]⟩
abbrev S1024x4096 : Shape := ⟨2, ![1024, 4096]⟩
abbrev S512x4096 : Shape := ⟨2, ![512, 4096]⟩
abbrev S512x2048 : Shape := ⟨2, ![512, 2048]⟩
abbrev S512x1024 : Shape := ⟨2, ![512, 1024]⟩
abbrev S4096x512 : Shape := ⟨2, ![4096, 512]⟩
abbrev S3x512 : Shape := ⟨2, ![3, 512]⟩
abbrev S2048x512 : Shape := ⟨2, ![2048, 512]⟩
abbrev S1024x512 : Shape := ⟨2, ![1024, 512]⟩
abbrev S512x512 : Shape := ⟨2, ![512, 512]⟩
abbrev S1x512 : Shape := ⟨2, ![1, 512]⟩

abbrev nBuf : Space → Nat
  | .hbm => 10
  | .vmem => 24
  | .smem => 0
  | _ => 0

abbrev bufTy : (tb : Table) → Fin (tcTables nBuf tb) → BufTy
  | .hbm, ⟨0, _⟩ => ⟨S16384x4096, .bf16⟩
  | .hbm, ⟨1, _⟩ => ⟨S16384x2048, .bf16⟩
  | .hbm, ⟨2, _⟩ => ⟨S16384x1024, .bf16⟩
  | .hbm, ⟨3, _⟩ => ⟨S16384x1024, .bf16⟩
  | .hbm, ⟨4, _⟩ => ⟨S4096x20480, .bf16⟩
  | .hbm, ⟨5, _⟩ => ⟨S3x4096, .f32⟩
  | .hbm, ⟨6, _⟩ => ⟨S2048x4096, .bf16⟩
  | .hbm, ⟨7, _⟩ => ⟨S1024x4096, .bf16⟩
  | .hbm, ⟨8, _⟩ => ⟨S1024x4096, .bf16⟩
  | .hbm, ⟨9, _⟩ => ⟨S16384x4096, .bf16⟩
  | .local _ .vmem, ⟨0, _⟩ => ⟨S512x4096, .bf16⟩
  | .local _ .vmem, ⟨1, _⟩ => ⟨S512x4096, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S4096x512, .bf16⟩
  | .local _ .vmem, ⟨9, _⟩ => ⟨S4096x512, .bf16⟩
  | .local _ .vmem, ⟨10, _⟩ => ⟨S4096x512, .bf16⟩
  | .local _ .vmem, ⟨11, _⟩ => ⟨S4096x512, .bf16⟩
  | .local _ .vmem, ⟨12, _⟩ => ⟨S4096x512, .bf16⟩
  | .local _ .vmem, ⟨13, _⟩ => ⟨S4096x512, .bf16⟩
  | .local _ .vmem, ⟨14, _⟩ => ⟨S3x512, .f32⟩
  | .local _ .vmem, ⟨15, _⟩ => ⟨S3x512, .f32⟩
  | .local _ .vmem, ⟨16, _⟩ => ⟨S2048x512, .bf16⟩
  | .local _ .vmem, ⟨17, _⟩ => ⟨S2048x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S512x512, .bf16⟩
  | .local _ .vmem, ⟨23, _⟩ => ⟨S512x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4096x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4096x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MergeRefIdeal.lean ====
abbrev S16384x4096 : Shape := ⟨2, ![16384, 4096]⟩
abbrev S16384x2048 : Shape := ⟨2, ![16384, 2048]⟩
abbrev S16384x1024 : Shape := ⟨2, ![16384, 1024]⟩
abbrev S4096x20480 : Shape := ⟨2, ![4096, 20480]⟩
abbrev S3x4096 : Shape := ⟨2, ![3, 4096]⟩
abbrev S2048x4096 : Shape := ⟨2, ![2048, 4096]⟩
abbrev S1024x4096 : Shape := ⟨2, ![1024, 4096]⟩
abbrev S16384x20480 : Shape := ⟨2, ![16384, 20480]⟩
abbrev S16384x12288 : Shape := ⟨2, ![16384, 12288]⟩
abbrev S16384x3x4096 : Shape := ⟨3, ![16384, 3, 4096]⟩
abbrev S1x3x4096 : Shape := ⟨3, ![1, 3, 4096]⟩
abbrev S_ : Shape := ⟨0, ![]⟩
abbrev S16384x1x4096 : Shape := ⟨3, ![16384, 1, 4096]⟩

abbrev nBuf : Space → Nat
  | .hbm => 46
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x2048, .bf16⟩
  | .hbm, ⟨2, _⟩ => ⟨S16384x1024, .bf16⟩
  | .hbm, ⟨3, _⟩ => ⟨S16384x1024, .bf16⟩
  | .hbm, ⟨4, _⟩ => ⟨S4096x20480, .bf16⟩
  | .hbm, ⟨5, _⟩ => ⟨S3x4096, .f32⟩
  | .hbm, ⟨6, _⟩ => ⟨S2048x4096, .bf16⟩
  | .hbm, ⟨7, _⟩ => ⟨S1024x4096, .bf16⟩
  | .hbm, ⟨8, _⟩ => ⟨S1024x4096, .bf16⟩
  | .hbm, ⟨9, _⟩ => ⟨S16384x4096, .f32⟩
  | .hbm, ⟨10, _⟩ => ⟨S16384x2048, .f32⟩
  | .hbm, ⟨11, _⟩ => ⟨S16384x1024, .f32⟩
  | .hbm, ⟨12, _⟩ => ⟨S16384x1024, .f32⟩
  | .hbm, ⟨13, _⟩ => ⟨S4096x20480, .f32⟩
  | .hbm, ⟨14, _⟩ => ⟨S2048x4096, .f32⟩
  | .hbm, ⟨15, _⟩ => ⟨S1024x4096, .f32⟩
  | .hbm, ⟨16, _⟩ => ⟨S1024x4096, .f32⟩
  | .hbm, ⟨17, _⟩ => ⟨S16384x20480, .f32⟩
  | .hbm, ⟨18, _⟩ => ⟨S16384x12288, .f32⟩
  | .hbm, ⟨19, _⟩ => ⟨S16384x3x4096, .f32⟩
  | .hbm, ⟨20, _⟩ => ⟨S1x3x4096, .f32⟩
  | .hbm, ⟨21, _⟩ => ⟨S16384x3x4096, .f32⟩
  | .hbm, ⟨22, _⟩ => ⟨S16384x3x4096, .f32⟩
  | .hbm, ⟨23, _⟩ => ⟨S16384x3x4096, .f32⟩
  | .hbm, ⟨24, _⟩ => ⟨S16384x3x4096, .f32⟩
  | .hbm, ⟨25, _⟩ => ⟨S_, .f32⟩
  | .hbm, ⟨26, _⟩ => ⟨S16384x3x4096, .f32⟩
  | .hbm, ⟨27, _⟩ => ⟨S16384x3x4096, .f32⟩
  | .hbm, ⟨28, _⟩ => ⟨S_, .f32⟩
  | .hbm, ⟨29, _⟩ => ⟨S16384x3x4096, .f32⟩
  | .hbm, ⟨30, _⟩ => ⟨S16384x3x4096, .f32⟩
  | .hbm, ⟨31, _⟩ => ⟨S16384x4096, .f32⟩
  | .hbm, ⟨32, _⟩ => ⟨S16384x4096, .f32⟩
  | .hbm, ⟨33, _⟩ => ⟨S16384x4096, .f32⟩
  | .hbm, ⟨34, _⟩ => ⟨S16384x1x4096, .f32⟩
  | .hbm, ⟨35, _⟩ => ⟨S16384x4096, .f32⟩
  | .hbm, ⟨36, _⟩ => ⟨S16384x4096, .f32⟩
  | .hbm, ⟨37, _⟩ => ⟨S16384x1x4096, .f32⟩
  | .hbm, ⟨38, _⟩ => ⟨S16384x4096, .f32⟩
  | .hbm, ⟨39, _⟩ => ⟨S16384x4096, .f32⟩
  | .hbm, ⟨40, _⟩ => ⟨S16384x4096, .f32⟩
  | .hbm, ⟨41, _⟩ => ⟨S16384x1x4096, .f32⟩
  | .hbm, ⟨42, _⟩ => ⟨S16384x4096, .f32⟩
  | .hbm, ⟨43, _⟩ => ⟨S16384x4096, .f32⟩
  | .hbm, ⟨44, _⟩ => ⟨S16384x4096, .f32⟩
  | .hbm, ⟨45, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Memkv.lean ====
abbrev S256x4096 : Shape := ⟨2, ![256, 4096]⟩
abbrev S1x4096 : Shape := ⟨2, ![1, 4096]⟩
abbrev S4096x2048 : Shape := ⟨2, ![4096, 2048]⟩
abbrev S256x2048 : Shape := ⟨2, ![256, 2048]⟩
abbrev S4096x512 : Shape := ⟨2, ![4096, 512]⟩
abbrev S256x512 : Shape := ⟨2, ![256, 512]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S256x4096, .f32⟩
  | .hbm, ⟨1, _⟩ => ⟨S1x4096, .f32⟩
  | .hbm, ⟨2, _⟩ => ⟨S4096x2048, .bf16⟩
  | .hbm, ⟨3, _⟩ => ⟨S256x2048, .bf16⟩
  | .local _ .vmem, ⟨0, _⟩ => ⟨S256x4096, .f32⟩
  | .local _ .vmem, ⟨1, _⟩ => ⟨S1x4096, .f32⟩
  | .local _ .vmem, ⟨2, _⟩ => ⟨S4096x512, .bf16⟩
  | .local _ .vmem, ⟨3, _⟩ => ⟨S4096x512, .bf16⟩
  | .local _ .vmem, ⟨4, _⟩ => ⟨S256x512, .bf16⟩
  | .local _ .vmem, ⟨5, _⟩ => ⟨S256x512, .bf16⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemkvRefIdeal.lean ====
abbrev S256x4096 : Shape := ⟨2, ![256, 4096]⟩
abbrev S1x4096 : Shape := ⟨2, ![1, 4096]⟩
abbrev S4096x2048 : Shape := ⟨2, ![4096, 2048]⟩
abbrev S_ : Shape := ⟨0, ![]⟩
abbrev S256 : Shape := ⟨1, ![256]⟩
abbrev S256x1 : Shape := ⟨2, ![256, 1]⟩
abbrev S256x2048 : Shape := ⟨2, ![256, 2048]⟩

abbrev nBuf : Space → Nat
  | .hbm => 21
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S1x4096, .f32⟩
  | .hbm, ⟨2, _⟩ => ⟨S4096x2048, .bf16⟩
  | .hbm, ⟨3, _⟩ => ⟨S256x4096, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x4096, .f32⟩
  | .hbm, ⟨15, _⟩ => ⟨S256x4096, .f32⟩
  | .hbm, ⟨16, _⟩ => ⟨S256x4096, .f32⟩
  | .hbm, ⟨17, _⟩ => ⟨S256x4096, .f32⟩
  | .hbm, ⟨18, _⟩ => ⟨S4096x2048, .f32⟩
  | .hbm, ⟨19, _⟩ => ⟨S256x2048, .f32⟩
  | .hbm, ⟨20, _⟩ => ⟨S256x2048, .bf16⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Memattn.lean ====
abbrev S1x16384x1024 : Shape := ⟨3, ![1, 16384, 1024]⟩
abbrev S1x256x2048 : Shape := ⟨3, ![1, 256, 2048]⟩
abbrev S1x512x1024 : Shape := ⟨3, ![1, 512, 1024]⟩
abbrev S1x512x256 : Shape := ⟨3, ![1, 512, 256]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S1x16384x1024, .bf16⟩
  | .hbm, ⟨1, _⟩ => ⟨S1x256x2048, .bf16⟩
  | .hbm, ⟨2, _⟩ => ⟨S1x16384x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x256x2048, .bf16⟩
  | .local _ .vmem, ⟨3, _⟩ => ⟨S1x512x1024, .bf16⟩
  | .local _ .vmem, ⟨4, _⟩ => ⟨S1x512x1024, .bf16⟩
  | _, _ => ⟨S1x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemattnRefIdeal.lean ====
abbrev S1x16384x1024 : Shape := ⟨3, ![1, 16384, 1024]⟩
abbrev S1x256x2048 : Shape := ⟨3, ![1, 256, 2048]⟩
abbrev S1x256x2x4x256 : Shape := ⟨5, ![1, 256, 2, 4, 256]⟩
abbrev S1x256x1x4x256 : Shape := ⟨5, ![1, 256, 1, 4, 256]⟩
abbrev S1x256x4x256 : Shape := ⟨4, ![1, 256, 4, 256]⟩
abbrev S1x16384x4x256 : Shape := ⟨4, ![1, 16384, 4, 256]⟩
abbrev S1x4x16384x256 : Shape := ⟨4, ![1, 4, 16384, 256]⟩
abbrev S_ : Shape := ⟨0, ![]⟩
abbrev S1x4x16384 : Shape := ⟨3, ![1, 4, 16384]⟩
abbrev S1x4x16384x1 : Shape := ⟨4, ![1, 4, 16384, 1]⟩
abbrev S1x4x256x16384 : Shape := ⟨4, ![1, 4, 256, 16384]⟩

abbrev nBuf : Space → Nat
  | .hbm => 32
  | .vmem => 0
  | .smem => 0
  | _ => 0

abbrev bufTy : (tb : Table) → Fin (tcTables nBuf tb) → BufTy
  | .hbm, ⟨0, _⟩ => ⟨S1x16384x1024, .bf16⟩
  | .hbm, ⟨1, _⟩ => ⟨S1x256x2048, .bf16⟩
  | .hbm, ⟨2, _⟩ => ⟨S1x256x2048, .f32⟩
  | .hbm, ⟨3, _⟩ => ⟨S1x256x2x4x256, .f32⟩
  | .hbm, ⟨4, _⟩ => ⟨S1x256x1x4x256, .f32⟩
  | .hbm, ⟨5, _⟩ => ⟨S1x256x4x256, .f32⟩
  | .hbm, ⟨6, _⟩ => ⟨S1x256x1x4x256, .f32⟩
  | .hbm, ⟨7, _⟩ => ⟨S1x256x4x256, .f32⟩
  | .hbm, ⟨8, _⟩ => ⟨S1x16384x1024, .f32⟩
  | .hbm, ⟨9, _⟩ => ⟨S1x16384x4x256, .f32⟩
  | .hbm, ⟨10, _⟩ => ⟨S1x4x16384x256, .f32⟩
  | .hbm, ⟨11, _⟩ => ⟨S_, .f32⟩
  | .hbm, ⟨12, _⟩ => ⟨S1x4x16384x256, .f32⟩
  | .hbm, ⟨13, _⟩ => ⟨S1x4x16384x256, .f32⟩
  | .hbm, ⟨14, _⟩ => ⟨S_, .f32⟩
  | .hbm, ⟨15, _⟩ => ⟨S1x4x16384, .f32⟩
  | .hbm, ⟨16, _⟩ => ⟨S_, .f32⟩
  | .hbm, ⟨17, _⟩ => ⟨S1x4x16384, .f32⟩
  | .hbm, ⟨18, _⟩ => ⟨S1x4x16384, .f32⟩
  | .hbm, ⟨19, _⟩ => ⟨S1x4x16384x1, .f32⟩
  | .hbm, ⟨20, _⟩ => ⟨S1x4x16384x256, .f32⟩
  | .hbm, ⟨21, _⟩ => ⟨S1x4x16384x256, .f32⟩
  | .hbm, ⟨22, _⟩ => ⟨S1x4x16384x256, .f32⟩
  | .hbm, ⟨23, _⟩ => ⟨S_, .f32⟩
  | .hbm, ⟨24, _⟩ => ⟨S1x4x16384, .f32⟩
  | .hbm, ⟨25, _⟩ => ⟨S1x4x16384x1, .f32⟩
  | .hbm, ⟨26, _⟩ => ⟨S1x4x16384x256, .f32⟩
  | .hbm, ⟨27, _⟩ => ⟨S1x4x16384x256, .f32⟩
  | .hbm, ⟨28, _⟩ => ⟨S1x4x256x16384, .f32⟩
  | .hbm, ⟨29, _⟩ => ⟨S1x16384x4x256, .f32⟩
  | .hbm, ⟨30, _⟩ => ⟨S1x16384x1024, .f32⟩
  | .hbm, ⟨31, _⟩ => ⟨S1x16384x1024, .bf16⟩
  | _, _ => ⟨S1x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Wo.lean ====
abbrev S16384x4096 : Shape := ⟨2, ![16384, 4096]⟩
abbrev S4096x4096 : Shape := ⟨2, ![4096, 4096]⟩
abbrev S1x4096 : Shape := ⟨2, ![1, 4096]⟩
abbrev S512x4096 : Shape := ⟨2, ![512, 4096]⟩
abbrev S512x512 : Shape := ⟨2, ![512, 512]⟩
abbrev S64x4096 : Shape := ⟨2, ![64, 4096]⟩
abbrev S64 : Shape := ⟨1, ![64]⟩
abbrev S64x1 : Shape := ⟨2, ![64, 1]⟩

abbrev nBuf : Space → Nat
  | .hbm => 5
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096x4096, .bf16⟩
  | .hbm, ⟨3, _⟩ => ⟨S1x4096, .f32⟩
  | .hbm, ⟨4, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S512x512, .bf16⟩
  | .local _ .vmem, ⟨3, _⟩ => ⟨S512x512, .bf16⟩
  | .local _ .vmem, ⟨4, _⟩ => ⟨S512x4096, .bf16⟩
  | .local _ .vmem, ⟨5, _⟩ => ⟨S512x4096, .bf16⟩
  | .local _ .vmem, ⟨6, _⟩ => ⟨S1x4096, .f32⟩
  | .local _ .vmem, ⟨7, _⟩ => ⟨S512x4096, .f32⟩
  | .local _ .vmem, ⟨8, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_9 : BitVec 32 := 0#32
  let c8_i32 : BitVec 32 := 8#32
  let v13 : BitVec 32 := Scalar.addi c0_i32_9 c8_i32
  let c1_i32 : BitVec 32 := 1#32
  ⟨c0_i32_9, v13, c1_i32⟩
def k0_mult1 (k0_t1 : Fin k0_t1_loop.trips) : BitVec 32 :=
  let c0_i32_9 : BitVec 32 := 0#32
  let c1_i32 : BitVec 32 := 1#32
  let arg7 : BitVec 32 := Scf.iv c0_i32_9 c1_i32 k0_t1
  let c64_i32 : BitVec 32 := 64#32
  let v14 : BitVec 32 := Scalar.muli arg7 c64_i32
  v14
def k0_off1 (k0_t1 : Fin k0_t1_loop.trips) : Fin 2 → Nat :=
  let c0_i32_9 : BitVec 32 := 0#32
  let c1_i32 : BitVec 32 := 1#32
  let arg7 : BitVec 32 := Scf.iv c0_i32_9 c1_i32 k0_t1
  let c64_i32 : BitVec 32 := 64#32
  let v14 : BitVec 32 := Scalar.muli arg7 c64_i32
  let v15 : BitVec 32 := v14
  let v17 : Index := Scalar.indexCast v15
  let c0_12 : Index := 0#32
  ![v17.toNat, 0]
def k0_cond2 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_8 : BitVec 32 := 0#32
  let v12 : BitVec 1 := Scalar.cmpi .ne v11 c0_i32_8
  v12

@[reducible] def k0_t2_loop : Scf.Loop 32 :=
  let c0_i32_9 : BitVec 32 := 0#32
  let c8_i32 : BitVec 32 := 8#32
  let v13 : BitVec 32 := Scalar.addi c0_i32_9 c8_i32
  let c1_i32 : BitVec 32 := 1#32
  ⟨c0_i32_9, v13, c1_i32⟩
def k0_mult2 (k0_t2 : Fin k0_t2_loop.trips) : BitVec 32 :=
  let c0_i32_9 : BitVec 32 := 0#32
  let c1_i32 : BitVec 32 := 1#32
  let arg7 : BitVec 32 := Scf.iv c0_i32_9 c1_i32 k0_t2
  let c64_i32 : BitVec 32 := 64#32
  let v14 : BitVec 32 := Scalar.muli arg7 c64_i32
  v14
def k0_off2 (k0_t2 : Fin k0_t2_loop.trips) : Fin 2 → Nat :=
  let c0_i32_9 : BitVec 32 := 0#32
  let c1_i32 : BitVec 32 := 1#32
  let arg7 : BitVec 32 := Scf.iv c0_i32_9 c1_i32 k0_t2
  let c64_i32 : BitVec 32 := 64#32
  let v14 : BitVec 32 := Scalar.muli arg7 c64_i32
  let v15 : BitVec 32 := v14
  let v16 : Index := Scalar.indexCast v15
  let c0_11 : Index := 0#32
  ![v16.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== WoRefIdeal.lean ====
abbrev S16384x4096 : Shape := ⟨2, ![16384, 4096]⟩
abbrev S4096x4096 : Shape := ⟨2, ![4096, 4096]⟩
abbrev S1x4096 : Shape := ⟨2, ![1, 4096]⟩
abbrev S_ : Shape := ⟨0, ![]⟩
abbrev S16384 : Shape := ⟨1, ![16384]⟩
abbrev S16384x1 : Shape := ⟨2, ![16384, 1]⟩

abbrev nBuf : Space → Nat
  | .hbm => 23
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096x4096, .bf16⟩
  | .hbm, ⟨3, _⟩ => ⟨S1x4096, .f32⟩
  | .hbm, ⟨4, _⟩ => ⟨S16384x4096, .f32⟩
  | .hbm, ⟨5, _⟩ => ⟨S4096x4096, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Inproj.lean ====
abbrev S16384x4096 : Shape := ⟨2, ![16384, 4096]⟩
abbrev S1x4096 : Shape := ⟨2, ![1, 4096]⟩
abbrev S4096x20480 : Shape := ⟨2, ![4096, 20480]⟩
abbrev S16384x6144 : Shape := ⟨2, ![16384, 6144]⟩
abbrev S16384x1024 : Shape := ⟨2, ![16384, 1024]⟩
abbrev S512x4096 : Shape := ⟨2, ![512, 4096]⟩
abbrev S4096x512 : Shape := ⟨2, ![4096, 512]⟩
abbrev S512x512 : Shape := ⟨2, ![512, 512]⟩
abbrev S64x4096 : Shape := ⟨2, ![64, 4096]⟩
abbrev S64 : Shape := ⟨1, ![64]⟩
abbrev S64x1 : Shape := ⟨2, ![64, 1]⟩

abbrev nBuf : Space → Nat
  | .hbm => 7
  | .vmem => 13
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S4096x20480, .bf16⟩
  | .hbm, ⟨3, _⟩ => ⟨S16384x4096, .bf16⟩
  | .hbm, ⟨4, _⟩ => ⟨S16384x6144, .bf16⟩
  | .hbm, ⟨5, _⟩ => ⟨S16384x1024, .f32⟩
  | .hbm, ⟨6, _⟩ => ⟨S16384x1024, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x512, .bf16⟩
  | .local _ .vmem, ⟨4, _⟩ => ⟨S4096x512, .bf16⟩
  | .local _ .vmem, ⟨5, _⟩ => ⟨S512x4096, .bf16⟩
  | .local _ .vmem, ⟨6, _⟩ => ⟨S512x4096, .bf16⟩
  | .local _ .vmem, ⟨7, _⟩ => ⟨S512x512, .bf16⟩
  | .local _ .vmem, ⟨8, _⟩ => ⟨S512x512, .bf16⟩
  | .local _ .vmem, ⟨9, _⟩ => ⟨S512x512, .f32⟩
  | .local _ .vmem, ⟨10, _⟩ => ⟨S512x512, .f32⟩
  | .local _ .vmem, ⟨11, _⟩ => ⟨S512x512, .bf16⟩
  | .local _ .vmem, ⟨12, _⟩ => ⟨S512x512, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_9 : BitVec 32 := 0#32
  let c8_i32 : BitVec 32 := 8#32
  let v18 : BitVec 32 := Scalar.addi c0_i32_9 c8_i32
  let c1_i32 : BitVec 32 := 1#32
  ⟨c0_i32_9, v18, c1_i32⟩
def k0_mult1 (k0_t1 : Fin k0_t1_loop.trips) : BitVec 32 :=
  let c0_i32_9 : BitVec 32 := 0#32
  let c1_i32 : BitVec 32 := 1#32
  let arg9 : BitVec 32 := Scf.iv c0_i32_9 c1_i32 k0_t1
  let c64_i32 : BitVec 32 := 64#32
  let v19 : BitVec 32 := Scalar.muli arg9 c64_i32
  v19
def k0_off1 (k0_t1 : Fin k0_t1_loop.trips) : Fin 2 → Nat :=
  let c0_i32_9 : BitVec 32 := 0#32
  let c1_i32 : BitVec 32 := 1#32
  let arg9 : BitVec 32 := Scf.iv c0_i32_9 c1_i32 k0_t1
  let c64_i32 : BitVec 32 := 64#32
  let v19 : BitVec 32 := Scalar.muli arg9 c64_i32
  let v20 : BitVec 32 := v19
  let v21 : Index := Scalar.indexCast v20
  let c0_11 : Index := 0#32
  ![v21.toNat, 0]
def k0_cond2 (i : grid0.Coords) : BitVec 1 :=
  let arg1 : BitVec 32 := BitVec.ofNat 32 (i 1).val
  let c12_i32 : BitVec 32 := 12#32
  let v7 : BitVec 1 := Scalar.cmpi .slt arg1 c12_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c12_i32_5 : BitVec 32 := 12#32
  let v10 : BitVec 1 := Scalar.cmpi .sge arg1 c12_i32_5
  let c14_i32 : BitVec 32 := 14#32
  let v11 : BitVec 1 := Scalar.cmpi .slt arg1 c14_i32
  let v12 : BitVec 1 := Scalar.andi v10 v11
  let v13 : BitVec 32 := Scalar.extui v12
  let c0_i32_6 : BitVec 32 := 0#32
  let v14 : BitVec 1 := Scalar.cmpi .ne v13 c0_i32_6
  v14

def k0_cond4 (i : grid0.Coords) : BitVec 1 :=
  let arg1 : BitVec 32 := BitVec.ofNat 32 (i 1).val
  let c14_i32_7 : BitVec 32 := 14#32
  let v15 : BitVec 1 := Scalar.cmpi .sge arg1 c14_i32_7
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.minsi arg1 c11_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c2_i32 : BitVec 32 := 2#32
  let v1 : BitVec 32 := Scalar.subi v0 c2_i32
  let c0_i32 : BitVec 32 := 0#32
  let c1_i32 : BitVec 32 := 1#32
  let v2 : BitVec 32 := Scalar.maxsi c0_i32 v1
  let v3 : BitVec 32 := Scalar.minsi c1_i32 v2
  let c0_i32_0 : BitVec 32 := 0#32
  ![arg0.toNat, v3.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InprojRefIdeal.lean ====
abbrev S16384x4096 : Shape := ⟨2, ![16384, 4096]⟩
abbrev S1x4096 : Shape := ⟨2, ![1, 4096]⟩
abbrev S4096x20480 : Shape := ⟨2, ![4096, 20480]⟩
abbrev S_ : Shape := ⟨0, ![]⟩
abbrev S16384 : Shape := ⟨1, ![16384]⟩
abbrev S16384x1 : Shape := ⟨2, ![16384, 1]⟩
abbrev S16384x20480 : Shape := ⟨2, ![16384, 20480]⟩
abbrev S16384x6144 : Shape := ⟨2, ![16384, 6144]⟩
abbrev S16384x1024 : Shape := ⟨2, ![16384, 1024]⟩
abbrev S16384x12288 : Shape := ⟨2, ![16384, 12288]⟩

abbrev nBuf : Space → Nat
  | .hbm => 27
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S4096x20480, .bf16⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S4096x20480, .f32⟩
  | .hbm, ⟨19, _⟩ => ⟨S16384x20480, .f32⟩
  | .hbm, ⟨20, _⟩ => ⟨S16384x6144, .f32⟩
  | .hbm, ⟨21, _⟩ => ⟨S16384x1024, .f32⟩
  | .hbm, ⟨22, _⟩ => ⟨S16384x1024, .f32⟩
  | .hbm, ⟨23, _⟩ => ⟨S16384x12288, .f32⟩
  | .hbm, ⟨24, _⟩ => ⟨S16384x4096, .bf16⟩
  | .hbm, ⟨25, _⟩ => ⟨S16384x6144, .bf16⟩
  | .hbm, ⟨26, _⟩ => ⟨S16384x1024, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Proof.NattenRows.lean ====
module

public import proofs.«01_k».proof.Proof.Gen.NattenIdeal.Value
public import Idealize.ShloMosaic.Lib.Pipeline.ValueKit
public import Idealize.ShloMosaic.Lib.StableHlo.ReadAt

@[expose] public section

set_option maxRecDepth 16384

noncomputable section

namespace Cert.NattenIdeal.Value

open Cert.NattenIdeal Cert.NattenIdeal.Gen Idealize.ShloMosaic Idealize.ShloMosaic.TcCoe Idealize.SL.Sem

/-- The host operations that lay the table out by query column, pad and mask it. -/
abbrev opsA : List (HloOp τ sig (Elt Ideal)) := List.flatten [hostOps0, hostOps0_1, hostOps0_2, hostOps0_3, hostOps0_4, hostOps0_5]
/-- The host operations that cut the rows of each query out of it and stack them. -/
abbrev opsB : List (HloOp τ sig (Elt Ideal)) := List.flatten [hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54]

variable (σ : Valuation τ sig (Elt Ideal))

theorem cat3 (p0 p1 p2 : S1x16x512x1024.Idx → EReal) (hh) (tt : Fin 3) (h : Fin 16) (q : Fin 512) (k : Fin 1024) :
    concatenate S3x16x512x1024 0 [⟨S1x16x512x1024, p0⟩, ⟨S1x16x512x1024, p1⟩, ⟨S1x16x512x1024, p2⟩] hh (ix4 tt h q k)
      = (![p0, p1, p2] tt) (ix4 0 h q k) := by
  pointwise
  fin_vals tt with ht
  all_goals simp only [ht, Nat.reduceSub, Nat.reduceLT, ↓reduceDIte]
  all_goals (obtain ⟨n, hn⟩ := tt; simp only at ht; subst ht; rfl)

theorem cat8 (p0 p1 p2 p3 p4 p5 p6 p7 : S16x1x64x1024.Idx → EReal) (hh) (h : Fin 16) (ri : Fin 8) (c : Fin 64) (k : Fin 1024) :
    concatenate S16x8x64x1024 1 [⟨S16x1x64x1024, p0⟩, ⟨S16x1x64x1024, p1⟩, ⟨S16x1x64x1024, p2⟩, ⟨S16x1x64x1024, p3⟩,
      ⟨S16x1x64x1024, p4⟩, ⟨S16x1x64x1024, p5⟩, ⟨S16x1x64x1024, p6⟩, ⟨S16x1x64x1024, p7⟩] hh (ix4 h ri c k)
      = (![p0, p1, p2, p3, p4, p5, p6, p7] ri) (ix4 h 0 c k) := by
  pointwise
  fin_vals ri with ht
  all_goals simp only [ht, Nat.reduceSub, Nat.reduceLT, ↓reduceDIte]
  all_goals (obtain ⟨n, hn⟩ := ri; simp only at ht; subst ht; rfl)

theorem cat3_0 (p0 p1 p2 : S1x16x512x1024.Idx → EReal) (hh) (h : Fin 16) (q : Fin 512) (k : Fin 1024) :
    concatenate S3x16x512x1024 0 [⟨S1x16x512x1024, p0⟩, ⟨S1x16x512x1024, p1⟩, ⟨S1x16x512x1024, p2⟩] hh (ix4 0 h q k)
      = p0 (ix4 0 h q k) := cat3 p0 p1 p2 hh 0 h q k

theorem cat3_1 (p0 p1 p2 : S1x16x512x1024.Idx → EReal) (hh) (h : Fin 16) (q : Fin 512) (k : Fin 1024) :
    concatenate S3x16x512x1024 0 [⟨S1x16x512x1024, p0⟩, ⟨S1x16x512x1024, p1⟩, ⟨S1x16x512x1024, p2⟩] hh (ix4 1 h q k)
      = p1 (ix4 0 h q k) := cat3 p0 p1 p2 hh 1 h q k

theorem cat3_2 (p0 p1 p2 : S1x16x512x1024.Idx → EReal) (hh) (h : Fin 16) (q : Fin 512) (k : Fin 1024) :
    concatenate S3x16x512x1024 0 [⟨S1x16x512x1024, p0⟩, ⟨S1x16x512x1024, p1⟩, ⟨S1x16x512x1024, p2⟩] hh (ix4 2 h q k)
      = p2 (ix4 0 h q k) := cat3 p0 p1 p2 hh 2 h q k

theorem cat8_0 (p0 p1 p2 p3 p4 p5 p6 p7 : S16x1x64x1024.Idx → EReal) (hh) (h : Fin 16) (c : Fin 64) (k : Fin 1024) :
    concatenate S16x8x64x1024 1 [⟨S16x1x64x1024, p0⟩, ⟨S16x1x64x1024, p1⟩, ⟨S16x1x64x1024, p2⟩, ⟨S16x1x64x1024, p3⟩,
      ⟨S16x1x64x1024, p4⟩, ⟨S16x1x64x1024, p5⟩, ⟨S16x1x64x1024, p6⟩, ⟨S16x1x64x1024, p7⟩] hh (ix4 h 0 c k)
      = p0 (ix4 h 0 c k) := cat8 p0 p1 p2 p3 p4 p5 p6 p7 hh h 0 c k

theorem cat8_1 (p0 p1 p2 p3 p4 p5 p6 p7 : S16x1x64x1024.Idx → EReal) (hh) (h : Fin 16) (c : Fin 64) (k : Fin 1024) :
    concatenate S16x8x64x1024 1 [⟨S16x1x64x1024, p0⟩, ⟨S16x1x64x1024, p1⟩, ⟨S16x1x64x1024, p2⟩, ⟨S16x1x64x1024, p3⟩,
      ⟨S16x1x64x1024, p4⟩, ⟨S16x1x64x1024, p5⟩, ⟨S16x1x64x1024, p6⟩, ⟨S16x1x64x1024, p7⟩] hh (ix4 h 1 c k)
      = p1 (ix4 h 0 c k) := cat8 p0 p1 p2 p3 p4 p5 p6 p7 hh h 1 c k

theorem cat8_2 (p0 p1 p2 p3 p4 p5 p6 p7 : S16x1x64x1024.Idx → EReal) (hh) (h : Fin 16) (c : Fin 64) (k : Fin 1024) :
    concatenate S16x8x64x1024 1 [⟨S16x1x64x1024, p0⟩, ⟨S16x1x64x1024, p1⟩, ⟨S16x1x64x1024, p2⟩, ⟨S16x1x64x1024, p3⟩,
      ⟨S16x1x64x1024, p4⟩, ⟨S16x1x64x1024, p5⟩, ⟨S16x1x64x1024, p6⟩, ⟨S16x1x64x1024, p7⟩] hh (ix4 h 2 c k)
      = p2 (ix4 h 0 c k) := cat8 p0 p1 p2 p3 p4 p5 p6 p7 hh h 2 c k

theorem cat8_3 (p0 p1 p2 p3 p4 p5 p6 p7 : S16x1x64x1024.Idx → EReal) (hh) (h : Fin 16) (c : Fin 64) (k : Fin 1024) :
    concatenate S16x8x64x1024 1 [⟨S16x1x64x1024, p0⟩, ⟨S16x1x64x1024, p1⟩, ⟨S16x1x64x1024, p2⟩, ⟨S16x1x64x1024, p3⟩,
      ⟨S16x1x64x1024, p4⟩, ⟨S16x1x64x1024, p5⟩, ⟨S16x1x64x1024, p6⟩, ⟨S16x1x64x1024, p7⟩] hh (ix4 h 3 c k)
      = p3 (ix4 h 0 c k) := cat8 p0 p1 p2 p3 p4 p5 p6 p7 hh h 3 c k

theorem cat8_4 (p0 p1 p2 p3 p4 p5 p6 p7 : S16x1x64x1024.Idx → EReal) (hh) (h : Fin 16) (c : Fin 64) (k : Fin 1024) :
    concatenate S16x8x64x1024 1 [⟨S16x1x64x1024, p0⟩, ⟨S16x1x64x1024, p1⟩, ⟨S16x1x64x1024, p2⟩, ⟨S16x1x64x1024, p3⟩,
      ⟨S16x1x64x1024, p4⟩, ⟨S16x1x64x1024, p5⟩, ⟨S16x1x64x1024, p6⟩, ⟨S16x1x64x1024, p7⟩] hh (ix4 h 4 c k)
      = p4 (ix4 h 0 c k) := cat8 p0 p1 p2 p3 p4 p5 p6 p7 hh h 4 c k

theorem cat8_5 (p0 p1 p2 p3 p4 p5 p6 p7 : S16x1x64x1024.Idx → EReal) (hh) (h : Fin 16) (c : Fin 64) (k : Fin 1024) :
    concatenate S16x8x64x1024 1 [⟨S16x1x64x1024, p0⟩, ⟨S16x1x64x1024, p1⟩, ⟨S16x1x64x1024, p2⟩, ⟨S16x1x64x1024, p3⟩,
      ⟨S16x1x64x1024, p4⟩, ⟨S16x1x64x1024, p5⟩, ⟨S16x1x64x1024, p6⟩, ⟨S16x1x64x1024, p7⟩] hh (ix4 h 5 c k)
      = p5 (ix4 h 0 c k) := cat8 p0 p1 p2 p3 p4 p5 p6 p7 hh h 5 c k

theorem cat8_6 (p0 p1 p2 p3 p4 p5 p6 p7 : S16x1x64x1024.Idx → EReal) (hh) (h : Fin 16) (c : Fin 64) (k : Fin 1024) :
    concatenate S16x8x64x1024 1 [⟨S16x1x64x1024, p0⟩, ⟨S16x1x64x1024, p1⟩, ⟨S16x1x64x1024, p2⟩, ⟨S16x1x64x1024, p3⟩,
      ⟨S16x1x64x1024, p4⟩, ⟨S16x1x64x1024, p5⟩, ⟨S16x1x64x1024, p6⟩, ⟨S16x1x64x1024, p7⟩] hh (ix4 h 6 c k)
      = p6 (ix4 h 0 c k) := cat8 p0 p1 p2 p3 p4 p5 p6 p7 hh h 6 c k

theorem cat8_7 (p0 p1 p2 p3 p4 p5 p6 p7 : S16x1x64x1024.Idx → EReal) (hh) (h : Fin 16) (c : Fin 64) (k : Fin 1024) :
    concatenate S16x8x64x1024 1 [⟨S16x1x64x1024, p0⟩, ⟨S16x1x64x1024, p1⟩, ⟨S16x1x64x1024, p2⟩, ⟨S16x1x64x1024, p3⟩,
      ⟨S16x1x64x1024, p4⟩, ⟨S16x1x64x1024, p5⟩, ⟨S16x1x64x1024, p6⟩, ⟨S16x1x64x1024, p7⟩] hh (ix4 h 7 c k)
      = p7 (ix4 h 0 c k) := cat8 p0 p1 p2 p3 p4 p5 p6 p7 hh h 7 c k

theorem lay (x : S16x512x1024.Idx → EReal) (h : Fin 16) (q : Fin 512) (k : Fin 1024) :
    broadcastInDim S1x16x512x1024 ![1, 2, 3] bcast_S16x512x1024_S1x16x512x1024_1_2_3 x (ix4 0 h q k) = x (ix3 h q k) := by
  pointwise

theorem lay1 (x : S16x64x1024.Idx → EReal) (h : Fin 16) (c : Fin 64) (k : Fin 1024) :
    broadcastInDim S16x1x64x1024 ![0, 2, 3] bcast_S16x64x1024_S16x1x64x1024_0_2_3 x (ix4 h 0 c k) = x (ix3 h c k) := by
  pointwise

theorem rows (x : S16x8x64x1024.Idx → EReal) (h : Fin 16) (ri : Fin 8) (c : Fin 64) (k : Fin 1024) :
    shapeCast ⟨3, ![16, 512, 1024]⟩ x shapeCasts_S16x8x64x1024_S16x512x1024 (ix3 h ⟨ri.val * 64 + c.val, by omega⟩ k) = x (ix4 h ri c k) := by
  pointwise

theorem block (x : S16x64x31x64.Idx → EReal) (mk : S16.Idx → BitVec 1) (o : ℕ) (hs) (ho : o ≤ 15) (h : Fin 16) (c : Fin 64) (kr : Fin 16) (kc : Fin 64) :
    shapeCast ⟨3, ![16, 64, 1024]⟩ (select (broadcastInDim S16x64x16x64 ![0, 1, 2, 3] bcast_S1x1x16x1_S16x64x16x64_0_1_2_3
         (broadcastInDim S1x1x16x1 ![2] bcast_S16_S1x1x16x1_2 mk))
         (extractStridedSlice S16x64x16x64 ![0, 0, o, 0] x hs)
         (broadcastInDim S16x64x16x64 ![] bcast_S_S16x64x16x64 (id (constant (F := Ideal) S_ .f32 0xFF800000#32))))
       shapeCasts_S16x64x16x64_S16x64x1024 (ix3 h c ⟨kr.val * 64 + kc.val, by omega⟩)
     = Scalar.select (mk (ix1 kr)) (x (ix4 h c ⟨o + kr.val, by omega⟩ kc)) (Ideal.ofBits .f32 0xFF800000#32) := by
  pointwise
  rfl

/-- The rows each query row may see, in the order in which the operations take them. -/
abbrev rowMasks : Fin 24 → S16.Idx → BitVec 1 := ![σ main_c_0, σ main_c_1, σ main_c_2, σ main_c_3, σ main_c_4, σ main_c_5, σ main_c_6, σ main_c_7, σ main_c_8, σ main_c_9, σ main_c_10, σ main_c_11, σ main_c_12, σ main_c_13, σ main_c_14, σ main_c_15, σ main_c_16, σ main_c_17, σ main_c_18, σ main_c_19, σ main_c_20, σ main_c_21, σ main_c_22, σ main_c_23]

set_option maxHeartbeats 8000000 in
/-- The stacked tables at an entry, over the table laid out by query column. -/
theorem tableB (tt : Fin 3) (h : Fin 16) (ri : Fin 8) (c : Fin 64) (kr : Fin 16) (kc : Fin 64) :
    (StableHlo.after opsB σ main_v266 : S3x16x512x1024.Idx → EReal)
      (ix4 tt h ⟨ri.val * 64 + c.val, by omega⟩ ⟨kr.val * 64 + kc.val, by omega⟩)
    = Scalar.select (rowMasks σ ⟨tt.val * 8 + ri.val, by omega⟩ (ix1 kr))
        ((σ main_v136 : S16x64x31x64.Idx → EReal)
          (ix4 h c ⟨15 - (tt.val * 4 + ri.val) + kr.val, by omega⟩ kc))
        (Ideal.ofBits .f32 0xFF800000#32) := by
  simp (disch := decide) only [StableHlo.readAfter, StableHlo.readUpto, ↓ StableHlo.readPieces, StableHlo.nullary_result', StableHlo.unary_result', StableHlo.binary_result', StableHlo.ternary_result', StableHlo.reshape_result', StableHlo.nary_result', Matrix.cons_val]
  simp -implicitDefEqProofs only [StableHlo.TRef.toBuf, StableHlo.TRef.ofBuf, cast_cast, cast_eq]
  clean_types
  obtain rfl | rfl | rfl : tt = 0 ∨ tt = 1 ∨ tt = 2 := by omega
  · refine (cat3_0 _ _ _ _ h _ _).trans ?_
    refine (lay _ h _ _).trans ?_
    refine (rows _ h ri c _).trans ?_
    obtain rfl | rfl | rfl | rfl | rfl | rfl | rfl | rfl : ri = 0 ∨ ri = 1 ∨ ri = 2 ∨ ri = 3 ∨ ri = 4 ∨ ri = 5 ∨ ri = 6 ∨ ri = 7 := by omega
    · exact (cat8_0 _ _ _ _ _ _ _ _ _ h c _).trans ((lay1 _ h c _).trans (block _ _ 15 _ (by omega) h c kr kc))
    · exact (cat8_1 _ _ _ _ _ _ _ _ _ h c _).trans ((lay1 _ h c _).trans (block _ _ 14 _ (by omega) h c kr kc))
    · exact (cat8_2 _ _ _ _ _ _ _ _ _ h c _).trans ((lay1 _ h c _).trans (block _ _ 13 _ (by omega) h c kr kc))
    · exact (cat8_3 _ _ _ _ _ _ _ _ _ h c _).trans ((lay1 _ h c _).trans (block _ _ 12 _ (by omega) h c kr kc))
    · exact (cat8_4 _ _ _ _ _ _ _ _ _ h c _).trans ((lay1 _ h c _).trans (block _ _ 11 _ (by omega) h c kr kc))
    · exact (cat8_5 _ _ _ _ _ _ _ _ _ h c _).trans ((lay1 _ h c _).trans (block _ _ 10 _ (by omega) h c kr kc))
    · exact (cat8_6 _ _ _ _ _ _ _ _ _ h c _).trans ((lay1 _ h c _).trans (block _ _ 9 _ (by omega) h c kr kc))
    · exact (cat8_7 _ _ _ _ _ _ _ _ _ h c _).trans ((lay1 _ h c _).trans (block _ _ 8 _ (by omega) h c kr kc))
  · refine (cat3_1 _ _ _ _ h _ _).trans ?_
    refine (lay _ h _ _).trans ?_
    refine (rows _ h ri c _).trans ?_
    obtain rfl | rfl | rfl | rfl | rfl | rfl | rfl | rfl : ri = 0 ∨ ri = 1 ∨ ri = 2 ∨ ri = 3 ∨ ri = 4 ∨ ri = 5 ∨ ri = 6 ∨ ri = 7 := by omega
    · exact (cat8_0 _ _ _ _ _ _ _ _ _ h c _).trans ((lay1 _ h c _).trans (block _ _ 11 _ (by omega) h c kr kc))
    · exact (cat8_1 _ _ _ _ _ _ _ _ _ h c _).trans ((lay1 _ h c _).trans (block _ _ 10 _ (by omega) h c kr kc))
    · exact (cat8_2 _ _ _ _ _ _ _ _ _ h c _).trans ((lay1 _ h c _).trans (block _ _ 9 _ (by omega) h c kr kc))
    · exact (cat8_3 _ _ _ _ _ _ _ _ _ h c _).trans ((lay1 _ h c _).trans (block _ _ 8 _ (by omega) h c kr kc))
    · exact (cat8_4 _ _ _ _ _ _ _ _ _ h c _).trans ((lay1 _ h c _).trans (block _ _ 7 _ (by omega) h c kr kc))
    · exact (cat8_5 _ _ _ _ _ _ _ _ _ h c _).trans ((lay1 _ h c _).trans (block _ _ 6 _ (by omega) h c kr kc))
    · exact (cat8_6 _ _ _ _ _ _ _ _ _ h c _).trans ((lay1 _ h c _).trans (block _ _ 5 _ (by omega) h c kr kc))
    · exact (cat8_7 _ _ _ _ _ _ _ _ _ h c _).trans ((lay1 _ h c _).trans (block _ _ 4 _ (by omega) h c kr kc))
  · refine (cat3_2 _ _ _ _ h _ _).trans ?_
    refine (lay _ h _ _).trans ?_
    refine (rows _ h ri c _).trans ?_
    obtain rfl | rfl | rfl | rfl | rfl | rfl | rfl | rfl : ri = 0 ∨ ri = 1 ∨ ri = 2 ∨ ri = 3 ∨ ri = 4 ∨ ri = 5 ∨ ri = 6 ∨ ri = 7 := by omega
    · exact (cat8_0 _ _ _ _ _ _ _ _ _ h c _).trans ((lay1 _ h c _).trans (block _ _ 7 _ (by omega) h c kr kc))
    · exact (cat8_1 _ _ _ _ _ _ _ _ _ h c _).trans ((lay1 _ h c _).trans (block _ _ 6 _ (by omega) h c kr kc))
    · exact (cat8_2 _ _ _ _ _ _ _ _ _ h c _).trans ((lay1 _ h c _).trans (block _ _ 5 _ (by omega) h c kr kc))
    · exact (cat8_3 _ _ _ _ _ _ _ _ _ h c _).trans ((lay1 _ h c _).trans (block _ _ 4 _ (by omega) h c kr kc))
    · exact (cat8_4 _ _ _ _ _ _ _ _ _ h c _).trans ((lay1 _ h c _).trans (block _ _ 3 _ (by omega) h c kr kc))
    · exact (cat8_5 _ _ _ _ _ _ _ _ _ h c _).trans ((lay1 _ h c _).trans (block _ _ 2 _ (by omega) h c kr kc))
    · exact (cat8_6 _ _ _ _ _ _ _ _ _ h c _).trans ((lay1 _ h c _).trans (block _ _ 1 _ (by omega) h c kr kc))
    · exact (cat8_7 _ _ _ _ _ _ _ _ _ h c _).trans ((lay1 _ h c _).trans (block _ _ 0 _ (by omega) h c kr kc))

end Cert.NattenIdeal.Value

end
-- ==== Proof.Softmax.lean ====
module

public import Idealize.ShloMosaic.Lib.Pipeline.ValueKit

public section

/-!
# Softmax over the extended reals

A kernel sums the weighted values first and divides by the normalizer once; the textbook formula divides every weight.
The two agree when the normalizer is a positive real number, which it is as soon as no score is `⊤` and some score is
not `⊥`: the greatest score then contributes `exp 0 = 1` and every other one a number in `[0, 1]`.
-/

namespace Softmax

open Idealize.ShloMosaic

/-- The word of negative infinity. -/
theorem ofBits_bot : Ideal.ofBits .f32 0xFF800000#32 = ⊥ := by
  simp [Ideal.ofBits, Ideal.ieee]

/-- The exponential of a number that is not `⊤` is a nonnegative real number. -/
theorem exp_real {x : EReal} (h : x ≠ ⊤) : ∃ r : ℝ, 0 ≤ r ∧ Ideal.exp x = r := by
  induction x with
  | bot => exact ⟨0, le_rfl, rfl⟩
  | top => exact absurd rfl h
  | coe r => exact ⟨Real.exp r, (Real.exp_pos r).le, rfl⟩

/-- The exponential of a real number is a positive real number. -/
theorem exp_pos {x : EReal} (h : x ≠ ⊤) (h' : x ≠ ⊥) : ∃ r : ℝ, 0 < r ∧ Ideal.exp x = r := by
  lift x to ℝ using ⟨h, h'⟩
  exact ⟨Real.exp x, Real.exp_pos x, rfl⟩

/-- A finite sum of real numbers is the real number. -/
theorem coe_sum {ι : Type*} (s : Finset ι) (f : ι → ℝ) : (∑ k ∈ s, (f k : EReal)) = ((∑ k ∈ s, f k : ℝ) : EReal) := by
  classical
  induction s using Finset.induction_on with
  | empty => simp
  | insert a s h ih => rw [Finset.sum_insert h, Finset.sum_insert h, ih, EReal.coe_add]

/-- A positive real factor distributes over a sum. -/
theorem add_mul_coe (x y : EReal) {a : ℝ} (ha : 0 < a) : (x + y) * (a : EReal) = x * (a : EReal) + y * (a : EReal) := by
  induction x with
  | bot => simp [EReal.bot_mul_coe_of_pos ha]
  | top =>
    induction y with
    | bot => simp [EReal.bot_mul_coe_of_pos ha]
    | top => simp [EReal.top_mul_coe_of_pos ha]
    | coe y => rw [EReal.top_add_coe, EReal.top_mul_coe_of_pos ha, ← EReal.coe_mul, EReal.top_add_coe]
  | coe x =>
    induction y with
    | bot => simp [EReal.bot_mul_coe_of_pos ha]
    | top => rw [EReal.coe_add_top, EReal.top_mul_coe_of_pos ha, ← EReal.coe_mul, EReal.coe_add_top]
    | coe y => norm_cast; ring

/-- A positive real factor distributes over a finite sum. -/
theorem sum_mul_coe {ι : Type*} (s : Finset ι) (f : ι → EReal) {a : ℝ} (ha : 0 < a) :
    (∑ k ∈ s, f k) * (a : EReal) = ∑ k ∈ s, f k * (a : EReal) := by
  classical
  induction s using Finset.induction_on with
  | empty => simp
  | insert b s h ih => rw [Finset.sum_insert h, Finset.sum_insert h, add_mul_coe _ _ ha, ih]

/-- Division by a positive real number is multiplication by its inverse. -/
theorem div_coe (x : EReal) {l : ℝ} (hl : 0 < l) : Ideal.div x (l : EReal) = x * ((l⁻¹ : ℝ) : EReal) := by
  rw [Ideal.div, if_neg (by exact_mod_cast hl.ne'), EReal.coe_inv]

/-- Dividing the weighted sum by a positive real normalizer is dividing every weight. -/
theorem div_sum {ι : Type*} [Fintype ι] (p v : ι → EReal) {l : ℝ} (hl : 0 < l) :
    Ideal.div (∑ k, p k * v k) (l : EReal) = ∑ k, v k * Ideal.div (p k) (l : EReal) := by
  rw [div_coe _ hl, sum_mul_coe _ _ (inv_pos.2 hl)]
  refine Finset.sum_congr rfl fun k _ => ?_
  rw [div_coe _ hl, mul_comm (p k) (v k), mul_assoc]

/-- The greatest of finitely many scores is a real number when no score is `⊤` and some score is not `⊥`. -/
theorem max_real {ι : Type*} [Fintype ι] (s : ι → EReal) (h : ∀ k, s k ≠ ⊤) (k₀ : ι) (h₀ : s k₀ ≠ ⊥) :
    ∃ M : ℝ, Finset.univ.fold max ⊥ s = M ∧ (∃ k, s k = M) ∧ ∀ k, s k ≤ M := by
  have hle : ∀ k, s k ≤ Finset.univ.fold max ⊥ s := fun k =>
    (Finset.le_fold_max _).2 (Or.inr ⟨k, Finset.mem_univ k, le_rfl⟩)
  have hbot : Finset.univ.fold max ⊥ s ≠ ⊥ := fun e => h₀ (le_bot_iff.1 (e ▸ hle k₀))
  obtain ⟨k, hk⟩ : ∃ k, s k = Finset.univ.fold max ⊥ s := by
    rcases (Finset.le_fold_max (Finset.univ.fold max ⊥ s)).1 le_rfl with h1 | ⟨k, -, h1⟩
    · exact absurd (le_bot_iff.1 h1) hbot
    · exact ⟨k, le_antisymm (hle k) h1⟩
  have htop : Finset.univ.fold max ⊥ s ≠ ⊤ := hk ▸ h k
  lift Finset.univ.fold max ⊥ s to ℝ using ⟨htop, hbot⟩ with M
  exact ⟨M, rfl, ⟨k, hk⟩, hle⟩

/-- The normalizer of a softmax is a positive real number. -/
theorem sum_exp {ι : Type*} [Fintype ι] (s : ι → EReal) (h : ∀ k, s k ≠ ⊤) (k₀ : ι) (h₀ : s k₀ ≠ ⊥) :
    ∃ l : ℝ, 0 < l ∧ ∑ k, Ideal.exp (s k - Finset.univ.fold max ⊥ s) = l := by
  obtain ⟨M, hM, ⟨k₁, hk₁⟩, hle⟩ := max_real s h k₀ h₀
  rw [hM]
  have hd : ∀ k, s k - (M : EReal) ≠ ⊤ := fun k e => by
    have h1 := hle k
    generalize s k = x at *
    induction x with
    | bot => simp at e
    | top => simp at h1
    | coe r => exact absurd e (by norm_cast; exact EReal.coe_ne_top _)
  choose r hr hre using fun k => exp_real (hd k)
  refine ⟨∑ k, r k, ?_, ?_⟩
  · refine Finset.sum_pos' (fun k _ => hr k) ⟨k₁, Finset.mem_univ _, ?_⟩
    obtain ⟨q, hq, hqe⟩ := exp_pos (x := s k₁ - (M : EReal)) (hd k₁) (by rw [hk₁]; norm_cast; exact EReal.coe_ne_bot _)
    have : (r k₁ : EReal) = q := by rw [← hre, hqe]
    rw [EReal.coe_injective this]; exact hq
  · rw [← coe_sum]; exact Finset.sum_congr rfl fun k _ => hre k

/-- The two softmax-weighted sums agree: no score is `⊤` and some score is not `⊥`. -/
theorem weighted {ι : Type*} [Fintype ι] (s v : ι → EReal) (h : ∀ k, s k ≠ ⊤) (k₀ : ι) (h₀ : s k₀ ≠ ⊥) :
    Ideal.div (∑ k, Ideal.exp (s k - Finset.univ.fold max ⊥ s) * v k) (∑ k, Ideal.exp (s k - Finset.univ.fold max ⊥ s))
      = ∑ k, v k * Ideal.div (Ideal.exp (s k - Finset.univ.fold max ⊥ s)) (∑ k, Ideal.exp (s k - Finset.univ.fold max ⊥ s)) := by
  obtain ⟨l, hl, e⟩ := sum_exp s h k₀ h₀
  rw [e, div_sum _ _ hl]

end Softmax

end
-- ==== Proof.NattenTable.lean ====
module

public import proofs.«01_k».proof.Proof.Gen.NattenIdeal.Value
public import Idealize.ShloMosaic.Lib.Pipeline.ValueKit
public import proofs.«01_k».proof.Proof.NattenRows
public import proofs.«01_k».proof.Proof.Softmax

@[expose] public section

set_option maxRecDepth 16384

noncomputable section

namespace Cert.NattenIdeal.Value

open Cert.NattenIdeal Cert.NattenIdeal.Gen Idealize.ShloMosaic Idealize.ShloMosaic.TcCoe Idealize.SL.Sem

set_option maxHeartbeats 4000000 in
/-- Sixteen columns laid side by side. -/
theorem cat16 (p0 p1 p2 p3 p4 p5 p6 p7 p8 p9 p10 p11 p12 p13 p14 p15 : S16x1x15x64.Idx → EReal) (hh) (G : Fin 16 → EReal) (h : Fin 16) (i : Fin 15) (k : Fin 64)
    (h0 : p0 (ix4 h 0 i k) = G 0)
    (h1 : p1 (ix4 h 0 i k) = G 1)
    (h2 : p2 (ix4 h 0 i k) = G 2)
    (h3 : p3 (ix4 h 0 i k) = G 3)
    (h4 : p4 (ix4 h 0 i k) = G 4)
    (h5 : p5 (ix4 h 0 i k) = G 5)
    (h6 : p6 (ix4 h 0 i k) = G 6)
    (h7 : p7 (ix4 h 0 i k) = G 7)
    (h8 : p8 (ix4 h 0 i k) = G 8)
    (h9 : p9 (ix4 h 0 i k) = G 9)
    (h10 : p10 (ix4 h 0 i k) = G 10)
    (h11 : p11 (ix4 h 0 i k) = G 11)
    (h12 : p12 (ix4 h 0 i k) = G 12)
    (h13 : p13 (ix4 h 0 i k) = G 13)
    (h14 : p14 (ix4 h 0 i k) = G 14)
    (h15 : p15 (ix4 h 0 i k) = G 15) (b : Fin 16) :
    concatenate S16x16x15x64 1 [⟨S16x1x15x64, p0⟩, ⟨S16x1x15x64, p1⟩, ⟨S16x1x15x64, p2⟩, ⟨S16x1x15x64, p3⟩, ⟨S16x1x15x64, p4⟩, ⟨S16x1x15x64, p5⟩, ⟨S16x1x15x64, p6⟩, ⟨S16x1x15x64, p7⟩, ⟨S16x1x15x64, p8⟩, ⟨S16x1x15x64, p9⟩, ⟨S16x1x15x64, p10⟩, ⟨S16x1x15x64, p11⟩, ⟨S16x1x15x64, p12⟩, ⟨S16x1x15x64, p13⟩, ⟨S16x1x15x64, p14⟩, ⟨S16x1x15x64, p15⟩] hh (ix4 h b i k) = G b := by
  have hl : (List.ofFn fun n : Fin 16 => (⟨S16x1x15x64, (![p0, p1, p2, p3, p4, p5, p6, p7, p8, p9, p10, p11, p12, p13, p14, p15] : Fin 16 → S16x1x15x64.Idx → EReal) n⟩ : (s : Shape) × (s.Idx → EReal)))
      = [⟨S16x1x15x64, p0⟩, ⟨S16x1x15x64, p1⟩, ⟨S16x1x15x64, p2⟩, ⟨S16x1x15x64, p3⟩, ⟨S16x1x15x64, p4⟩, ⟨S16x1x15x64, p5⟩, ⟨S16x1x15x64, p6⟩, ⟨S16x1x15x64, p7⟩, ⟨S16x1x15x64, p8⟩, ⟨S16x1x15x64, p9⟩, ⟨S16x1x15x64, p10⟩, ⟨S16x1x15x64, p11⟩, ⟨S16x1x15x64, p12⟩, ⟨S16x1x15x64, p13⟩, ⟨S16x1x15x64, p14⟩, ⟨S16x1x15x64, p15⟩] := by
    rfl
  refine (congrFun (StableHlo.concatenate_congr _ _ hl.symm hh (by rw [hl]; exact hh)) _).trans ((concatenate_ofFn_unit_apply (t := S16x16x15x64) (s₁ := S16x1x15x64) 1
    (![p0, p1, p2, p3, p4, p5, p6, p7, p8, p9, p10, p11, p12, p13, p14, p15] : Fin 16 → S16x1x15x64.Idx → EReal) (by rw [hl]; exact hh) rfl rfl (ix4 h b i k) b rfl (ix4 h 0 i k) ?_).trans ?_)
  · intro b hb
    fin_cases b
    · rfl
    · exact absurd rfl hb
    · rfl
    · rfl
  obtain rfl | rfl | rfl | rfl | rfl | rfl | rfl | rfl | rfl | rfl | rfl | rfl | rfl | rfl | rfl | rfl : b = 0 ∨ b = 1 ∨ b = 2 ∨ b = 3 ∨ b = 4 ∨ b = 5 ∨ b = 6 ∨ b = 7 ∨ b = 8 ∨ b = 9 ∨ b = 10 ∨ b = 11 ∨ b = 12 ∨ b = 13 ∨ b = 14 ∨ b = 15 := by omega
  · exact h0
  · exact h1
  · exact h2
  · exact h3
  · exact h4
  · exact h5
  · exact h6
  · exact h7
  · exact h8
  · exact h9
  · exact h10
  · exact h11
  · exact h12
  · exact h13
  · exact h14
  · exact h15

theorem cat4 (p0 p1 p2 p3 : S16x16x15x64.Idx → EReal) (hh) (G : Fin 64 → EReal) (h : Fin 16) (i : Fin 15) (k : Fin 64)
    (h0 : ∀ b : Fin 16, p0 (ix4 h b i k) = G ⟨b, by omega⟩) (h1 : ∀ b : Fin 16, p1 (ix4 h b i k) = G ⟨16 + b, by omega⟩)
    (h2 : ∀ b : Fin 16, p2 (ix4 h b i k) = G ⟨32 + b, by omega⟩) (h3 : ∀ b : Fin 16, p3 (ix4 h b i k) = G ⟨48 + b, by omega⟩) (c : Fin 64) :
    concatenate S16x64x15x64 1 [⟨S16x16x15x64, p0⟩, ⟨S16x16x15x64, p1⟩, ⟨S16x16x15x64, p2⟩, ⟨S16x16x15x64, p3⟩] hh (ix4 h c i k) = G c := by
  pointwise
  have hc := c.isLt
  by_cases a1 : c.val < 16
  · rw [dif_pos a1, h0]
  rw [dif_neg a1]
  by_cases a2 : c.val - 16 < 16
  · rw [dif_pos a2, h1]; exact congrArg G (Fin.ext (by simp only; omega))
  rw [dif_neg a2]
  by_cases a3 : c.val - 16 - 16 < 16
  · rw [dif_pos a3, h2]; exact congrArg G (Fin.ext (by simp only; omega))
  rw [dif_neg a3]
  exact (h3 ⟨c.val - 16 - 16 - 16, by omega⟩).trans (congrArg G (Fin.ext (by simp only; omega)))

theorem col (x : S16x15x127.Idx → EReal) (o : ℕ) (hs) (ho : o ≤ 63) (h : Fin 16) (i : Fin 15) (k : Fin 64) :
    broadcastInDim S16x1x15x64 ![0, 2, 3] bcast_S16x15x64_S16x1x15x64_0_2_3 (extractStridedSlice S16x15x64 ![0, 0, o] x hs) (ix4 h 0 i k)
      = x (ix3 h i ⟨o + k.val, by omega⟩) := by
  pointwise

theorem wide (x : S16x15x31.Idx → EReal) (v : S_.Idx → EReal) (h : Fin 16) (i : Fin 15) (j : Fin 127) :
    pad S16x15x127 ![0, 0, 48] ![0, 0, 48] ![0, 0, 0] x v pads_S16x15x31_S16x15x127_000_000_48480 h_S_ (ix3 h i j)
      = if hj : 48 ≤ j.val ∧ j.val < 79 then x (ix3 h i ⟨j.val - 48, by omega⟩) else v (Shape.Idx.first h_S_) := by
  pointwise
  have e : (48 ≤ j.val ∧ j.val - 48 < 31) ↔ (48 ≤ j.val ∧ j.val < 79) := by omega
  simp only [e]

theorem masked (y : S16x64x15x64.Idx → EReal) (mk : S64x64.Idx → BitVec 1) (h : Fin 16) (c : Fin 64) (i : Fin 31) (k : Fin 64) :
    pad S16x64x31x64 ![0, 0, 8, 0] ![0, 0, 8, 0] ![0, 0, 0, 0]
      (select (broadcastInDim S16x64x15x64 ![0, 1, 2, 3] bcast_S1x64x1x64_S16x64x15x64_0_1_2_3 (broadcastInDim S1x64x1x64 ![1, 3] bcast_S64x64_S1x64x1x64_1_3 mk))
        y (broadcastInDim S16x64x15x64 ![] bcast_S_S16x64x15x64 (id (constant (F := Ideal) S_ .f32 0xFF800000#32))))
      (id (constant (F := Ideal) S_ .f32 0xFF800000#32)) pads_S16x64x15x64_S16x64x31x64_000_000_880_000 h_S_ (ix4 h c i k)
      = if hi : 8 ≤ i.val ∧ i.val < 23 then Scalar.select (mk (ix2 c k)) (y (ix4 h c ⟨i.val - 8, by omega⟩ k)) (Ideal.ofBits .f32 0xFF800000#32)
        else Ideal.ofBits .f32 0xFF800000#32 := by
  pointwise
  have e : (8 ≤ i.val ∧ i.val - 8 < 15) ↔ (8 ≤ i.val ∧ i.val < 23) := by omega
  simp only [e]
  try rfl

variable (σ : Valuation τ sig (Elt Ideal))

/-- The first row and the first column a query may see. -/
def rowStart (r : ℕ) : ℕ := min (r - 4) 8
def colStart (c : ℕ) : ℕ := min (c - 8) 48

theorem lit0_at : ∀ c k : Fin 64, lit0 (S64x64.rowMajor (ix2 c k))
    = if colStart c.val ≤ k.val ∧ k.val < colStart c.val + 16 then 1 else 0 := by decide +kernel

set_option maxHeartbeats 8000000 in
theorem masksA (j : Fin 24) (kr : Fin 16) : rowMasks (StableHlo.after opsA σ) j (ix1 kr)
    = if rowStart (j.val / 8 * 4 + j.val % 8) ≤ kr.val ∧ kr.val < rowStart (j.val / 8 * 4 + j.val % 8) + 8 then 1 else 0 := by
  simp (disch := decide) only [rowMasks, StableHlo.readAfter, StableHlo.readUpto, StableHlo.nullary_result']
  revert j kr
  decide +kernel

/-- The bias, widened with zeros on both sides. -/
abbrev wideTable : S16x15x127.Idx → EReal :=
  pad S16x15x127 ![0, 0, 48] ![0, 0, 48] ![0, 0, 0] (σ main_arg1 : S16x15x31.Idx → EReal)
    (sitofp (F := Ideal) .f32 (constantI S_ 32 0#32)) pads_S16x15x31_S16x15x127_000_000_48480 h_S_

set_option maxHeartbeats 8000000 in
/-- The table laid out by query column, padded by eight masked rows above and below. -/
theorem tableA (x : S16x15x31.Idx → EReal) (hx : (σ main_arg1 : S16x15x31.Idx → EReal) = x) (h : Fin 16) (c : Fin 64) (i : Fin 31) (k : Fin 64) :
    (StableHlo.after opsA σ main_v136 : S16x64x31x64.Idx → EReal) (ix4 h c i k)
    = if hv : (8 ≤ i.val ∧ i.val < 23) ∧ colStart c.val ≤ k.val ∧ k.val < colStart c.val + 16 then
        x (ix3 h ⟨i.val - 8, by omega⟩ ⟨k.val + 15 - c.val, by unfold colStart at hv; omega⟩)
      else ⊥ := by
  subst hx
  simp (disch := decide) only [StableHlo.readAfter, StableHlo.readUpto, ↓ StableHlo.readPieces, StableHlo.nullary_result', StableHlo.unary_result', StableHlo.binary_result', StableHlo.ternary_result', StableHlo.reshape_result', StableHlo.nary_result', Matrix.cons_val]
  simp -implicitDefEqProofs only [StableHlo.TRef.toBuf, StableHlo.TRef.ofBuf, cast_cast, cast_eq]
  clean_types
  refine (masked _ _ h c i k).trans ?_
  rw [Softmax.ofBits_bot]
  by_cases hi : 8 ≤ i.val ∧ i.val < 23
  swap
  · rw [dif_neg hi, dif_neg fun hv => hi hv.1]
  rw [dif_pos hi, lit0_at]
  by_cases hc : colStart c.val ≤ k.val ∧ k.val < colStart c.val + 16
  swap
  · rw [if_neg hc, dif_neg fun hv => hc hv.2]
    rfl
  rw [if_pos hc, dif_pos ⟨hi, hc⟩]
  refine ((cat4 _ _ _ _ concatenates_S16x16x15x64_S16x16x15x64_S16x16x15x64_S16x16x15x64_S16x64x15x64_d1 (fun c : Fin 64 => wideTable σ (ix3 h ⟨i.val - 8, by omega⟩ ⟨63 - c.val + k.val, by omega⟩)) h _ k ?_ ?_ ?_ ?_ c).trans ?_)
  · exact fun b => cat16 _ _ _ _ _ _ _ _ _ _ _ _ _ _ _ _ _ (fun b : Fin 16 => wideTable σ (ix3 h ⟨i.val - 8, by omega⟩ ⟨63 - b.val + k.val, by omega⟩)) h _ k
      (col (wideTable σ) 63 _ (by omega) h _ k)
      (col (wideTable σ) 62 _ (by omega) h _ k)
      (col (wideTable σ) 61 _ (by omega) h _ k)
      (col (wideTable σ) 60 _ (by omega) h _ k)
      (col (wideTable σ) 59 _ (by omega) h _ k)
      (col (wideTable σ) 58 _ (by omega) h _ k)
      (col (wideTable σ) 57 _ (by omega) h _ k)
      (col (wideTable σ) 56 _ (by omega) h _ k)
      (col (wideTable σ) 55 _ (by omega) h _ k)
      (col (wideTable σ) 54 _ (by omega) h _ k)
      (col (wideTable σ) 53 _ (by omega) h _ k)
      (col (wideTable σ) 52 _ (by omega) h _ k)
      (col (wideTable σ) 51 _ (by omega) h _ k)
      (col (wideTable σ) 50 _ (by omega) h _ k)
      (col (wideTable σ) 49 _ (by omega) h _ k)
      (col (wideTable σ) 48 _ (by omega) h _ k) b
  · exact fun b => cat16 _ _ _ _ _ _ _ _ _ _ _ _ _ _ _ _ _ (fun b : Fin 16 => wideTable σ (ix3 h ⟨i.val - 8, by omega⟩ ⟨63 - (16 + b.val) + k.val, by omega⟩)) h _ k
      (col (wideTable σ) 47 _ (by omega) h _ k)
      (col (wideTable σ) 46 _ (by omega) h _ k)
      (col (wideTable σ) 45 _ (by omega) h _ k)
      (col (wideTable σ) 44 _ (by omega) h _ k)
      (col (wideTable σ) 43 _ (by omega) h _ k)
      (col (wideTable σ) 42 _ (by omega) h _ k)
      (col (wideTable σ) 41 _ (by omega) h _ k)
      (col (wideTable σ) 40 _ (by omega) h _ k)
      (col (wideTable σ) 39 _ (by omega) h _ k)
      (col (wideTable σ) 38 _ (by omega) h _ k)
      (col (wideTable σ) 37 _ (by omega) h _ k)
      (col (wideTable σ) 36 _ (by omega) h _ k)
      (col (wideTable σ) 35 _ (by omega) h _ k)
      (col (wideTable σ) 34 _ (by omega) h _ k)
      (col (wideTable σ) 33 _ (by omega) h _ k)
      (col (wideTable σ) 32 _ (by omega) h _ k) b
  · exact fun b => cat16 _ _ _ _ _ _ _ _ _ _ _ _ _ _ _ _ _ (fun b : Fin 16 => wideTable σ (ix3 h ⟨i.val - 8, by omega⟩ ⟨63 - (32 + b.val) + k.val, by omega⟩)) h _ k
      (col (wideTable σ) 31 _ (by omega) h _ k)
      (col (wideTable σ) 30 _ (by omega) h _ k)
      (col (wideTable σ) 29 _ (by omega) h _ k)
      (col (wideTable σ) 28 _ (by omega) h _ k)
      (col (wideTable σ) 27 _ (by omega) h _ k)
      (col (wideTable σ) 26 _ (by omega) h _ k)
      (col (wideTable σ) 25 _ (by omega) h _ k)
      (col (wideTable σ) 24 _ (by omega) h _ k)
      (col (wideTable σ) 23 _ (by omega) h _ k)
      (col (wideTable σ) 22 _ (by omega) h _ k)
      (col (wideTable σ) 21 _ (by omega) h _ k)
      (col (wideTable σ) 20 _ (by omega) h _ k)
      (col (wideTable σ) 19 _ (by omega) h _ k)
      (col (wideTable σ) 18 _ (by omega) h _ k)
      (col (wideTable σ) 17 _ (by omega) h _ k)
      (col (wideTable σ) 16 _ (by omega) h _ k) b
  · exact fun b => cat16 _ _ _ _ _ _ _ _ _ _ _ _ _ _ _ _ _ (fun b : Fin 16 => wideTable σ (ix3 h ⟨i.val - 8, by omega⟩ ⟨63 - (48 + b.val) + k.val, by omega⟩)) h _ k
      (col (wideTable σ) 15 _ (by omega) h _ k)
      (col (wideTable σ) 14 _ (by omega) h _ k)
      (col (wideTable σ) 13 _ (by omega) h _ k)
      (col (wideTable σ) 12 _ (by omega) h _ k)
      (col (wideTable σ) 11 _ (by omega) h _ k)
      (col (wideTable σ) 10 _ (by omega) h _ k)
      (col (wideTable σ) 9 _ (by omega) h _ k)
      (col (wideTable σ) 8 _ (by omega) h _ k)
      (col (wideTable σ) 7 _ (by omega) h _ k)
      (col (wideTable σ) 6 _ (by omega) h _ k)
      (col (wideTable σ) 5 _ (by omega) h _ k)
      (col (wideTable σ) 4 _ (by omega) h _ k)
      (col (wideTable σ) 3 _ (by omega) h _ k)
      (col (wideTable σ) 2 _ (by omega) h _ k)
      (col (wideTable σ) 1 _ (by omega) h _ k)
      (col (wideTable σ) 0 _ (by omega) h _ k) b
  · refine (wide _ _ h _ _).trans ?_
    rw [dif_pos (by unfold colStart at hc; simp only; omega)]
    exact congrArg (fun n => (σ main_arg1 : S16x15x31.Idx → EReal) (ix3 h ⟨i.val - 8, by omega⟩ n)) (Fin.ext (by unfold colStart at hc; simp only; omega))

/-- The bias table at an entry: the bias of the offset between key and query where the query may see the key, `⊥` elsewhere. -/
theorem table_at (x : S16x15x31.Idx → EReal) (hx : (σ main_arg1 : S16x15x31.Idx → EReal) = x) (tt : Fin 3) (h : Fin 16) (ri : Fin 8) (c : Fin 64) (kr : Fin 16) (kc : Fin 64) :
    (StableHlo.after opsB (StableHlo.after opsA σ) main_v266 : S3x16x512x1024.Idx → EReal)
      (ix4 tt h ⟨ri.val * 64 + c.val, by omega⟩ ⟨kr.val * 64 + kc.val, by omega⟩)
    = if hv : (rowStart (tt.val * 4 + ri.val) ≤ kr.val ∧ kr.val < rowStart (tt.val * 4 + ri.val) + 8)
          ∧ colStart c.val ≤ kc.val ∧ kc.val < colStart c.val + 16 then
        x (ix3 h ⟨kr.val + 7 - (tt.val * 4 + ri.val), by unfold rowStart at hv; omega⟩
          ⟨kc.val + 15 - c.val, by unfold colStart at hv; omega⟩)
      else ⊥ := by
  rw [tableB, masksA, tableA σ x hx, Softmax.ofBits_bot]
  have e1 : (tt.val * 8 + ri.val) / 8 = tt.val := by omega
  have e2 : (tt.val * 8 + ri.val) % 8 = ri.val := by omega
  simp only [e1, e2]
  by_cases hr : rowStart (tt.val * 4 + ri.val) ≤ kr.val ∧ kr.val < rowStart (tt.val * 4 + ri.val) + 8
  swap
  · rw [if_neg hr]
    show (⊥ : EReal) = _
    rw [dif_neg fun hv => hr hv.1]
  rw [if_pos hr]
  have hi : 8 ≤ 15 - (tt.val * 4 + ri.val) + kr.val ∧ 15 - (tt.val * 4 + ri.val) + kr.val < 23 := by
    unfold rowStart at hr; omega
  by_cases hc : colStart c.val ≤ kc.val ∧ kc.val < colStart c.val + 16
  swap
  · rw [dif_neg fun hv => hc hv.2, dif_neg fun hv => hc hv.2]
    rfl
  rw [dif_pos ⟨hi, hc⟩, dif_pos ⟨hr, hc⟩]
  exact congrArg (fun n => x (ix3 h n ⟨kc.val + 15 - c.val, by unfold colStart at hc; omega⟩))
    (Fin.ext (by unfold rowStart at hr; simp only; omega))

end Cert.NattenIdeal.Value

end
-- ==== Proof.NattenHead.lean ====
module

public import proofs.«01_k».proof.Proof.Gen.NattenIdeal.Value
public import Idealize.ShloMosaic.Lib.Pipeline.ValueKit
public import proofs.«01_k».proof.Proof.Softmax

@[expose] public section

set_option maxRecDepth 16384

noncomputable section

namespace Cert.NattenIdeal.Value

open Cert.NattenIdeal Cert.NattenIdeal.Gen Idealize.ShloMosaic Idealize.ShloMosaic.TcCoe Idealize.SL.Sem

/-- Four pieces of 256 rows, read as one array of 1024 rows. -/
theorem pieces (a b c d : Vec Ideal S1x256x128 .bf16) (K : Fin 1024 → Fin 128 → EReal)
    (ha : ∀ n k, a (ix3 0 n k) = K ⟨n.val, by omega⟩ k) (hb : ∀ n k, b (ix3 0 n k) = K ⟨256 + n.val, by omega⟩ k)
    (hc : ∀ n k, c (ix3 0 n k) = K ⟨512 + n.val, by omega⟩ k) (hd : ∀ n k, d (ix3 0 n k) = K ⟨768 + n.val, by omega⟩ k)
    (N : Fin 1024) (k : Fin 128) : k0_pay2 a b c d (ix2 N k) = K N k := by
  pointwise [k0_pay2]
  have hN := N.isLt
  by_cases a1 : N.val < 256
  · rw [dif_pos a1]; exact ha ⟨N.val, a1⟩ k
  rw [dif_neg a1]
  by_cases a2 : N.val - 256 < 256
  · rw [dif_pos a2]; exact (hb ⟨N.val - 256, a2⟩ k).trans (congrArg (fun n => K n k) (Fin.ext (by dsimp; omega)))
  rw [dif_neg a2]
  by_cases a3 : N.val - 256 - 256 < 256
  · rw [dif_pos a3]; exact (hc ⟨N.val - 256 - 256, a3⟩ k).trans (congrArg (fun n => K n k) (Fin.ext (by dsimp; omega)))
  rw [dif_neg a3]
  exact (hd ⟨N.val - 256 - 256 - 256, by omega⟩ k).trans (congrArg (fun n => K n k) (Fin.ext (by dsimp; omega)))

/-- One unbiased score of the kernel. -/
theorem score_at (q : Vec Ideal S1x512x128 .bf16) (a b c d : Vec Ideal S1x256x128 .bf16) (K : Fin 1024 → Fin 128 → EReal)
    (hK : ∀ N k, k0_pay2 a b c d (ix2 N k) = K N k) (p : Fin 512) (N : Fin 1024) :
    k0_pay3 q a b c d (ix2 p N) = (∑ k : Fin 128, q (ix3 0 p k) * K N k) * Ideal.ofBits .f32 0x3DB504F3#32 := by
  simp only [← hK]
  have e : ∀ k, k0_pay2 a b c d (ix2 N k) = concatenate S1024x128 0 [⟨S256x128, shapeCast S256x128 a shapeCasts_S1x256x128_S256x128⟩, ⟨S256x128, shapeCast S256x128 b shapeCasts_S1x256x128_S256x128⟩, ⟨S256x128, shapeCast S256x128 c shapeCasts_S1x256x128_S256x128⟩, ⟨S256x128, shapeCast S256x128 d shapeCasts_S1x256x128_S256x128⟩] concatenates_S256x128_S256x128_S256x128_S256x128_S1024x128_d0 (ix2 N k) := fun _ => rfl
  unfold k0_pay3
  simp only [e]
  generalize concatenate S1024x128 0 [⟨S256x128, shapeCast S256x128 a shapeCasts_S1x256x128_S256x128⟩, ⟨S256x128, shapeCast S256x128 b shapeCasts_S1x256x128_S256x128⟩, ⟨S256x128, shapeCast S256x128 c shapeCasts_S1x256x128_S256x128⟩, ⟨S256x128, shapeCast S256x128 d shapeCasts_S1x256x128_S256x128⟩] concatenates_S256x128_S256x128_S256x128_S256x128_S1024x128_d0 = y
  pointwise

/-- The softmax of the kernel at one query, over its scores. -/
theorem head_at (v : Vec Ideal S1024x128 .bf16) (w : Vec Ideal S512x1024 .f32) (b : Vec Ideal S1x1x512x1024 .f32) (x : S1x512x128.Idx)
    (s : Fin 1024 → EReal) (hs : ∀ N : Fin 1024, w (ix2 (x 1) N) + b (ix4 0 0 (x 1) N) = s N) :
    k0_pay1 v w b x = Ideal.div (∑ N : Fin 1024, Ideal.exp (s N - Finset.univ.fold max ⊥ s) * v (ix2 N (x 2)))
      (∑ N : Fin 1024, Ideal.exp (s N - Finset.univ.fold max ⊥ s)) := by
  pointwise [k0_pay1]
  simp only [hs, Softmax.ofBits_bot]

end Cert.NattenIdeal.Value

end
-- ==== Proof.NattenRef.lean ====
module

public import proofs.«01_k».proof.Proof.Gen.NattenRefIdeal.Read
public import Idealize.ShloMosaic.Lib.Pipeline.ValueKit
public import proofs.«01_k».proof.Proof.Softmax

@[expose] public section

set_option maxRecDepth 16384

noncomputable section

namespace Cert.NattenRefIdeal.Values

open Cert.NattenRefIdeal Cert.NattenRefIdeal.Gen Idealize.ShloMosaic Idealize.ShloMosaic.TcCoe Idealize.SL.Sem
open Cert.NattenRefIdeal.Read

/-- The first row of the neighbourhood of a row. -/
def firstRow (r : Nat) : Nat := min (r - 4) 248

/-- The first column of the neighbourhood of a column. -/
def firstCol (c : Nat) : Nat := min (c - 8) 48

/-- The columns of a neighbourhood. -/
theorem col_at (c : Fin 64) (j : Fin 16) : (val_main_v16 (F := Ideal) (ix2 c j)).toNat = firstCol c.val + j.val := by
  pointwise [val_main_v7, val_main_c, val_main_v8, val_main_v9, val_main_c_0, val_main_c_1, val_main_call0_v0, val_main_call0_v1, val_main_call0_v2, val_main_call0_v3, val_main_call0_v4, val_main_v10, val_main_v11, val_main_v12, val_main_v13, val_main_v14, val_main_v15, val_main_v16]
  revert c j; decide +kernel

/-- The columns of a neighbourhood, from its middle, counted from zero. -/
theorem colOff_at (c : Fin 64) (j : Fin 16) : (val_main_v21 (F := Ideal) (ix2 c j)).toNat = firstCol c.val + j.val + 15 - c.val := by
  pointwise [val_main_v7, val_main_c, val_main_v8, val_main_v9, val_main_c_0, val_main_c_1, val_main_call0_v0, val_main_call0_v1, val_main_call0_v2, val_main_call0_v3, val_main_call0_v4, val_main_v10, val_main_v11, val_main_v12, val_main_v13, val_main_v14, val_main_v15, val_main_v16, val_main_v17, val_main_v18, val_main_v19, val_main_c_2, val_main_v20, val_main_v21]
  revert c j; decide +kernel

/-- The rows of a neighbourhood. -/
theorem row_at (r : Fin 256) (i : Fin 8) : (val_main_v32 (F := Ideal) (ix2 r i)).toNat = firstRow r.val + i.val := by
  pointwise [val_main_v23, val_main_c_3, val_main_v24, val_main_v25, val_main_c_4, val_main_c_5, val_main_call1_v0, val_main_call1_v1, val_main_call1_v2, val_main_call1_v3, val_main_call1_v4, val_main_v26, val_main_v27, val_main_v28, val_main_v29, val_main_v30, val_main_v31, val_main_v32]
  revert r i; decide +kernel

/-- The rows of a neighbourhood, from its middle, counted from zero. -/
theorem rowOff_at (r : Fin 256) (i : Fin 8) : (val_main_v37 (F := Ideal) (ix2 r i)).toNat = firstRow r.val + i.val + 7 - r.val := by
  pointwise [val_main_v23, val_main_c_3, val_main_v24, val_main_v25, val_main_c_4, val_main_c_5, val_main_call1_v0, val_main_call1_v1, val_main_call1_v2, val_main_call1_v3, val_main_call1_v4, val_main_v26, val_main_v27, val_main_v28, val_main_v29, val_main_v30, val_main_v31, val_main_v32, val_main_v33, val_main_v34, val_main_v35, val_main_c_6, val_main_v36, val_main_v37]
  revert r i; decide +kernel

/-- A number that is not negative is kept by the wrap of negative indices. -/
theorem wrap (x y : BitVec 32) (h : x.toNat < 2147483648) :
    Scalar.select (IntOp.cmpi .slt x 0#32) y x = x := by
  have e : IntOp.cmpi .slt x 0#32 = 0#1 := by
    have : x.slt 0#32 = false := by
      rw [BitVec.slt_eq_decide, decide_eq_false_iff_not, BitVec.toInt_eq_toNat_of_lt (by omega)]
      simp
    simp [IntOp.cmpi, this]
  rw [e]; rfl

/-- The token of a key of a neighbourhood. -/
theorem key_at (r : Fin 256) (c : Fin 64) (n : Fin 128) :
    (val_main_v45 (F := Ideal) (ix3 r c n)).toNat = (firstRow r.val + n.val / 16) * 64 + (firstCol c.val + n.val % 16) := by
  have e : val_main_v45 (F := Ideal) (ix3 r c n)
      = val_main_v32 (F := Ideal) (ix2 r ⟨n.val / 16, by omega⟩) * 64#32 + val_main_v16 (F := Ideal) (ix2 c ⟨n.val % 16, by omega⟩) := by
    have hr := r.isLt
    have hc := c.isLt
    have hn := n.isLt
    rw [val_main_v45_apply, val_main_v44_apply, val_main_v42_apply, val_main_v43_apply, val_main_v41_apply, val_main_v40_apply,
      val_main_v39_apply, val_main_v38_apply, val_main_c_7_apply]
    refine congrArg₂ (· + ·) (congrArg (· * 64#32) (congrArg _ ?_)) (congrArg _ ?_)
    · exact funext fun a => Fin.ext (by match a with | ⟨0, _⟩ => (dsimp; omega) | ⟨1, _⟩ => (dsimp; omega))
    · exact funext fun a => Fin.ext (by match a with | ⟨0, _⟩ => (dsimp; omega) | ⟨1, _⟩ => (dsimp; omega))
  rw [e, BitVec.toNat_add, BitVec.toNat_mul, row_at, col_at]
  have h1 : firstRow r.val ≤ 248 := Nat.min_le_right _ _
  have h2 : firstCol c.val ≤ 48 := Nat.min_le_right _ _
  have hn := n.isLt
  simp only [BitVec.toNat_ofNat]
  omega

/-- The rows of the gather of the keys and the values. -/
theorem gatherKey (x : S1x16384x16x128.Idx → EReal) (idx : IVec S256x64x128x1 32) (y : S1x256x64x128x16x128.Idx) (k : Fin 16384)
    (hk : (idx (ix4 (y 1) (y 2) (y 3) 0)).toNat = k.val) :
    Host.gather gather_S1x16384x16x128_S256x64x128x1_S1x256x64x128x16x128_045_1_n_n_1_3_1116128 x idx y = x (ix4 0 k (y 4) (y 5)) := by
  unfold Host.gather
  congr 1
  funext a
  refine Fin.ext ?_
  show GatherDims.start _ y idx a + GatherDims.batchCoord _ y a + GatherDims.offCoord _ y a = _
  rw [GatherDims.batchCoord_eq_zero _ _ _ List.not_mem_nil]
  have ha : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr (rfl)))
  rcases ha with rfl | rfl | rfl | rfl
  · unfold GatherDims.start
    rw [dif_neg (by decide)]
    unfold GatherDims.offCoord
    rw [dif_pos (by decide)]
    show 0 + 0 + (y 0).val = 0
    have : (y 0).val < 1 := (y 0).isLt
    omega
  · rw [GatherDims.offCoord_eq_zero _ _ _ (by decide)]
    unfold GatherDims.start
    rw [dif_pos (by decide)]
    have hsi : (gather_S1x16384x16x128_S256x64x128x1_S1x256x64x128x16x128_045_1_n_n_1_3_1116128).siIdx y ⟨0, by decide⟩ = (ix4 (y 1) (y 2) (y 3) 0 : S256x64x128x1.Idx) := by
      funext b; refine Fin.ext ?_
      match b with
      | ⟨0, _⟩ => rfl
      | ⟨1, _⟩ => rfl
      | ⟨2, _⟩ => rfl
      | ⟨3, _⟩ => rfl
    show min (idx ((gather_S1x16384x16x128_S256x64x128x1_S1x256x64x128x16x128_045_1_n_n_1_3_1116128).siIdx y ⟨0, by decide⟩)).toInt.toNat (16384 - 1) + 0 + 0 = k.val
    have h1 := k.isLt
    rw [hsi, BitVec.toInt_eq_toNat_of_lt (by omega), hk]
    omega
  · unfold GatherDims.start
    rw [dif_neg (by decide)]
    unfold GatherDims.offCoord
    rw [dif_pos (by decide)]
    show 0 + 0 + (y 4).val = _
    simp
  · unfold GatherDims.start
    rw [dif_neg (by decide)]
    unfold GatherDims.offCoord
    rw [dif_pos (by decide)]
    show 0 + 0 + (y 5).val = _
    simp

/-- The entries of the gather of the bias. -/
theorem gatherBias (x : S16x15x31.Idx → EReal) (idx : IVec S256x64x8x16x2 32) (y : S16x256x64x8x16.Idx) (i : Fin 15) (j : Fin 31)
    (hi : (idx (ix5 (y 1) (y 2) (y 3) (y 4) 0)).toNat = i.val) (hj : (idx (ix5 (y 1) (y 2) (y 3) (y 4) 1)).toNat = j.val) :
    Host.gather gather_S16x15x31_S256x64x8x16x2_S16x256x64x8x16_0_12_n_n_12_4_1611 x idx y = x (ix3 (y 0) i j) := by
  unfold Host.gather
  congr 1
  funext a
  refine Fin.ext ?_
  show GatherDims.start _ y idx a + GatherDims.batchCoord _ y a + GatherDims.offCoord _ y a = _
  rw [GatherDims.batchCoord_eq_zero _ _ _ List.not_mem_nil]
  have ha : a = 0 ∨ a = 1 ∨ a = 2 := by
    match a with
    | ⟨0, _⟩ => exact Or.inl rfl
    | ⟨1, _⟩ => exact Or.inr (Or.inl rfl)
    | ⟨2, _⟩ => exact Or.inr (Or.inr (rfl))
  rcases ha with rfl | rfl | rfl
  · unfold GatherDims.start
    rw [dif_neg (by decide)]
    unfold GatherDims.offCoord
    rw [dif_pos (by decide)]
    show 0 + 0 + (y 0).val = _
    simp
  · rw [GatherDims.offCoord_eq_zero _ _ _ (by decide)]
    unfold GatherDims.start
    rw [dif_pos (by decide)]
    have hsi : (gather_S16x15x31_S256x64x8x16x2_S16x256x64x8x16_0_12_n_n_12_4_1611).siIdx y ⟨0, by decide⟩ = (ix5 (y 1) (y 2) (y 3) (y 4) 0 : S256x64x8x16x2.Idx) := by
      funext b; refine Fin.ext ?_
      match b with
      | ⟨0, _⟩ => rfl
      | ⟨1, _⟩ => rfl
      | ⟨2, _⟩ => rfl
      | ⟨3, _⟩ => rfl
      | ⟨4, _⟩ => rfl
    show min (idx ((gather_S16x15x31_S256x64x8x16x2_S16x256x64x8x16_0_12_n_n_12_4_1611).siIdx y ⟨0, by decide⟩)).toInt.toNat (15 - 1) + 0 + 0 = i.val
    have h1 := i.isLt
    rw [hsi, BitVec.toInt_eq_toNat_of_lt (by omega), hi]
    omega
  · rw [GatherDims.offCoord_eq_zero _ _ _ (by decide)]
    unfold GatherDims.start
    rw [dif_pos (by decide)]
    have hsi : (gather_S16x15x31_S256x64x8x16x2_S16x256x64x8x16_0_12_n_n_12_4_1611).siIdx y ⟨1, by decide⟩ = (ix5 (y 1) (y 2) (y 3) (y 4) 1 : S256x64x8x16x2.Idx) := by
      funext b; refine Fin.ext ?_
      match b with
      | ⟨0, _⟩ => rfl
      | ⟨1, _⟩ => rfl
      | ⟨2, _⟩ => rfl
      | ⟨3, _⟩ => rfl
      | ⟨4, _⟩ => rfl
    show min (idx ((gather_S16x15x31_S256x64x8x16x2_S16x256x64x8x16_0_12_n_n_12_4_1611).siIdx y ⟨1, by decide⟩)).toInt.toNat (31 - 1) + 0 + 0 = j.val
    have h1 := j.isLt
    rw [hsi, BitVec.toInt_eq_toNat_of_lt (by omega), hj]
    omega

/-- The token of a key, as an index. -/
def token (r : Fin 256) (c : Fin 64) (n : Fin 128) : Fin 16384 :=
  ⟨(firstRow r.val + n.val / 16) * 64 + (firstCol c.val + n.val % 16), by
    have h1 : firstRow r.val ≤ 248 := Nat.min_le_right _ _
    have h2 : firstCol c.val ≤ 48 := Nat.min_le_right _ _
    have hn := n.isLt
    omega⟩

theorem token70 (r : Fin 256) (c : Fin 64) (n : Fin 128) :
    (val_main_v70 (F := Ideal) (ix4 r c n 0)).toNat = (token r c n).val := by
  have e : val_main_v70 (F := Ideal) (ix4 r c n 0) = val_main_v45 (F := Ideal) (ix3 r c n) := by
    rw [val_main_v70_apply, val_main_v69_apply, val_main_v66_apply, val_main_v65_apply, val_main_c_12_apply]
    have hi : idx_main_v70 (ix4 r c n 0) = ix3 r c n :=
      funext fun a => Fin.ext (by match a with | ⟨0, _⟩ => rfl | ⟨1, _⟩ => rfl | ⟨2, _⟩ => rfl)
    rw [hi]
    refine wrap _ _ ?_
    rw [key_at]
    have := (token r c n).isLt
    unfold token at this
    dsimp at this
    omega
  rw [e, key_at]; rfl

theorem token77 (r : Fin 256) (c : Fin 64) (n : Fin 128) :
    (val_main_v77 (F := Ideal) (ix4 r c n 0)).toNat = (token r c n).val := token70 r c n

/-- A key of the reference. -/
theorem ref_k (x0 : Vec Ideal S1x16384x6144 .bf16) (y : S1x256x64x128x16x128.Idx) :
    val_main_v71 (F := Ideal) x0 y = x0 (ix3 0 (token (y 1) (y 2) (y 3)) ⟨2048 + (y 4).val * 128 + (y 5).val, by
      have h4 : (y 4).val < 16 := (y 4).isLt
      have h5 : (y 5).val < 128 := (y 5).isLt
      omega⟩) := by
  unfold val_main_v71
  have h4 : (y 4).val < 16 := (y 4).isLt
  have h5 : (y 5).val < 128 := (y 5).isLt
  refine (gatherKey _ _ y _ (token70 (y 1) (y 2) (y 3))).trans ?_
  rw [val_main_v5_apply, val_main_v2_apply, val_main_v0_apply]
  refine congrArg x0 ?_
  have ht := (token (y 1) (y 2) (y 3)).isLt
  exact funext fun a => Fin.ext (by match a with | ⟨0, _⟩ => rfl | ⟨1, _⟩ => (dsimp; omega) | ⟨2, _⟩ => (dsimp; omega))

/-- A value of the reference. -/
theorem ref_v (x0 : Vec Ideal S1x16384x6144 .bf16) (y : S1x256x64x128x16x128.Idx) :
    val_main_v78 (F := Ideal) x0 y = x0 (ix3 0 (token (y 1) (y 2) (y 3)) ⟨4096 + (y 4).val * 128 + (y 5).val, by
      have h4 : (y 4).val < 16 := (y 4).isLt
      have h5 : (y 5).val < 128 := (y 5).isLt
      omega⟩) := by
  unfold val_main_v78
  have h4 : (y 4).val < 16 := (y 4).isLt
  have h5 : (y 5).val < 128 := (y 5).isLt
  refine (gatherKey _ _ y _ (token77 (y 1) (y 2) (y 3))).trans ?_
  rw [val_main_v6_apply, val_main_v3_apply, val_main_v0_apply]
  refine congrArg x0 ?_
  have ht := (token (y 1) (y 2) (y 3)).isLt
  exact funext fun a => Fin.ext (by match a with | ⟨0, _⟩ => rfl | ⟨1, _⟩ => (dsimp; omega) | ⟨2, _⟩ => (dsimp; omega))

/-- The offset of a key's row in the bias. -/
def rowOff (r : Fin 256) (n : Fin 128) : Fin 15 :=
  ⟨firstRow r.val + n.val / 16 + 7 - r.val, by
    have hn := n.isLt
    have hr := r.isLt
    unfold firstRow
    omega⟩

/-- The offset of a key's column in the bias. -/
def colOff (c : Fin 64) (n : Fin 128) : Fin 31 :=
  ⟨firstCol c.val + n.val % 16 + 15 - c.val, by
    have hn := n.isLt
    have hc := c.isLt
    unfold firstCol
    omega⟩

theorem start0 (r : Fin 256) (c : Fin 64) (i : Fin 8) (j : Fin 16) :
    (val_main_v62 (F := Ideal) (ix5 r c i j 0)).toNat = firstRow r.val + i.val + 7 - r.val := by
  have e : val_main_v62 (F := Ideal) (ix5 r c i j 0) = val_main_v60 (F := Ideal) (ix5 r c i j 0) := by
    unfold val_main_v62
    generalize val_main_v60 (F := Ideal) = a
    generalize val_main_v61 (F := Ideal) = b
    pointwise
  rw [e, val_main_v60_apply, val_main_v58_apply, val_main_v52_apply, val_main_v49_apply, val_main_v48_apply, val_main_c_8_apply, val_main_v46_apply]
  have hi : idx_main_v46 (idx_main_v58 (idx_main_v60 (ix5 r c i j 0))) = ix2 r i :=
    funext fun a => Fin.ext (by match a with | ⟨0, _⟩ => rfl | ⟨1, _⟩ => rfl)
  rw [hi, wrap _ _ (by rw [rowOff_at]; have := r.isLt; have := i.isLt; unfold firstRow; omega), rowOff_at]

theorem start1 (r : Fin 256) (c : Fin 64) (i : Fin 8) (j : Fin 16) :
    (val_main_v62 (F := Ideal) (ix5 r c i j 1)).toNat = firstCol c.val + j.val + 15 - c.val := by
  have e : val_main_v62 (F := Ideal) (ix5 r c i j 1) = val_main_v61 (F := Ideal) (ix5 r c i j 0) := by
    unfold val_main_v62
    generalize val_main_v60 (F := Ideal) = a
    generalize val_main_v61 (F := Ideal) = b
    pointwise
  rw [e, val_main_v61_apply, val_main_v59_apply, val_main_v57_apply, val_main_v54_apply, val_main_v53_apply, val_main_c_10_apply, val_main_v47_apply]
  have hi : idx_main_v47 (idx_main_v59 (idx_main_v61 (ix5 r c i j 0))) = ix2 c j :=
    funext fun a => Fin.ext (by match a with | ⟨0, _⟩ => rfl | ⟨1, _⟩ => rfl)
  rw [hi, wrap _ _ (by rw [colOff_at]; have := c.isLt; have := j.isLt; unfold firstCol; omega), colOff_at]

/-- The bias of a key in the reference. -/
theorem ref_bias (x1 : Vec Ideal S16x15x31 .f32) (r : Fin 256) (h : Fin 16) (c : Fin 64) (n : Fin 128) :
    val_main_v83 (F := Ideal) x1 (ix5 0 r h c n) = x1 (ix3 h (rowOff r n) (colOff c n)) := by
  rw [val_main_v83_apply, val_main_v82_apply, val_main_v64_apply]
  unfold val_main_v63
  have hr := r.isLt
  have hh := h.isLt
  have hc := c.isLt
  have hn := n.isLt
  have e : idx_main_v64 (idx_main_v82 (idx_main_v83 (ix5 0 r h c n))) = ix5 h r c ⟨n.val / 16, by omega⟩ ⟨n.val % 16, by omega⟩ :=
    funext fun a => Fin.ext (by match a with | ⟨0, _⟩ => (dsimp; omega) | ⟨1, _⟩ => (dsimp; omega) | ⟨2, _⟩ => (dsimp; omega) | ⟨3, _⟩ => (dsimp; omega) | ⟨4, _⟩ => (dsimp; omega))
  rw [e]
  exact gatherBias _ _ (ix5 h r c ⟨n.val / 16, by omega⟩ ⟨n.val % 16, by omega⟩) (rowOff r n) (colOff c n) (start0 r c _ _) (start1 r c _ _)

/-- One score of the reference. -/
theorem ref_score (x0 : Vec Ideal S1x16384x6144 .bf16) (x1 : Vec Ideal S16x15x31 .f32) (r : Fin 256) (h : Fin 16) (c : Fin 64) (n : Fin 128) :
    val_main_v84 (F := Ideal) x0 x1 (ix5 0 r h c n)
      = (∑ d : Fin 128, x0 (ix3 0 ⟨r.val * 64 + c.val, by omega⟩ ⟨h.val * 128 + d.val, by omega⟩)
          * x0 (ix3 0 (token r c n) ⟨2048 + h.val * 128 + d.val, by omega⟩)) * Ideal.ofBits .f32 0x3DB504F3#32
        + x1 (ix3 h (rowOff r n) (colOff c n)) := by
  have hr := r.isLt
  have hh := h.isLt
  have hc := c.isLt
  have hn := n.isLt
  have e : val_main_v79 (F := Ideal) x0 (ix5 0 r h c n) = ∑ d : Fin 128, x0 (ix3 0 ⟨r.val * 64 + c.val, by omega⟩ ⟨h.val * 128 + d.val, by omega⟩)
          * x0 (ix3 0 (token r c n) ⟨2048 + h.val * 128 + d.val, by omega⟩) := by
    rw [val_main_v79_apply]
    refine Finset.sum_congr rfl fun d _ => ?_
    have hd := d.isLt
    rw [ref_k, val_main_v22_apply, val_main_v4_apply, val_main_v1_apply, val_main_v0_apply]
    refine congrArg₂ (· * ·) (congrArg x0 ?_) (congrArg x0 ?_)
    · exact funext fun a => Fin.ext (by match a with | ⟨0, _⟩ => rfl | ⟨1, _⟩ => (dsimp; omega) | ⟨2, _⟩ => (dsimp; omega))
    · rfl
  rw [val_main_v84_apply, val_main_v81_apply, ref_bias, e, val_main_v80_apply, val_main_cst_apply]
  rfl

/-- The greatest score of a query, in the reference. -/
theorem ref_max (x0 : Vec Ideal S1x16384x6144 .bf16) (x1 : Vec Ideal S16x15x31 .f32) (r : Fin 256) (h : Fin 16) (c : Fin 64) :
    val_main_v87 (F := Ideal) x0 x1 (ix4 0 r h c)
      = Finset.univ.fold max ⊥ (fun n : Fin 128 => val_main_v84 (F := Ideal) x0 x1 (ix5 0 r h c n)) := by
  rw [val_main_v87_apply, val_main_v86_apply, val_main_cst_17_apply]
  unfold val_main_v85
  generalize val_main_v84 (F := Ideal) x0 x1 = y0
  have e : Ideal.ofBits .f32 0xFF800000#32 = ⊥ := Softmax.ofBits_bot
  refine (congrArg₂ (max : EReal → EReal → EReal) e (Host.reduce_eq_fold_single (max : EReal → EReal → EReal) y0 _
    Cert.NattenRefIdeal.Gen.reducesTo_S1x256x16x64x128_S1x256x16x64_d4 (by decide) _ _)).trans ?_
  rw [max_eq_right bot_le, val_main_cst_16_apply]
  refine (congrArg (fun z => Finset.fold max z _ Finset.univ) e).trans ?_
  refine congrArg (fun f => Finset.fold max ⊥ f Finset.univ) (funext fun k => ?_)
  exact congrArg y0 (funext fun a => Fin.ext (by match a with | ⟨0, _⟩ => rfl | ⟨1, _⟩ => rfl | ⟨2, _⟩ => rfl | ⟨3, _⟩ => rfl | ⟨4, _⟩ => rfl))

/-- One entry of an unnormalized weight of the reference. -/
theorem ref_exp (x0 : Vec Ideal S1x16384x6144 .bf16) (x1 : Vec Ideal S16x15x31 .f32) (r : Fin 256) (h : Fin 16) (c : Fin 64) (n : Fin 128) :
    val_main_v91 (F := Ideal) x0 x1 (ix5 0 r h c n)
      = Ideal.exp (val_main_v84 (F := Ideal) x0 x1 (ix5 0 r h c n)
          - Finset.univ.fold max ⊥ (fun n : Fin 128 => val_main_v84 (F := Ideal) x0 x1 (ix5 0 r h c n))) := by
  rw [val_main_v91_apply, val_main_v90_apply, val_main_v89_apply, val_main_v88_apply, ← ref_max x0 x1 r h c]
  have e : idx_main_v88 (idx_main_v89 (ix5 0 r h c n)) = ix4 0 r h c :=
    funext fun a => Fin.ext (by match a with | ⟨0, _⟩ => rfl | ⟨1, _⟩ => rfl | ⟨2, _⟩ => rfl | ⟨3, _⟩ => rfl)
  rw [e]
  generalize val_main_v87 (F := Ideal) x0 x1 (ix4 0 r h c) = a
  generalize val_main_v84 (F := Ideal) x0 x1 (ix5 0 r h c n) = b
  rfl

/-- One softmax weight of the reference. -/
theorem ref_weight (x0 : Vec Ideal S1x16384x6144 .bf16) (x1 : Vec Ideal S16x15x31 .f32) (r : Fin 256) (h : Fin 16) (c : Fin 64) (n : Fin 128) :
    val_main_v95 (F := Ideal) x0 x1 (ix5 0 r h c n)
      = Ideal.div (val_main_v91 (F := Ideal) x0 x1 (ix5 0 r h c n)) (∑ n : Fin 128, val_main_v91 (F := Ideal) x0 x1 (ix5 0 r h c n)) := by
  have e : val_main_v94 (F := Ideal) x0 x1 (ix5 0 r h c n) = ∑ n : Fin 128, val_main_v91 (F := Ideal) x0 x1 (ix5 0 r h c n) := by
    pointwise [val_main_cst_18, val_main_v92, val_main_v93, val_main_v94]
  rw [val_main_v95_apply, e]
  generalize val_main_v91 (F := Ideal) x0 x1 (ix5 0 r h c n) = a
  generalize (∑ n : Fin 128, val_main_v91 (F := Ideal) x0 x1 (ix5 0 r h c n)) = b
  rfl

/-- One entry of the reference's result, over its scores. -/
theorem ref_at (x0 : Vec Ideal S1x16384x6144 .bf16) (x1 : Vec Ideal S16x15x31 .f32) (y : S1x16384x2048.Idx)
    (r : Fin 256) (c : Fin 64) (h : Fin 16) (d : Fin 128) (hr : (y 1).val = r.val * 64 + c.val) (hy : (y 2).val = h.val * 128 + d.val)
    (s : Fin 128 → EReal) (hs : ∀ n, val_main_v84 (F := Ideal) x0 x1 (ix5 0 r h c n) = s n) :
    val_main_v98 (F := Ideal) x0 x1 y
      = ∑ n : Fin 128, x0 (ix3 0 (token r c n) ⟨4096 + h.val * 128 + d.val, by omega⟩)
          * Ideal.div (Ideal.exp (s n - Finset.univ.fold max ⊥ s)) (∑ n : Fin 128, Ideal.exp (s n - Finset.univ.fold max ⊥ s)) := by
  have hr' := r.isLt
  have hh := h.isLt
  have hc := c.isLt
  have hd := d.isLt
  obtain rfl : (fun n => val_main_v84 (F := Ideal) x0 x1 (ix5 0 r h c n)) = s := funext hs
  have e : val_main_v98 (F := Ideal) x0 x1 y = val_main_v97 (F := Ideal) x0 x1 y := rfl
  have ei : idx_main_v97 y = ix5 0 r c h d :=
    funext fun a => Fin.ext (by match a with | ⟨0, _⟩ => (dsimp <;> omega) | ⟨1, _⟩ => (dsimp <;> omega) | ⟨2, _⟩ => (dsimp <;> omega) | ⟨3, _⟩ => (dsimp <;> omega) | ⟨4, _⟩ => (dsimp <;> omega))
  rw [e, val_main_v97_apply, ei, val_main_v96_apply]
  refine Finset.sum_congr rfl fun n _ => ?_
  have el : lidx_main_v96 (ix5 0 r c h d) n = ix5 0 r h c n :=
    funext fun a => Fin.ext (by match a with | ⟨0, _⟩ => rfl | ⟨1, _⟩ => rfl | ⟨2, _⟩ => rfl | ⟨3, _⟩ => rfl | ⟨4, _⟩ => rfl)
  rw [el, ref_weight, ref_v]
  simp only [ref_exp]
  exact mul_comm _ _

end Cert.NattenRefIdeal.Values

end
-- ==== Proof.MaskedSoftmax.lean ====
module

public import proofs.«01_k».proof.Proof.Softmax

@[expose] public section

noncomputable section

open Idealize.ShloMosaic

namespace Softmax

variable {ι κ : Type*} [Fintype ι] [Fintype κ]

/-- The greatest of the scores is the greatest of the ones that are kept. -/
theorem max_masked (e : ι → κ) (S : κ → EReal) (s : ι → EReal) (hS : ∀ n, S (e n) = s n)
    (h0 : ∀ k, (∀ n, e n ≠ k) → S k = ⊥) : Finset.univ.fold max ⊥ S = Finset.univ.fold max ⊥ s := by
  refine le_antisymm ((Finset.fold_max_le _).2 ⟨bot_le, fun k _ => ?_⟩) ((Finset.fold_max_le _).2 ⟨bot_le, fun n _ => ?_⟩)
  · by_cases h : ∃ n, e n = k
    · obtain ⟨n, rfl⟩ := h
      rw [hS]
      exact (Finset.le_fold_max _).2 (Or.inr ⟨n, Finset.mem_univ n, le_rfl⟩)
    · rw [h0 k fun n hn => h ⟨n, hn⟩]
      exact bot_le
  · rw [← hS]
    exact (Finset.le_fold_max _).2 (Or.inr ⟨e n, Finset.mem_univ _, le_rfl⟩)

/-- A softmax over many keys, all but the kept ones masked, is the softmax over the kept keys. -/
theorem masked (e : ι → κ) (he : Function.Injective e) (S V : κ → EReal) (s v : ι → EReal) (hS : ∀ n, S (e n) = s n)
    (hV : ∀ n, V (e n) = v n) (h0 : ∀ k, (∀ n, e n ≠ k) → S k = ⊥) (h : ∀ k, s k ≠ ⊤) (k₀ : ι) (hk : s k₀ ≠ ⊥) :
    Ideal.div (∑ k, Ideal.exp (S k - Finset.univ.fold max ⊥ S) * V k) (∑ k, Ideal.exp (S k - Finset.univ.fold max ⊥ S))
      = ∑ k, v k * Ideal.div (Ideal.exp (s k - Finset.univ.fold max ⊥ s)) (∑ k, Ideal.exp (s k - Finset.univ.fold max ⊥ s)) := by
  rw [← weighted s v h k₀ hk, max_masked e S s hS h0]
  have z : ∀ k, (∀ n, e n ≠ k) → Ideal.exp (S k - Finset.univ.fold max ⊥ s) = 0 := fun k hk => by
    rw [h0 k hk, EReal.bot_sub]; rfl
  congr 1
  · exact (Fintype.sum_of_injective e he _ _ (fun k hk => by rw [z k fun n hn => hk ⟨n, hn⟩, zero_mul])
      fun n => by rw [hS, hV]).symm
  · exact (Fintype.sum_of_injective e he _ _ (fun k hk => z k fun n hn => hk ⟨n, hn⟩) fun n => by rw [hS]).symm

end Softmax

end
-- ==== Proof.Natten.lean ====
module

public import proofs.«01_k».proof.Proof.Gen.NattenIdeal.Value
public import proofs.«01_k».proof.Proof.Gen.NattenRefIdeal.Read
public import Idealize.ShloMosaic.Lib.Pipeline.ValueKit
public import Idealize.ShloMosaic.Lib.WritesUnit
public import proofs.«01_k».proof.Proof.NattenTable
public import proofs.«01_k».proof.Proof.NattenHead
public import proofs.«01_k».proof.Proof.NattenRef
public import proofs.«01_k».proof.Proof.MaskedSoftmax
public import proofs.«01_k».proof.Pre_finite_scores

@[expose] public section

set_option maxRecDepth 16384

noncomputable section

namespace Cert.NattenIdeal.Value

open Cert.NattenIdeal Cert.NattenIdeal.Gen Idealize.ShloMosaic Idealize.ShloMosaic.TcCoe Idealize.SL.Sem
open Idealize.ShloMosaic.Pipeline (Dat)
open Cert.NattenRefIdeal.Read Cert.NattenRefIdeal.Values

/-- Every score is a real number when the queries, the keys and the bias are. -/
theorem score_real (a b : Fin 128 → EReal) (z : EReal) (ha : ∀ d, ∃ x : ℝ, a d = x) (hb : ∀ d, ∃ x : ℝ, b d = x) (hz : ∃ x : ℝ, z = x) :
    ∃ x : ℝ, (∑ d, a d * b d) * Ideal.ofBits .f32 0x3DB504F3#32 + z = x := by
  choose u hu using ha
  choose w hw using hb
  obtain ⟨z', rfl⟩ := hz
  have e : ∃ c : ℝ, Ideal.ofBits .f32 0x3DB504F3#32 = c := ⟨_, by simp [Ideal.ofBits, Ideal.ieee]; rfl⟩
  obtain ⟨c, hc⟩ := e
  refine ⟨(∑ d, u d * w d) * c + z', ?_⟩
  rw [hc, EReal.coe_add, EReal.coe_mul, ← Softmax.coe_sum]
  refine congrArg (fun s => s * (c : EReal) + (z' : EReal)) (Finset.sum_congr rfl fun d _ => ?_)
  rw [hu, hw, EReal.coe_mul]

/-- What the bias table holds: the bias inside a neighbourhood, `⊥` outside. -/
def IsTable (B : S16x15x31.Idx → EReal) (T : S3x16x512x1024.Idx → EReal) : Prop :=
  ∀ (tt : Fin 3) (h : Fin 16) (ri : Fin 8) (c : Fin 64) (kr : Fin 16) (kc : Fin 64),
    T (ix4 tt h ⟨ri.val * 64 + c.val, by omega⟩ ⟨kr.val * 64 + kc.val, by omega⟩)
      = if hv : (rowStart (tt.val * 4 + ri.val) ≤ kr.val ∧ kr.val < rowStart (tt.val * 4 + ri.val) + 8)
            ∧ colStart c.val ≤ kc.val ∧ kc.val < colStart c.val + 16 then
          B (ix3 h ⟨kr.val + 7 - (tt.val * 4 + ri.val), by unfold rowStart at hv; omega⟩
            ⟨kc.val + 15 - c.val, by unfold colStart at hv; omega⟩)
        else ⊥

/-- Where a key of the neighbourhood stands in the kernel's window of keys. -/
def place (rl c : ℕ) (n : Fin 128) : Fin 1024 :=
  ⟨(rowStart rl + n.val / 16) * 64 + (colStart c + n.val % 16), by
    have hn := n.isLt
    unfold rowStart colStart
    omega⟩

theorem place_inj (rl c : ℕ) : Function.Injective (place rl c) := fun a b h => by
  have h' := congrArg Fin.val h
  have ha := a.isLt
  have hb := b.isLt
  unfold place colStart at h'
  dsimp at h'
  refine Fin.ext ?_
  omega

/-- The window's first row and the row's place in it give the neighbourhood's first row. -/
theorem rows_eq (g ri tt : ℕ) (hg : g < 32) (hri : ri < 8) (htt : tt = if g = 0 then 0 else if g = 31 then 2 else 1) :
    4 * min (2 * g - 1) 60 + rowStart (tt * 4 + ri) = firstRow (g * 8 + ri) ∧ 4 * min (2 * g - 1) 60 + (tt * 4 + ri) = g * 8 + ri := by
  unfold rowStart firstRow
  split_ifs at htt <;> omega

set_option maxHeartbeats 1000000 in
/-- The kernel at one query is the reference's result there. -/
theorem point_eq (X : S1x16384x6144.Idx → EReal) (B : S16x15x31.Idx → EReal) (T : S3x16x512x1024.Idx → EReal) (hT : IsTable B T)
    (hX : ∀ (i : Fin 16384) (j : Fin 4096), ∃ r : ℝ, X (ix3 0 i ⟨j.val, by omega⟩) = r) (hB : ∀ i, ∃ r : ℝ, B i = r)
    (g : Fin 32) (h : Fin 16) (tt : Fin 3) (htt : tt.val = if g.val = 0 then 0 else if g.val = 31 then 2 else 1)
    (q : Vec Ideal S1x512x128 .bf16) (k0 k1 k2 k3 v0 v1 v2 v3 : Vec Ideal S1x256x128 .bf16) (b : Vec Ideal S1x1x512x1024 .f32)
    (eq : ∀ (p : Fin 512) (d : Fin 128), q (ix3 0 p d) = X (ix3 0 ⟨g.val * 512 + p.val, by omega⟩ ⟨h.val * 128 + d.val, by omega⟩))
    (ek0 : ∀ (n : Fin 256) (d : Fin 128), k0 (ix3 0 n d) = X (ix3 0 ⟨min (2 * g.val - 1) 60 * 256 + n.val, by omega⟩ ⟨2048 + h.val * 128 + d.val, by omega⟩))
    (ek1 : ∀ (n : Fin 256) (d : Fin 128), k1 (ix3 0 n d) = X (ix3 0 ⟨min (2 * g.val - 1) 60 * 256 + (256 + n.val), by omega⟩ ⟨2048 + h.val * 128 + d.val, by omega⟩))
    (ek2 : ∀ (n : Fin 256) (d : Fin 128), k2 (ix3 0 n d) = X (ix3 0 ⟨min (2 * g.val - 1) 60 * 256 + (512 + n.val), by omega⟩ ⟨2048 + h.val * 128 + d.val, by omega⟩))
    (ek3 : ∀ (n : Fin 256) (d : Fin 128), k3 (ix3 0 n d) = X (ix3 0 ⟨min (2 * g.val - 1) 60 * 256 + (768 + n.val), by omega⟩ ⟨2048 + h.val * 128 + d.val, by omega⟩))
    (ev0 : ∀ (n : Fin 256) (d : Fin 128), v0 (ix3 0 n d) = X (ix3 0 ⟨min (2 * g.val - 1) 60 * 256 + n.val, by omega⟩ ⟨4096 + h.val * 128 + d.val, by omega⟩))
    (ev1 : ∀ (n : Fin 256) (d : Fin 128), v1 (ix3 0 n d) = X (ix3 0 ⟨min (2 * g.val - 1) 60 * 256 + (256 + n.val), by omega⟩ ⟨4096 + h.val * 128 + d.val, by omega⟩))
    (ev2 : ∀ (n : Fin 256) (d : Fin 128), v2 (ix3 0 n d) = X (ix3 0 ⟨min (2 * g.val - 1) 60 * 256 + (512 + n.val), by omega⟩ ⟨4096 + h.val * 128 + d.val, by omega⟩))
    (ev3 : ∀ (n : Fin 256) (d : Fin 128), v3 (ix3 0 n d) = X (ix3 0 ⟨min (2 * g.val - 1) 60 * 256 + (768 + n.val), by omega⟩ ⟨4096 + h.val * 128 + d.val, by omega⟩))
    (eb : ∀ (p : Fin 512) (N : Fin 1024), b (ix4 0 0 p N) = T (ix4 tt h p N))
    (x : S1x512x128.Idx) (y : S1x16384x2048.Idx) (hy1 : (y 1).val = g.val * 512 + (x 1).val) (hy2 : (y 2).val = h.val * 128 + (x 2).val) :
    k0_pay1 (k0_pay2 v0 v1 v2 v3) (k0_pay3 q k0 k1 k2 k3) b x = val_main_v98 (F := Ideal) X B y := by
  have hg := g.isLt
  have hx1 : (x 1).val < 512 := (x 1).isLt
  have hx2 : (x 2).val < 128 := (x 2).isLt
  obtain ⟨ri, hri⟩ : ∃ ri : Fin 8, ri.val = (x 1).val / 64 := ⟨⟨(x 1).val / 64, by omega⟩, rfl⟩
  obtain ⟨c, hc⟩ : ∃ c : Fin 64, c.val = (x 1).val % 64 := ⟨⟨(x 1).val % 64, by omega⟩, rfl⟩
  obtain ⟨r, hr⟩ : ∃ r : Fin 256, r.val = g.val * 8 + ri.val := ⟨⟨g.val * 8 + ri.val, by omega⟩, rfl⟩
  obtain ⟨w1, w2⟩ := rows_eq g.val ri.val tt.val hg ri.isLt htt
  have hp : x 1 = (⟨ri.val * 64 + c.val, by omega⟩ : Fin 512) := Fin.ext (by dsimp; omega)
  have hk := score_at q k0 k1 k2 k3 _ (pieces k0 k1 k2 k3
    (fun N k => X (ix3 0 ⟨min (2 * g.val - 1) 60 * 256 + N.val, by omega⟩ ⟨2048 + h.val * 128 + k.val, by omega⟩)) ek0 ek1 ek2 ek3)
  have hv := pieces v0 v1 v2 v3
    (fun N k => X (ix3 0 ⟨min (2 * g.val - 1) 60 * 256 + N.val, by omega⟩ ⟨4096 + h.val * 128 + k.val, by omega⟩)) ev0 ev1 ev2 ev3
  rw [head_at _ _ b x _ (fun N => (congrArg₂ (· + ·) (hk (x 1) N) (eb (x 1) N))),
    ref_at X B y r c h (x 2) (by omega) hy2 _ (fun n => ref_score X B r h c n)]
  have tok : ∀ n : Fin 128, min (2 * g.val - 1) 60 * 256 + (place (tt.val * 4 + ri.val) c.val n).val = (token r c n).val := fun n => by
    unfold place token
    dsimp
    rw [hr]
    have : firstCol c.val = colStart c.val := rfl
    rw [this]
    omega
  have real : ∀ n : Fin 128, ∃ z : ℝ, (∑ d : Fin 128, X (ix3 0 ⟨r.val * 64 + c.val, by omega⟩ ⟨h.val * 128 + d.val, by omega⟩)
          * X (ix3 0 (token r c n) ⟨2048 + h.val * 128 + d.val, by omega⟩)) * Ideal.ofBits .f32 0x3DB504F3#32
        + B (ix3 h (rowOff r n) (colOff c n)) = z := fun n =>
    score_real _ _ _ (fun d => hX _ ⟨h.val * 128 + d.val, by omega⟩) (fun d => hX _ ⟨2048 + h.val * 128 + d.val, by omega⟩) (hB _)
  refine Softmax.masked (place (tt.val * 4 + ri.val) c.val) (place_inj _ _) _ _ _ _ (fun n => ?_) (fun n => ?_) (fun N hN => ?_)
    (fun n e => ?_) 0 (fun e => ?_)
  · have hn := n.isLt
    refine congrArg₂ (· + ·) (congrArg (· * Ideal.ofBits .f32 0x3DB504F3#32) (Finset.sum_congr rfl fun d _ => ?_)) ?_
    · refine congrArg₂ (· * ·) ((eq (x 1) d).trans (congrArg X ?_)) (congrArg X ?_)
      · exact congrArg (fun i => ix3 0 i _) (Fin.ext (by dsimp; omega))
      · exact congrArg (fun i => ix3 0 i _) (Fin.ext (tok n))
    · have h1 := (token r c n).isLt
      have b1 : rowStart (tt.val * 4 + ri.val) ≤ 8 := Nat.min_le_right _ _
      have b2 : colStart c.val ≤ 48 := Nat.min_le_right _ _
      have hb := hT tt h ri c ⟨rowStart (tt.val * 4 + ri.val) + n.val / 16, by omega⟩ ⟨colStart c.val + n.val % 16, by omega⟩
      rw [dif_pos (by dsimp; omega)] at hb
      refine (congrArg (fun p => T (ix4 tt h p _)) hp).trans (hb.trans (congrArg B ?_))
      refine congrArg₂ (fun i j => ix3 h i j) (Fin.ext ?_) (Fin.ext ?_)
      · unfold rowOff; dsimp; rw [hr]; omega
      · unfold colOff; dsimp; have : firstCol c.val = colStart c.val := rfl
        rw [this]
  · refine (hv _ (x 2)).trans ?_
    exact congrArg X (congrArg (fun i => ix3 0 i _) (Fin.ext (tok n)))
  · have h1 := N.isLt
    have hb := hT tt h ri c ⟨N.val / 64, by omega⟩ ⟨N.val % 64, by omega⟩
    rw [dif_neg (by
      rintro ⟨⟨a1, a2⟩, a3, a4⟩
      dsimp at a1 a2 a3 a4
      refine hN ⟨(N.val / 64 - rowStart (tt.val * 4 + ri.val)) * 16 + (N.val % 64 - colStart c.val), by omega⟩ (Fin.ext ?_)
      unfold place
      dsimp
      omega)] at hb
    have e : T (ix4 tt h (x 1) N) = ⊥ := by
      rw [← hb, hp]
      exact congrArg (fun i => T (ix4 tt h _ i)) (Fin.ext (by dsimp; omega))
    exact (congrArg (fun z => _ + z) e).trans (EReal.add_bot _)
  · obtain ⟨z, hz⟩ := real n
    exact EReal.coe_ne_top z (hz.symm.trans e)
  · obtain ⟨z, hz⟩ := real 0
    exact EReal.coe_ne_bot z (hz.symm.trans e)

variable (m : (ℓ : Loc nD τ sig) → Buf (Elt Ideal) ℓ)

/-- Where each window stands at each grid point. -/
theorem idx : ∀ t : Fin cfg0.N, win0_0.index t = ![0, t.val % 32, t.val / 32]
    ∧ win0_1.index t = ![0, min (2 * (t.val % 32) - 1) 60, 16 + t.val / 32] ∧ win0_2.index t = ![0, min (2 * (t.val % 32) - 1) 60 + 1, 16 + t.val / 32]
    ∧ win0_3.index t = ![0, min (2 * (t.val % 32) - 1) 60 + 2, 16 + t.val / 32] ∧ win0_4.index t = ![0, min (2 * (t.val % 32) - 1) 60 + 3, 16 + t.val / 32]
    ∧ win0_5.index t = ![0, min (2 * (t.val % 32) - 1) 60, 32 + t.val / 32] ∧ win0_6.index t = ![0, min (2 * (t.val % 32) - 1) 60 + 1, 32 + t.val / 32]
    ∧ win0_7.index t = ![0, min (2 * (t.val % 32) - 1) 60 + 2, 32 + t.val / 32] ∧ win0_8.index t = ![0, min (2 * (t.val % 32) - 1) 60 + 3, 32 + t.val / 32]
    ∧ win0_9.index t = ![if t.val % 32 = 0 then 0 else if t.val % 32 = 31 then 2 else 1, t.val / 32, 0, 0]
    ∧ win0_10.index t = ![0, t.val % 32, t.val / 32] ∧ t.val < 512 :=
  (by decide +kernel : ∀ t : Fin grid0.N, _)

/-- The queries, keys and values of a run, side by side. -/
abbrev QKV (c : Dev nD) : FVec Ideal S1x16384x6144 .bf16 := m ((c : Thread nD τ).loc main_arg0)

/-- The bias of a run. -/
abbrev RPB (c : Dev nD) : FVec Ideal S16x15x31 .f32 := m ((c : Thread nD τ).loc main_arg1)

/-- The reference's result, over the kernel's argument arrays. -/
abbrev REF (c : Dev nD) : FVec Ideal S1x16384x2048 .bf16 := val_main_v98 (F := Ideal) (QKV m c) (RPB m c)

/-- The bias table a run builds. -/
abbrev TABLE (c : Dev nD) : S3x16x512x1024.Idx → EReal := V m c main_v266

theorem table_run (c : Dev nD) : IsTable (RPB m c) (TABLE m c) := fun tt h ri cc kr kc => by
  have e : TABLE m c = StableHlo.after opsB (StableHlo.after opsA fun b => m (c, b)) main_v266 := by
    rw [← StableHlo.after_append]; rfl
  rw [e]
  exact table_at (σ := fun b => m (c, b)) (RPB m c) rfl tt h ri cc kr kc

theorem blk0 (c : Dev nD) (t : Fin cfg0.N) (p : Fin 512) (d : Fin 128) : iblk m c 0 t (ix3 0 p d)
    = QKV m c (ix3 0 ⟨t.val % 32 * 512 + p.val, by omega⟩ ⟨t.val / 32 * 128 + d.val, by have := (idx t).2.2.2.2.2.2.2.2.2.2.2; omega⟩) := by
  have ht := (idx t).2.2.2.2.2.2.2.2.2.2.2
  blk_simp [iblk]
  rw [V_main_arg0]
  exact congrArg (QKV m c) (by blk_ext [idx t])

theorem blk1 (c : Dev nD) (t : Fin cfg0.N) (n : Fin 256) (d : Fin 128) : iblk m c 1 t (ix3 0 n d)
    = QKV m c (ix3 0 ⟨min (2 * (t.val % 32) - 1) 60 * 256 + n.val, by omega⟩ ⟨2048 + t.val / 32 * 128 + d.val, by have := (idx t).2.2.2.2.2.2.2.2.2.2.2; omega⟩) := by
  have ht := (idx t).2.2.2.2.2.2.2.2.2.2.2
  blk_simp [iblk]
  rw [V_main_arg0]
  exact congrArg (QKV m c) (by blk_ext [idx t])

theorem blk2 (c : Dev nD) (t : Fin cfg0.N) (n : Fin 256) (d : Fin 128) : iblk m c 2 t (ix3 0 n d)
    = QKV m c (ix3 0 ⟨min (2 * (t.val % 32) - 1) 60 * 256 + (256 + n.val), by omega⟩ ⟨2048 + t.val / 32 * 128 + d.val, by have := (idx t).2.2.2.2.2.2.2.2.2.2.2; omega⟩) := by
  have ht := (idx t).2.2.2.2.2.2.2.2.2.2.2
  blk_simp [iblk]
  rw [V_main_arg0]
  exact congrArg (QKV m c) (by blk_ext [idx t])

theorem blk3 (c : Dev nD) (t : Fin cfg0.N) (n : Fin 256) (d : Fin 128) : iblk m c 3 t (ix3 0 n d)
    = QKV m c (ix3 0 ⟨min (2 * (t.val % 32) - 1) 60 * 256 + (512 + n.val), by omega⟩ ⟨2048 + t.val / 32 * 128 + d.val, by have := (idx t).2.2.2.2.2.2.2.2.2.2.2; omega⟩) := by
  have ht := (idx t).2.2.2.2.2.2.2.2.2.2.2
  blk_simp [iblk]
  rw [V_main_arg0]
  exact congrArg (QKV m c) (by blk_ext [idx t])

theorem blk4 (c : Dev nD) (t : Fin cfg0.N) (n : Fin 256) (d : Fin 128) : iblk m c 4 t (ix3 0 n d)
    = QKV m c (ix3 0 ⟨min (2 * (t.val % 32) - 1) 60 * 256 + (768 + n.val), by omega⟩ ⟨2048 + t.val / 32 * 128 + d.val, by have := (idx t).2.2.2.2.2.2.2.2.2.2.2; omega⟩) := by
  have ht := (idx t).2.2.2.2.2.2.2.2.2.2.2
  blk_simp [iblk]
  rw [V_main_arg0]
  exact congrArg (QKV m c) (by blk_ext [idx t])

theorem blk5 (c : Dev nD) (t : Fin cfg0.N) (n : Fin 256) (d : Fin 128) : iblk m c 5 t (ix3 0 n d)
    = QKV m c (ix3 0 ⟨min (2 * (t.val % 32) - 1) 60 * 256 + n.val, by omega⟩ ⟨4096 + t.val / 32 * 128 + d.val, by have := (idx t).2.2.2.2.2.2.2.2.2.2.2; omega⟩) := by
  have ht := (idx t).2.2.2.2.2.2.2.2.2.2.2
  blk_simp [iblk]
  rw [V_main_arg0]
  exact congrArg (QKV m c) (by blk_ext [idx t])

theorem blk6 (c : Dev nD) (t : Fin cfg0.N) (n : Fin 256) (d : Fin 128) : iblk m c 6 t (ix3 0 n d)
    = QKV m c (ix3 0 ⟨min (2 * (t.val % 32) - 1) 60 * 256 + (256 + n.val), by omega⟩ ⟨4096 + t.val / 32 * 128 + d.val, by have := (idx t).2.2.2.2.2.2.2.2.2.2.2; omega⟩) := by
  have ht := (idx t).2.2.2.2.2.2.2.2.2.2.2
  blk_simp [iblk]
  rw [V_main_arg0]
  exact congrArg (QKV m c) (by blk_ext [idx t])

theorem blk7 (c : Dev nD) (t : Fin cfg0.N) (n : Fin 256) (d : Fin 128) : iblk m c 7 t (ix3 0 n d)
    = QKV m c (ix3 0 ⟨min (2 * (t.val % 32) - 1) 60 * 256 + (512 + n.val), by omega⟩ ⟨4096 + t.val / 32 * 128 + d.val, by have := (idx t).2.2.2.2.2.2.2.2.2.2.2; omega⟩) := by
  have ht := (idx t).2.2.2.2.2.2.2.2.2.2.2
  blk_simp [iblk]
  rw [V_main_arg0]
  exact congrArg (QKV m c) (by blk_ext [idx t])

theorem blk8 (c : Dev nD) (t : Fin cfg0.N) (n : Fin 256) (d : Fin 128) : iblk m c 8 t (ix3 0 n d)
    = QKV m c (ix3 0 ⟨min (2 * (t.val % 32) - 1) 60 * 256 + (768 + n.val), by omega⟩ ⟨4096 + t.val / 32 * 128 + d.val, by have := (idx t).2.2.2.2.2.2.2.2.2.2.2; omega⟩) := by
  have ht := (idx t).2.2.2.2.2.2.2.2.2.2.2
  blk_simp [iblk]
  rw [V_main_arg0]
  exact congrArg (QKV m c) (by blk_ext [idx t])

theorem blk9 (c : Dev nD) (t : Fin cfg0.N) (p : Fin 512) (N : Fin 1024) : iblk m c 9 t (ix4 0 0 p N)
    = TABLE m c (ix4 ⟨if t.val % 32 = 0 then 0 else if t.val % 32 = 31 then 2 else 1, by split_ifs <;> omega⟩
        ⟨t.val / 32, by have := (idx t).2.2.2.2.2.2.2.2.2.2.2; omega⟩ p N) := by
  have ht := (idx t).2.2.2.2.2.2.2.2.2.2.2
  blk_simp [iblk]
  exact congrArg (TABLE m c) (by blk_ext [idx t])

theorem ld_q (x : Vec Ideal S1x512x128 .bf16) (p : Fin 512) (d : Fin 128) : View.ld x r0_0 (ix3 0 p d) = x (ix3 0 p d) := by pointwise
theorem ld_k (x : Vec Ideal S1x256x128 .bf16) (n : Fin 256) (d : Fin 128) : View.ld x r0_1 (ix3 0 n d) = x (ix3 0 n d) := by pointwise
theorem ld_b (x : Vec Ideal S1x1x512x1024 .f32) (p : Fin 512) (N : Fin 1024) : View.ld x r0_2 (ix4 0 0 p N) = x (ix4 0 0 p N) := by pointwise

set_option maxHeartbeats 2000000 in
/-- The result array after the run is the reference's result, at real queries, keys and bias. -/
theorem final (c : Dev nD) (hX : ∀ (i : Fin 16384) (j : Fin 4096), ∃ r : ℝ, QKV m c (ix3 0 i ⟨j.val, by omega⟩) = (r : EReal))
    (hB : ∀ i, ∃ r : ℝ, RPB m c i = (r : EReal)) : (dats m 0 c).arrAt 10 (cfgs 0).N = REF m c := by
  refine (dats m 0 c).arrAt_eq_of_covers 10 _ (by decide +kernel) fun t _ y => ?_
  blk_simp
  rw [after0_10]
  unfold REF
  have ht : t.val < 512 := (idx t).2.2.2.2.2.2.2.2.2.2.2
  unfold out0_10
  canon_tiles x h
  refine point_eq (QKV m c) (RPB m c) (TABLE m c) (table_run m c) hX hB ⟨t.val % 32, by omega⟩ ⟨t.val / 32, by omega⟩
    ⟨if t.val % 32 = 0 then 0 else if t.val % 32 = 31 then 2 else 1, by split_ifs <;> omega⟩ rfl _ _ _ _ _ _ _ _ _ _
    (fun p d => (ld_q _ p d).trans (blk0 m c t p d))
    (fun n d => (ld_k _ n d).trans (blk1 m c t n d)) (fun n d => (ld_k _ n d).trans (blk2 m c t n d))
    (fun n d => (ld_k _ n d).trans (blk3 m c t n d)) (fun n d => (ld_k _ n d).trans (blk4 m c t n d))
    (fun n d => (ld_k _ n d).trans (blk5 m c t n d)) (fun n d => (ld_k _ n d).trans (blk6 m c t n d))
    (fun n d => (ld_k _ n d).trans (blk7 m c t n d)) (fun n d => (ld_k _ n d).trans (blk8 m c t n d))
    (fun p N => (ld_b _ p N).trans (blk9 m c t p N)) x _ ?_ ?_
  · blk_simp [idx t] <;> (try dsimp) <;> omega
  · blk_simp [idx t] <;> (try dsimp) <;> omega

/-- A number whose absolute value is below infinity is a real number. -/
theorem real_of_abs_lt (x : EReal)
    (h : BitVec.ofBool (decide (FloatOps.absf (F := Ideal) (φ := .f32) x < Ideal.ofBits .f32 0x7F800000#32)) = 1#1) :
    ∃ r : ℝ, x = r := by
  have e : Ideal.ofBits .f32 0x7F800000#32 = ⊤ := by simp [Ideal.ofBits, Ideal.ieee]
  have h' : max x (-x) < ⊤ := by
    by_contra hc
    have : decide (FloatOps.absf (F := Ideal) (φ := .f32) x < Ideal.ofBits .f32 0x7F800000#32) = false := by
      rw [e]; exact decide_eq_false hc
    rw [this] at h
    exact absurd h (by decide)
  induction x with
  | bot => simp at h'
  | top => simp at h'
  | coe r => exact ⟨r, rfl⟩

/-- The precondition's first half: every query and every key is a real number. -/
theorem real_qk [Cert.Pre_finite_scores.Facts] (X : Vec Ideal S1x16384x6144 .bf16) (B : Vec Ideal S16x15x31 .f32)
    (h : (Cert.Pre_finite_scores.fn (F := Ideal) X B).1 = fun _ => 1#1) (i : Fin 16384) (j : Fin 4096) :
    ∃ r : ℝ, X (ix3 0 i ⟨j.val, by omega⟩) = (r : EReal) := by
  refine real_of_abs_lt _ ?_
  have := congrFun h (ix3 0 i j)
  pointwise [Cert.Pre_finite_scores.fn] at this
  exact this

/-- The precondition's second half: every entry of the bias is a real number. -/
theorem real_b [Cert.Pre_finite_scores.Facts] (X : Vec Ideal S1x16384x6144 .bf16) (B : Vec Ideal S16x15x31 .f32)
    (h : (Cert.Pre_finite_scores.fn (F := Ideal) X B).2 = fun _ => 1#1) (i : S16x15x31.Idx) : ∃ r : ℝ, B i = (r : EReal) :=
  real_of_abs_lt _ (congrFun h i)

end Cert.NattenIdeal.Value

end
-- ==== Proof.Ffn1.lean ====
module

public import proofs.«01_k».proof.Proof.Gen.Ffn1Ideal.Value
public import proofs.«01_k».proof.Proof.Gen.Ffn1RefIdeal.Read
public import Idealize.ShloMosaic.Lib.Pipeline.ValueKit
public import Idealize.ShloMosaic.Lib.WritesUnit

@[expose] public section

set_option maxRecDepth 16384

noncomputable section

namespace Cert.Ffn1Ideal.Value

open Cert.Ffn1Ideal Cert.Ffn1Ideal.Gen Idealize.ShloMosaic Idealize.ShloMosaic.TcCoe Idealize.SL.Sem
open Idealize.ShloMosaic.Pipeline (Dat)
open Cert.Ffn1RefIdeal.Read

variable (m : (ℓ : Loc nD τ sig) → Buf (Elt Ideal) ℓ)

/-- The root mean square norm of a row, times its scale. -/
def norm (o : Fin 4096 → EReal) (g : Fin 4096 → EReal) (q : Fin 4096) : EReal :=
  o q * Ideal.rsqrt (Ideal.div (∑ j : Fin 4096, o j * o j)
        (Ideal.ofBits FTy.f32 1166016512#32) + Ideal.ofBits FTy.f32 897988541#32) * g q

section Loops

variable (𝒱 : Variants) (c : Dev nD) (bd : Option 𝒱.V) (i : grid0.Coords) (arg2 : Memref sig .tc .vmem S512x4096 .f32) (harg2 : arg2.IsWhole) (arg3 : Memref sig .tc .vmem S1x4096 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S512x4096 .f32) (harg9 : arg9.IsWhole) (arg10 : Memref sig .tc .vmem S512x4096 .bf16) (harg10 : arg10.IsWhole)

/-- A trip of the first loop stores 64 rows of zeros in the result and 64 normed rows in the scratch. -/
theorem trip1 (k0_h1 : k0_cond1 i = 1#1) (x2 : BufTy.Contents (Elt Ideal) arg2.view.ty) (x3 : BufTy.Contents (Elt Ideal) arg3.view.ty) (k : Fin k0_t1_loop.trips) :
    tripL_k0_t1 (F := Ideal) 𝒱 c bd i arg2 harg2 arg3 harg3 arg4 harg4 arg5 harg5 arg6 harg6 arg7 harg7 arg8 harg8 arg9 harg9 arg10 harg10 k0_h1 x2 x3 k
      = ([⟨Rect.unit (s := S512x4096) (k0_off1 k) ![64, 4096] (k0_off1_inb i k k0_h1), (k0_pay2 (F := Ideal))⟩],
         [⟨Rect.unit (s := S512x4096) (k0_off1 k) ![64, 4096] (k0_off1_inb i k k0_h1), k0_pay1 (F := Ideal)
          (View.readAt (Elt Ideal) arg2.view (Rect.unit (s := S512x4096) (k0_off1 k) ![64, 4096] (k0_off1_inb i k k0_h1)).toLoadRect x2)
          (View.readAt (Elt Ideal) arg3.view (Rect.unit (s := S1x4096) ![0, 0] ![1, 4096] inb_S1x4096_S1x4096_0_0).toLoadRect x3)⟩]) := by
  unfold tripL_k0_t1 trip_k0_t1
  rfl

/-- A trip of the second loop stores one piece: its 64 rows of the result. -/
theorem trip2 (k0_h2 : k0_cond2 i = 1#1) (x2 : BufTy.Contents (Elt Ideal) arg2.view.ty) (x7 : BufTy.Contents (Elt Ideal) arg7.view.ty)  (k : Fin k0_t2_loop.trips) (f : BufTy.Contents (Elt Ideal) arg9.view.ty) :
    tripL_k0_t2 (F := Ideal) 𝒱 c bd i arg2 harg2 arg3 harg3 arg4 harg4 arg5 harg5 arg6 harg6 arg7 harg7 arg8 harg8 arg9 harg9 arg10 harg10 k0_h2 x2 x7  k f
      = [⟨Rect.unit (s := S512x4096) (k0_off2 k) ![64, 4096] (k0_off2_inb i k k0_h2),
          k0_pay4
          (View.readAt (Elt Ideal) arg2.view (Rect.unit (s := S512x4096) (k0_off2 k) ![64, 4096] (k0_off2_inb i k k0_h2)).toLoadRect x2)
          (View.readAt (Elt Ideal) arg9.view (Rect.unit (s := S512x4096) (k0_off2 k) ![64, 4096] (k0_off2_inb i k k0_h2)).toLoadRect f)
          (View.readAt (Elt Ideal) arg7.view (Rect.unit (s := S1x4096) ![0, 0] ![1, 4096] inb_S1x4096_S1x4096_0_0).toLoadRect x7)⟩] := by
  unfold tripL_k0_t2 trip_k0_t2
  rfl

/-- After n trips of the first loop the first 64 n rows are zero. -/
theorem zeros (k0_h1 : k0_cond1 i = 1#1) (x2 : BufTy.Contents (Elt Ideal) arg2.view.ty) (x3 : BufTy.Contents (Elt Ideal) arg3.view.ty) (f : BufTy.Contents (Elt Ideal) arg9.view.ty) :
    ∀ n, n ≤ k0_t1_loop.trips → ∀ (p : Fin 512) (q : Fin 4096), p.val < 64 * n →
      arg9.view.read (Elt Ideal) (arg9.view.writes (Elt Ideal) f (pb_k0_t1 (F := Ideal) 𝒱 c bd i arg2 harg2 arg3 harg3 arg4 harg4 arg5 harg5 arg6 harg6 arg7 harg7 arg8 harg8 arg9 harg9 arg10 harg10 k0_h1 x2 x3 n).1) (ValueIdx.ix2 p q) = (0 : EReal) := by
  intro n
  induction n with
  | zero => intro _ p q hy; omega
  | succ n ih =>
    intro hn p q hy
    rw [pb_k0_t1_succ _ _ _ _ _ _ _ _ _ _ _ _ _ _ _ _ _ _ _ _ _ _ k0_h1 _ _ ⟨n, hn⟩, trip1]
    dsimp only
    rw [List.singleton_append]
    by_cases h : p.val < 64 * n
    · exact (View.read_writes_cons_rows_of_not_mem (W := 64) _ _ _ _ _ (ValueIdx.ix2 p q) (k0_off1_eq ⟨n, hn⟩) rfl (Or.inl h)).trans (ih (by omega) p q h)
    · refine (View.read_writes_cons_rows_of_mem _ _ _ _ _ (ValueIdx.ix2 p q) (ValueIdx.ix2 (⟨p.val - 64 * n, by omega⟩ : Fin 64) q) (k0_off1_eq ⟨n, hn⟩) (by show p.val = 64 * n + (p.val - 64 * n); omega) rfl).trans ?_
      pointwise [k0_pay2]

/-- After n trips of the first loop the first 64 n rows of the scratch are normed. -/
theorem normedIn (k0_h1 : k0_cond1 i = 1#1) (x2 : BufTy.Contents (Elt Ideal) arg2.view.ty) (x3 : BufTy.Contents (Elt Ideal) arg3.view.ty) (v : View sig .tc .vmem S512x4096 .bf16) (f : BufTy.Contents (Elt Ideal) v.ty) :
    ∀ n, n ≤ k0_t1_loop.trips → ∀ (p : Fin 512) (q : Fin 4096), p.val < 64 * n →
      v.read (Elt Ideal) (v.writes (Elt Ideal) f (pb_k0_t1 (F := Ideal) 𝒱 c bd i arg2 harg2 arg3 harg3 arg4 harg4 arg5 harg5 arg6 harg6 arg7 harg7 arg8 harg8 arg9 harg9 arg10 harg10 k0_h1 x2 x3 n).2) (ValueIdx.ix2 p q)
        = norm (fun j => arg2.view.read (Elt Ideal) x2 (ValueIdx.ix2 p j)) (fun j => arg3.view.read (Elt Ideal) x3 (ValueIdx.ix2 (0 : Fin 1) j)) q := by
  intro n
  induction n with
  | zero => intro _ p q hy; omega
  | succ n ih =>
    intro hn p q hy
    rw [pb_k0_t1_succ _ _ _ _ _ _ _ _ _ _ _ _ _ _ _ _ _ _ _ _ _ _ k0_h1 _ _ ⟨n, hn⟩, trip1]
    dsimp only
    rw [List.singleton_append]
    by_cases h : p.val < 64 * n
    · exact (View.read_writes_cons_rows_of_not_mem (W := 64) _ _ _ _ _ (ValueIdx.ix2 p q) (k0_off1_eq ⟨n, hn⟩) rfl (Or.inl h)).trans (ih (by omega) p q h)
    · obtain ⟨r, hr⟩ : ∃ r : Fin 64, p.val = 64 * n + r.val := ⟨⟨p.val - 64 * n, by omega⟩, by show p.val = 64 * n + (p.val - 64 * n); omega⟩
      refine (View.read_writes_cons_rows_of_mem _ _ _ _ _ (ValueIdx.ix2 p q) (ValueIdx.ix2 r q) (k0_off1_eq ⟨n, hn⟩) hr rfl).trans ?_
      have hat : ∀ (j : Fin 4096) (a : Fin S512x4096.rank), ((ValueIdx.ix2 p j : S512x4096.Idx) a : Nat) = k0_off1 ⟨n, hn⟩ a + (ValueIdx.ix2 r j : S64x4096.Idx) a := by
        intro j a
        rw [k0_off1_eq]
        match a with
        | 0 => exact hr
        | 1 => exact (Nat.zero_add _).symm
      have hx : ∀ j : Fin 4096, View.readAt (Elt Ideal) arg2.view (Rect.unit (s := S512x4096) (k0_off1 ⟨n, hn⟩) ![64, 4096] (k0_off1_inb i ⟨n, hn⟩ k0_h1)).toLoadRect
          x2 (ValueIdx.ix2 r j)
          = arg2.view.read (Elt Ideal) x2 (ValueIdx.ix2 p j) := by
        intro j
        rw [View.readAt_eq_ld]
        exact View.ld_unit_apply_of _ _ _ _ _ (ValueIdx.ix2 p j) (hat j)
      have hg : View.readAt (Elt Ideal) arg3.view (Rect.unit (s := S1x4096) ![0, 0] ![1, 4096] inb_S1x4096_S1x4096_0_0).toLoadRect x3
          = arg3.view.read (Elt Ideal) x3 := by
        rw [View.readAt_eq_ld]
        exact View.ld_unit_lit _ _ (by decide)
      rw [hg]
      generalize View.readAt (Elt Ideal) arg2.view _ _ = x at hx ⊢
      unfold norm
      simp only [← hx]
      pointwise [k0_pay1]
      rfl

/-- The first 64 n rows of the scratch lie in what n trips of the first loop store. -/
theorem coverIn (k0_h1 : k0_cond1 i = 1#1) (x2 : BufTy.Contents (Elt Ideal) arg2.view.ty) (x3 : BufTy.Contents (Elt Ideal) arg3.view.ty) :
    ∀ n, n ≤ k0_t1_loop.trips → ∀ (p : Fin 512) (q : Fin 4096), p.val < 64 * n →
      ∃ pc ∈ (pb_k0_t1 (F := Ideal) 𝒱 c bd i arg2 harg2 arg3 harg3 arg4 harg4 arg5 harg5 arg6 harg6 arg7 harg7 arg8 harg8 arg9 harg9 arg10 harg10 k0_h1 x2 x3 n).2, (ValueIdx.ix2 p q : S512x4096.Idx) ∈ pc.1.set := by
  intro n
  induction n with
  | zero => intro _ p q hy; omega
  | succ n ih =>
    intro hn p q hy
    rw [pb_k0_t1_succ _ _ _ _ _ _ _ _ _ _ _ _ _ _ _ _ _ _ _ _ _ _ k0_h1 _ _ ⟨n, hn⟩, trip1]
    dsimp only
    rw [List.singleton_append]
    by_cases h : p.val < 64 * n
    · obtain ⟨pc, h1, h2⟩ := ih (by omega) p q h
      exact ⟨pc, List.mem_cons_of_mem _ h1, h2⟩
    · refine ⟨_, List.mem_cons_self, (Rect.mem_set_unit (inb := k0_off1_inb i ⟨n, hn⟩ k0_h1)).2 fun a => ?_⟩
      rw [k0_off1_eq]
      match a with
      | 0 => exact ⟨by show 64 * n ≤ p.val; omega, by show p.val < 64 * n + 64; omega⟩
      | 1 => exact ⟨Nat.zero_le _, by show q.val < 0 + 4096; omega⟩

/-- What the second loop makes of an element: the residual plus half the normed row. -/
def res (x o : S512x4096.Idx → EReal) (g : S1x4096.Idx → EReal) (p : Fin 512) (q : Fin 4096) : EReal :=
  x (ValueIdx.ix2 p q) + Ideal.ofBits FTy.f32 1056964608#32 * norm (fun j => o (ValueIdx.ix2 p j)) (fun j => g (ValueIdx.ix2 (0 : Fin 1) j)) q

/-- … which is the result. -/
abbrev rms (x o : S512x4096.Idx → EReal) (g : S1x4096.Idx → EReal) (p : Fin 512) (q : Fin 4096) : EReal := res x o g p q

/-- After n trips of the second loop the first 64 n rows hold the result and the others what they held. -/
theorem normed (k0_h2 : k0_cond2 i = 1#1) (x2 : BufTy.Contents (Elt Ideal) arg2.view.ty) (x7 : BufTy.Contents (Elt Ideal) arg7.view.ty)  (f : BufTy.Contents (Elt Ideal) arg9.view.ty) :
    ∀ n, n ≤ k0_t2_loop.trips → ∀ (p : Fin 512) (q : Fin 4096),
      arg9.view.read (Elt Ideal) (arg9.view.writes (Elt Ideal) f (pb_k0_t2 (F := Ideal) 𝒱 c bd i arg2 harg2 arg3 harg3 arg4 harg4 arg5 harg5 arg6 harg6 arg7 harg7 arg8 harg8 arg9 harg9 arg10 harg10 k0_h2 x2 x7  f n)) (ValueIdx.ix2 p q)
       = if p.val < 64 * n then rms (arg2.view.read (Elt Ideal) x2) (arg9.view.read (Elt Ideal) f) (arg7.view.read (Elt Ideal) x7)  p q
         else arg9.view.read (Elt Ideal) f (ValueIdx.ix2 p q) := by
  intro n
  induction n with
  | zero => intro _ p q; rfl
  | succ n ih =>
    intro hn p q
    rw [pb_k0_t2_succ _ _ _ _ _ _ _ _ _ _ _ _ _ _ _ _ _ _ _ _ _ _ k0_h2 _ _  _ ⟨n, hn⟩, trip2, List.singleton_append]
    by_cases h : p.val < 64 * n
    · refine (View.read_writes_cons_rows_of_not_mem (W := 64) _ _ _ _ _ (ValueIdx.ix2 p q) (k0_off2_eq ⟨n, hn⟩) rfl (Or.inl h)).trans ?_
      refine (ih (by omega) p q).trans ?_
      rw [if_pos h, if_pos (by omega)]
    · by_cases h' : p.val < 64 * (n + 1)
      · obtain ⟨r, hr⟩ : ∃ r : Fin 64, p.val = 64 * n + r.val := ⟨⟨p.val - 64 * n, by omega⟩, by show p.val = 64 * n + (p.val - 64 * n); omega⟩
        refine (View.read_writes_cons_rows_of_mem _ _ _ _ _ (ValueIdx.ix2 p q) (ValueIdx.ix2 r q) (k0_off2_eq ⟨n, hn⟩) hr rfl).trans ?_
        rw [if_pos h']
        have hat : ∀ (j : Fin 4096) (a : Fin S512x4096.rank), ((ValueIdx.ix2 p j : S512x4096.Idx) a : Nat) = k0_off2 ⟨n, hn⟩ a + (ValueIdx.ix2 r j : S64x4096.Idx) a := by
          intro j a
          rw [k0_off2_eq]
          match a with
          | 0 => exact hr
          | 1 => exact (Nat.zero_add _).symm
        have hrow : ∀ j : Fin 4096, View.readAt (Elt Ideal) arg9.view (Rect.unit (s := S512x4096) (k0_off2 ⟨n, hn⟩) ![64, 4096] (k0_off2_inb i ⟨n, hn⟩ k0_h2)).toLoadRect
            (arg9.view.writes (Elt Ideal) f (pb_k0_t2 (F := Ideal) 𝒱 c bd i arg2 harg2 arg3 harg3 arg4 harg4 arg5 harg5 arg6 harg6 arg7 harg7 arg8 harg8 arg9 harg9 arg10 harg10 k0_h2 x2 x7  f n)) (ValueIdx.ix2 r j)
            = arg9.view.read (Elt Ideal) f (ValueIdx.ix2 p j) := by
          intro j
          rw [View.readAt_eq_ld]
          exact (View.ld_unit_apply_of _ _ _ _ _ (ValueIdx.ix2 p j) (hat j)).trans ((ih (by omega) p j).trans (if_neg h))
        have hx : ∀ j : Fin 4096, View.readAt (Elt Ideal) arg2.view (Rect.unit (s := S512x4096) (k0_off2 ⟨n, hn⟩) ![64, 4096] (k0_off2_inb i ⟨n, hn⟩ k0_h2)).toLoadRect
            x2 (ValueIdx.ix2 r j)
            = arg2.view.read (Elt Ideal) x2 (ValueIdx.ix2 p j) := by
          intro j
          rw [View.readAt_eq_ld]
          exact View.ld_unit_apply_of _ _ _ _ _ (ValueIdx.ix2 p j) (hat j)
        have hg : View.readAt (Elt Ideal) arg7.view (Rect.unit (s := S1x4096) ![0, 0] ![1, 4096] inb_S1x4096_S1x4096_0_0).toLoadRect x7
            = arg7.view.read (Elt Ideal) x7 := by
          rw [View.readAt_eq_ld]
          exact View.ld_unit_lit _ _ (by decide)

        rw [hg]
        dsimp only
        generalize View.readAt (Elt Ideal) arg9.view _ _ = o at hrow ⊢
        generalize View.readAt (Elt Ideal) arg2.view _ _ = x at hx ⊢
        unfold rms res norm
        simp only [← hrow, ← hx]
        pointwise [k0_pay4]
        rfl
      · refine (View.read_writes_cons_rows_of_not_mem (W := 64) _ _ _ _ _ (ValueIdx.ix2 p q) (k0_off2_eq ⟨n, hn⟩) rfl (Or.inr (by show 64 * n + 64 ≤ p.val; omega))).trans ?_
        refine (ih (by omega) p q).trans ?_
        rw [if_neg h, if_neg h']

end Loops

/-- One point's blocks of the weights. -/
abbrev bG (c : Dev nD) (t : Fin cfg0.N) : S4096x256.Idx → EReal := iblk m c 2 t
abbrev bU (c : Dev nD) (t : Fin cfg0.N) : S4096x256.Idx → EReal := iblk m c 3 t
abbrev bD (c : Dev nD) (t : Fin cfg0.N) : S256x4096.Idx → EReal := iblk m c 4 t

/-- What the gate and the up projection make of one hidden unit. -/
def act (a b : EReal) : EReal := a * Ideal.div 1 (1 + Ideal.exp (0 - a)) * b

/-- One point's part of the down projection. -/
def part (c : Dev nD) (t : Fin cfg0.N) (h : S512x4096.Idx → EReal) (p : Fin 512) (q : Fin 4096) : EReal :=
  ∑ k : Fin 256, act (∑ l : Fin 4096, h (ValueIdx.ix2 p l) * bG m c t (ValueIdx.ix2 l k)) (∑ l : Fin 4096, h (ValueIdx.ix2 p l) * bU m c t (ValueIdx.ix2 l k)) * bD m c t (ValueIdx.ix2 k q)

/-- One step adds its part to what the result holds. -/
theorem step (c : Dev nD) (t : Fin cfg0.N) (h : S512x4096.Idx → EReal) (o : S512x4096.Idx → EReal) (p : Fin 512) (q : Fin 4096) :
    k0_pay3 (F := Ideal) h (iblk m c 2 t) (iblk m c 3 t) o (iblk m c 4 t) (ValueIdx.ix2 p q) = o (ValueIdx.ix2 p q) + part m c t h p q := by
  unfold part act
  pointwise [k0_pay3]
  rfl

theorem outB (c : Dev nD) (t : Fin cfg0.N) (h0 : ¬t.val % 43 = 0) (h1 : ¬t.val % 43 = 42) (hp : t.val - 1 < cfg0.N) (p : Fin 512) (q : Fin 4096) :
    (outsAt0 m c t.val t.isLt).1 (ValueIdx.ix2 p q) = ((outsAt0 m c (t.val - 1) hp).1 (ValueIdx.ix2 p q) : EReal) + part m c t (outsAt0 m c (t.val - 1) hp).2 p q := by
  rw [outsAt0_B m c t h0 h1]; frame_out
  refine (step m c t _ _ p q).trans ?_
  have hs : scM0_0.view.read (Elt Ideal) ((Memref.isWhole_whole _ : scM0_0.IsWhole).unread (outsAt0 m c (t.val - 1) hp).2) = (outsAt0 m c (t.val - 1) hp).2 :=
    Memref.IsWhole.read_unread _ _
  exact congrArg (fun h => ((outsAt0 m c (t.val - 1) hp).1 (ValueIdx.ix2 p q) : EReal) + part m c t h p q) hs

theorem keepB (c : Dev nD) (t : Fin cfg0.N) (h0 : ¬t.val % 43 = 0) (h1 : ¬t.val % 43 = 42) (hp : t.val - 1 < cfg0.N) :
    (outsAt0 m c t.val t.isLt).2 = (outsAt0 m c (t.val - 1) hp).2 := by
  rw [outsAt0_B m c t h0 h1]
  rfl

/-- The normed rows a row block's points share. -/
def hid (c : Dev nD) (t : Fin cfg0.N) : S512x4096.Idx → EReal :=
  fun y => norm (fun j => iblk m c 0 t (ValueIdx.ix2 (y 0) j)) (fun j => iblk m c 1 t (ValueIdx.ix2 (0 : Fin 1) j)) (y 1)

theorem keepA (c : Dev nD) (t : Fin cfg0.N) (h0 : t.val % 43 = 0) (h1 : ¬t.val % 43 = 42) :
    (outsAt0 m c t.val t.isLt).2 = hid m c t := by
  funext y
  obtain ⟨p, q, rfl⟩ : ∃ (p : Fin 512) (q : Fin 4096), (ValueIdx.ix2 p q : S512x4096.Idx) = y := ⟨y 0, y 1, funext fun a => by match a with | 0 => rfl | 1 => rfl⟩
  rw [outsAt0_A m c t h0 h1]
  dsimp only
  frame_out
  have h8 : Scf.trips (0#32) (Scalar.addi 0#32 8#32) 1#32 = 8 := by decide +kernel
  rw [h8]
  rw [← View.read_writes_apply_eq_canon scM0_0.view scM0_0.view.junk (ValueIdx.ix2 p q) _ (coverIn _ _ _ _ _ _ _ _ _ _ _ _ _ _ _ _ _ _ _ _ _ _ _ _ _ 8 (by decide +kernel) p q (by omega))]
  refine (normedIn _ _ _ _ _ _ _ _ _ _ _ _ _ _ _ _ _ _ _ _ _ _ _ _ _ _ _ 8 (by decide +kernel) p q (by omega)).trans ?_
  rw [Memref.IsWhole.read_unread, Memref.IsWhole.read_unread]
  rfl

theorem outA (c : Dev nD) (t : Fin cfg0.N) (h0 : t.val % 43 = 0) (h1 : ¬t.val % 43 = 42) (p : Fin 512) (q : Fin 4096) :
    (outsAt0 m c t.val t.isLt).1 (ValueIdx.ix2 p q) = part m c t (hid m c t) p q := by
  rw [outsAt0_A m c t h0 h1]; frame_out
  refine (step m c t _ _ p q).trans ?_
  have h8 : Scf.trips (0#32) (Scalar.addi 0#32 8#32) 1#32 = 8 := by decide +kernel
  rw [h8]
  refine (congrArg (· + _) (?_ : _ = (0 : EReal))).trans ((zero_add _).trans (congrArg (fun h => part m c t h p q) ?_))
  · unfold View.readCov
    rw [View.readAt_eq_ld]
    refine (congrFun (View.ld_unit_lit _ _ (by decide)) _).trans ?_
    exact zeros _ _ _ _ _ _ _ _ _ _ _ _ _ _ _ _ _ _ _ _ _ _ _ _ _ _ 8 (by decide +kernel) p q (by omega)
  · funext y
    obtain ⟨p, q, rfl⟩ : ∃ (p : Fin 512) (q : Fin 4096), (ValueIdx.ix2 p q : S512x4096.Idx) = y := ⟨y 0, y 1, funext fun a => by match a with | 0 => rfl | 1 => rfl⟩
    unfold View.readCov
    rw [View.readAt_eq_ld]
    refine (congrFun (View.ld_unit_lit _ _ (by decide)) _).trans ?_
    refine (normedIn _ _ _ _ _ _ _ _ _ _ _ _ _ _ _ _ _ _ _ _ _ _ _ _ _ (View.whole cc0_scratch0) _ 8 (by decide +kernel) p q (by omega)).trans ?_
    rw [Memref.IsWhole.read_unread, Memref.IsWhole.read_unread]
    rfl

theorem covered (L : List (View.Piece (Elt Ideal) S512x4096 .f32)) (w : S512x4096.Idx → Elt Ideal .f32) (p : Fin 512) (q : Fin 4096) :
    ∃ pc ∈ L ++ [(⟨Rect.unit ![0, 0] ![512, 4096] inb_S512x4096_S512x4096_0_0, w⟩ : View.Piece (Elt Ideal) S512x4096 .f32)],
      (ValueIdx.ix2 p q : S512x4096.Idx) ∈ pc.1.set := by
  refine ⟨_, List.mem_append_right _ (List.mem_singleton.mpr rfl), (Rect.mem_set_unit (inb := inb_S512x4096_S512x4096_0_0)).2 fun a => ?_⟩
  match a with
  | 0 => exact ⟨Nat.zero_le _, by show p.val < 0 + 512; omega⟩
  | 1 => exact ⟨Nat.zero_le _, by show q.val < 0 + 4096; omega⟩

theorem outC (c : Dev nD) (t : Fin cfg0.N) (h0 : ¬t.val % 43 = 0) (h1 : t.val % 43 = 42) (hp : t.val - 1 < cfg0.N) (p : Fin 512) (q : Fin 4096) :
    (outsAt0 m c t.val t.isLt).1 (ValueIdx.ix2 p q) = rms (iblk m c 0 t) (fun y => ((outsAt0 m c (t.val - 1) hp).1 y : EReal) + part m c t (outsAt0 m c (t.val - 1) hp).2 (y 0) (y 1)) (iblk m c 5 t)  p q := by
  rw [outsAt0_C m c t h0 h1]; frame_out
  have h8 : Scf.trips (0#32) (Scalar.addi 0#32 8#32) 1#32 = 8 := by decide +kernel
  rw [h8]
  rw [← View.read_writes_apply_eq_canon (ms0_7 t).view (ms0_7 t).view.junk (ValueIdx.ix2 p q) _ (covered _ _ p q), View.writes_append]
  refine (normed _ _ _ _ _ _ _ _ _ _ _ _ _ _ _ _ _ _ _ _ _ _ _ _ _  _ 8 (by decide +kernel) p q).trans ?_
  rw [if_pos (by omega), Memref.IsWhole.read_unread, Memref.IsWhole.read_unread]
  have hs : scM0_0.view.read (Elt Ideal) ((Memref.isWhole_whole _ : scM0_0.IsWhole).unread (outsAt0 m c (t.val - 1) hp).2) = (outsAt0 m c (t.val - 1) hp).2 :=
    Memref.IsWhole.read_unread _ _
  have hacc : ∀ w : S512x4096.Idx → EReal, w = (outsAt0 m c (t.val - 1) hp).2 → (ms0_7 t).view.read (Elt Ideal) ((ms0_7 t).view.writes (Elt Ideal) (ms0_7 t).view.junk
            [⟨Rect.unit ![0, 0] ![512, 4096] inb_S512x4096_S512x4096_0_0,
                k0_pay3 (F := Ideal) w (iblk m c 2 t) (iblk m c 3 t) (outsAt0 m c (t.val - 1) hp).1 (iblk m c 4 t)⟩])
      = fun y => ((outsAt0 m c (t.val - 1) hp).1 y : EReal) + part m c t (outsAt0 m c (t.val - 1) hp).2 (y 0) (y 1) := by
    intro w hw
    funext y
    refine (View.read_writes_cons_unit_of_mem _ _ _ _ _ y y rfl fun a => by match a with | 0 => exact (Nat.zero_add _).symm | 1 => exact (Nat.zero_add _).symm).trans ?_
    obtain ⟨p, q, rfl⟩ : ∃ (p : Fin 512) (q : Fin 4096), (ValueIdx.ix2 p q : S512x4096.Idx) = y := ⟨y 0, y 1, funext fun a => by match a with | 0 => rfl | 1 => rfl⟩
    rw [← hw]
    exact step m c t w _ p q
  rw [hacc _ hs]

/-- Where each window stands at each grid point. -/
theorem idx : ∀ t : Fin cfg0.N, win0_0.index t = ![t.val / 43, 0] ∧ win0_1.index t = ![0, 0]
    ∧ win0_2.index t = ![0, t.val % 43] ∧ win0_3.index t = ![0, t.val % 43] ∧ win0_4.index t = ![t.val % 43, 0]
    ∧ win0_5.index t = ![0, 0] ∧ win0_6.index t = ![0, 0] ∧ win0_7.index t = ![t.val / 43, 0] ∧ t.val < 1376 :=
  (by decide +kernel : ∀ t : Fin grid0.N, _)

/-- The argument arrays. -/
abbrev X (c : Dev nD) : S16384x4096.Idx → EReal := m ((c : Thread nD τ).loc main_arg0)
abbrev GI (c : Dev nD) : S1x4096.Idx → EReal := m ((c : Thread nD τ).loc main_arg1)
abbrev WG (c : Dev nD) : S4096x11008.Idx → EReal := m ((c : Thread nD τ).loc main_arg2)
abbrev WU (c : Dev nD) : S4096x11008.Idx → EReal := m ((c : Thread nD τ).loc main_arg3)
abbrev WD (c : Dev nD) : S11008x4096.Idx → EReal := m ((c : Thread nD τ).loc main_arg4)
abbrev GO (c : Dev nD) : S1x4096.Idx → EReal := m ((c : Thread nD τ).loc main_arg5)
abbrev GF (c : Dev nD) : S1x4096.Idx → EReal := m ((c : Thread nD τ).loc main_arg6)

/-- The normed input. -/
def H (c : Dev nD) (r : Fin 16384) (l : Fin 4096) : EReal :=
  norm (fun j => X m c (ValueIdx.ix2 r j)) (fun j => GI m c (ValueIdx.ix2 (0 : Fin 1) j)) l

/-- One hidden unit's term of the down projection. -/
def T (c : Dev nD) (r : Fin 16384) (q : Fin 4096) (k : Fin 11008) : EReal :=
  act (∑ l : Fin 4096, H m c r l * WG m c (ValueIdx.ix2 l k)) (∑ l : Fin 4096, H m c r l * WU m c (ValueIdx.ix2 l k)) * WD m c (ValueIdx.ix2 k q)

theorem hid_at (c : Dev nD) (t : Fin cfg0.N) (p : Fin 512) (l : Fin 4096) (r : Fin 16384) (hr : r.val = t.val / 43 * 512 + p.val) :
    hid m c t (ValueIdx.ix2 p l) = H m c r l := by
  have h1 : ∀ j : Fin 4096, iblk m c 0 t (ValueIdx.ix2 p j) = X m c (ValueIdx.ix2 r j) := by
    intro j
    have hx := idx t
    unfold X
    blk_point [iblk, V, idx t]
    show t.val / 43 * 512 + p.val = r.val
    omega
  have h2 : ∀ j : Fin 4096, iblk m c 1 t (ValueIdx.ix2 (0 : Fin 1) j) = GI m c (ValueIdx.ix2 (0 : Fin 1) j) := by
    intro j
    have hx := idx t
    unfold GI
    blk_point [iblk, V, idx t]
  unfold hid H
  simp only [← h1, ← h2]

/-- The terms of one chunk of hidden units, in the arrays' coordinates. -/
def chunk (c : Dev nD) (r : Fin 16384) (q : Fin 4096) (s : ℕ) : EReal :=
  ∑ k : Fin 256, if hk : s * 256 + k.val < 11008 then T m c r q ⟨s * 256 + k.val, hk⟩ else 0

theorem part_at (c : Dev nD) (t : Fin cfg0.N) (h : S512x4096.Idx → EReal) (p : Fin 512) (q : Fin 4096) (r : Fin 16384)
    (hh : ∀ l : Fin 4096, h (ValueIdx.ix2 p l) = H m c r l) (s : ℕ) (h4 : s < 43) (hs : t.val % 43 = s) :
    part m c t h p q = chunk m c r q s := by
  refine Finset.sum_congr rfl fun k _ => ?_
  have hk : s * 256 + k.val < 11008 := by omega
  rw [dif_pos hk]
  have hx := idx t
  have h1 : ∀ l : Fin 4096, bG m c t (ValueIdx.ix2 l k) = WG m c (ValueIdx.ix2 l ⟨s * 256 + k.val, hk⟩) := by
    intro l
    unfold bG WG
    blk_point [iblk, V, idx t]
    show t.val % 43 * 256 + k.val = s * 256 + k.val
    omega
  have h2 : ∀ l : Fin 4096, bU m c t (ValueIdx.ix2 l k) = WU m c (ValueIdx.ix2 l ⟨s * 256 + k.val, hk⟩) := by
    intro l
    unfold bU WU
    blk_point [iblk, V, idx t]
    show t.val % 43 * 256 + k.val = s * 256 + k.val
    omega
  have h3 : bD m c t (ValueIdx.ix2 k q) = WD m c (ValueIdx.ix2 ⟨s * 256 + k.val, hk⟩ q) := by
    unfold bD WD
    blk_point [iblk, V, idx t]
    show t.val % 43 * 256 + k.val = s * 256 + k.val
    omega
  unfold T
  rw [h3]
  simp only [hh, h1, h2]

/-- After n steps of a row block the scratch holds the normed rows and the result the first chunks' sum. -/
theorem upto (c : Dev nD) : ∀ n, n < 42 → ∀ t : Fin cfg0.N, t.val % 43 = n → ∀ (p : Fin 512) (r : Fin 16384), r.val = t.val / 43 * 512 + p.val →
    (∀ l : Fin 4096, (outsAt0 m c t.val t.isLt).2 (ValueIdx.ix2 p l) = H m c r l)
    ∧ ∀ q : Fin 4096, (outsAt0 m c t.val t.isLt).1 (ValueIdx.ix2 p q) = ∑ s ∈ Finset.range (n + 1), chunk m c r q s := by
  intro n
  induction n with
  | zero =>
    intro _ t ht p r hr
    rw [keepA m c t ht (by omega)]
    refine ⟨fun l => hid_at m c t p l r hr, fun q => ?_⟩
    rw [outA m c t ht (by omega), part_at m c t _ p q r (fun l => hid_at m c t p l r hr) 0 (by omega) ht, Finset.sum_range_one]
  | succ n ih =>
    intro hn t ht p r hr
    have hp : t.val - 1 < cfg0.N := Nat.lt_of_le_of_lt (Nat.sub_le _ _) t.isLt
    obtain ⟨i1, i2⟩ := ih (by omega) ⟨t.val - 1, hp⟩ (by dsimp only; omega) p r (by dsimp only; omega)
    rw [keepB m c t (by omega) (by omega) hp]
    refine ⟨i1, fun q => ?_⟩
    rw [outB m c t (by omega) (by omega) hp, part_at m c t _ p q r i1 (n + 1) (by omega) ht, Finset.sum_range_succ _ (n + 1)]
    exact congrArg (· + _) (i2 q)

/-- The chunks add up to the whole sum over the hidden units. -/
theorem all (c : Dev nD) (r : Fin 16384) (q : Fin 4096) : ∑ s ∈ Finset.range 43, chunk m c r q s = ∑ k : Fin 11008, T m c r q k := by
  rw [Finset.sum_range]
  exact Fin.sum_mul_add_congr (S := 43) (n := 256) (F := fun s k => if hk : s.val * 256 + k.val < 11008 then T m c r q ⟨s.val * 256 + k.val, hk⟩ else 0)
    (fun s k hl => dif_pos hl)

/-- The points of a row block add up to the whole down projection. -/
theorem total (c : Dev nD) (t : Fin cfg0.N) (h : t.val % 43 = 42) (hp : t.val - 1 < cfg0.N) (p : Fin 512) (q : Fin 4096) (r : Fin 16384) (hr : r.val = t.val / 43 * 512 + p.val) :
    ((outsAt0 m c (t.val - 1) hp).1 (ValueIdx.ix2 p q) : EReal) + part m c t (outsAt0 m c (t.val - 1) hp).2 p q = ∑ k : Fin 11008, T m c r q k := by
  obtain ⟨i1, i2⟩ := upto m c 41 (by omega) ⟨t.val - 1, hp⟩ (by dsimp only; omega) p r (by dsimp only; omega)
  rw [part_at m c t _ p q r i1 42 (by omega) h, ← all, Finset.sum_range_succ _ 42]
  exact congrArg (· + _) (i2 q)

/-- The reference's result, over the kernel's argument arrays. -/
abbrev REF (c : Dev nD) : FVec Ideal S16384x4096 .f32 :=
  val_main_v34 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

theorem ref_h (c : Dev nD) (r : Fin 16384) (l : Fin 4096) :
    val_main_v14 (F := Ideal) (m ((c : Thread nD τ).loc main_arg0)) (m ((c : Thread nD τ).loc main_arg1)) (ValueIdx.ix2 r l) = H m c r l := by
  unfold H norm
  pointwise [val_main_v3, val_main_cst, val_main_v4, val_main_v5, val_main_cst_0, val_main_v6, val_main_v7, val_main_cst_1, val_main_v8, val_main_v9, val_main_v10, val_main_v11, val_main_v12, val_main_v13, val_main_v14]
  rfl

theorem ref_t (c : Dev nD) (r : Fin 16384) (q : Fin 4096) :
    val_main_v19 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (ValueIdx.ix2 r q) = ∑ k : Fin 11008, T m c r q k := by
  unfold T act
  simp only [← ref_h]
  pointwise [val_main_v0, val_main_v1, val_main_v2, val_main_v15, val_main_call0_v0, val_main_call0_v1, val_main_call0_cst, val_main_call0_v2, val_main_call0_v3, val_main_call0_cst_0, val_main_call0_v4, val_main_call0_v5, val_main_v16, val_main_v17, val_main_v18, val_main_v19]
  simp only [zero_sub]
  rfl

theorem ref_at (c : Dev nD) (r : Fin 16384) (q : Fin 4096) (o : Fin 4096 → EReal)
    (ho : ∀ j, o j = ∑ k : Fin 11008, T m c r j k) :
    REF m c (ValueIdx.ix2 r q) = X m c (ValueIdx.ix2 r q)
      + Ideal.ofBits FTy.f32 1056964608#32 * norm o (fun j => GO m c (ValueIdx.ix2 (0 : Fin 1) j)) q := by
  have hv : ∀ j, val_main_v19 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (ValueIdx.ix2 r j) = o j :=
    fun j => (ref_t m c r j).trans (ho j).symm
  unfold norm
  simp only [← hv]
  pointwise [val_main_v20, val_main_cst_2, val_main_v21, val_main_v22, val_main_cst_3, val_main_v23, val_main_v24, val_main_cst_4, val_main_v25, val_main_v26, val_main_v27, val_main_v28, val_main_v29, val_main_v30, val_main_v31, val_main_cst_5, val_main_v32, val_main_v33, val_main_v34]
  rfl

theorem final (c : Dev nD) : (dats m 0 c).arrAt 7 (cfgs 0).N = REF m c := by
  refine (dats m 0 c).arrAt_eq_of_covers 7 _ (by decide +kernel) fun t ht y => ?_
  have h3 : t.val % 43 = 42 := (flush0_7 t).mp ht
  have hx := idx t
  have hp : t.val - 1 < cfg0.N := Nat.lt_of_le_of_lt (Nat.sub_le _ _) t.isLt
  blk_simp
  rw [after0_7]
  obtain ⟨p, q, rfl⟩ : ∃ (p : Fin 512) (q : Fin 4096), (ValueIdx.ix2 p q : S512x4096.Idx) = y := ⟨y 0, y 1, funext fun a => by match a with | 0 => rfl | 1 => rfl⟩
  have hr : t.val / 43 * 512 + p.val < 16384 := by omega
  have hat : ((cfg0.win 7).blk t).view.emb (ValueIdx.ix2 p q) = (ValueIdx.ix2 (⟨t.val / 43 * 512 + p.val, hr⟩ : Fin 16384) q : S16384x4096.Idx) := by
    funext a
    apply Fin.ext
    match a with
    | 0 => blk_simp [idx t]; rfl
    | 1 => blk_simp [idx t]; rfl
  rw [show (win0_7.blk t).view.emb (ValueIdx.ix2 p q) = _ from hat,
    ref_at m c _ q (fun j => ((outsAt0 m c (t.val - 1) hp).1 (ValueIdx.ix2 p j) : EReal) + part m c t (outsAt0 m c (t.val - 1) hp).2 p j) (fun j => total m c t h3 hp p j _ rfl),
    outC m c t (by omega) h3 hp p q]
  have h0 : ∀ j : Fin 4096, iblk m c 0 t (ValueIdx.ix2 p j) = X m c (ValueIdx.ix2 (⟨t.val / 43 * 512 + p.val, hr⟩ : Fin 16384) j) := by
    intro j
    unfold X
    blk_point [iblk, V, idx t]
  have h1 : ∀ j : Fin 4096, iblk m c 5 t (ValueIdx.ix2 (0 : Fin 1) j) = GO m c (ValueIdx.ix2 (0 : Fin 1) j) := by
    intro j
    unfold GO
    blk_point [iblk, V, idx t]
  unfold rms res
  simp only [← h0, ← h1]

end Cert.Ffn1Ideal.Value
end
end
-- ==== Proof.Ffn2.lean ====
module

public import proofs.«01_k».proof.Proof.Gen.Ffn2Ideal.Value
public import proofs.«01_k».proof.Proof.Gen.Ffn2RefIdeal.Read
public import Idealize.ShloMosaic.Lib.Pipeline.ValueKit
public import Idealize.ShloMosaic.Lib.WritesUnit

@[expose] public section

set_option maxRecDepth 16384

noncomputable section

namespace Cert.Ffn2Ideal.Value

open Cert.Ffn2Ideal Cert.Ffn2Ideal.Gen Idealize.ShloMosaic Idealize.ShloMosaic.TcCoe Idealize.SL.Sem
open Idealize.ShloMosaic.Pipeline (Dat)
open Cert.Ffn2RefIdeal.Read

variable (m : (ℓ : Loc nD τ sig) → Buf (Elt Ideal) ℓ)

/-- The root mean square norm of a row, times its scale. -/
def norm (o : Fin 4096 → EReal) (g : Fin 4096 → EReal) (q : Fin 4096) : EReal :=
  o q * Ideal.rsqrt (Ideal.div (∑ j : Fin 4096, o j * o j)
        (Ideal.ofBits FTy.f32 1166016512#32) + Ideal.ofBits FTy.f32 897988541#32) * g q

section Loops

variable (𝒱 : Variants) (c : Dev nD) (bd : Option 𝒱.V) (i : grid0.Coords) (arg2 : Memref sig .tc .vmem S512x4096 .f32) (harg2 : arg2.IsWhole) (arg3 : Memref sig .tc .vmem S1x4096 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S512x4096 .f32) (harg9 : arg9.IsWhole) (arg10 : Memref sig .tc .vmem S512x4096 .bf16) (harg10 : arg10.IsWhole)

/-- A trip of the first loop stores 64 rows of zeros in the result and 64 normed rows in the scratch. -/
theorem trip1 (k0_h1 : k0_cond1 i = 1#1) (x2 : BufTy.Contents (Elt Ideal) arg2.view.ty) (x3 : BufTy.Contents (Elt Ideal) arg3.view.ty) (k : Fin k0_t1_loop.trips) :
    tripL_k0_t1 (F := Ideal) 𝒱 c bd i arg2 harg2 arg3 harg3 arg4 harg4 arg5 harg5 arg6 harg6 arg7 harg7 arg8 harg8 arg9 harg9 arg10 harg10 k0_h1 x2 x3 k
      = ([⟨Rect.unit (s := S512x4096) (k0_off1 k) ![64, 4096] (k0_off1_inb i k k0_h1), (k0_pay2 (F := Ideal))⟩],
         [⟨Rect.unit (s := S512x4096) (k0_off1 k) ![64, 4096] (k0_off1_inb i k k0_h1), k0_pay1 (F := Ideal)
          (View.readAt (Elt Ideal) arg2.view (Rect.unit (s := S512x4096) (k0_off1 k) ![64, 4096] (k0_off1_inb i k k0_h1)).toLoadRect x2)
          (View.readAt (Elt Ideal) arg3.view (Rect.unit (s := S1x4096) ![0, 0] ![1, 4096] inb_S1x4096_S1x4096_0_0).toLoadRect x3)⟩]) := by
  unfold tripL_k0_t1 trip_k0_t1
  rfl

/-- A trip of the second loop stores one piece: its 64 rows of the result. -/
theorem trip2 (k0_h2 : k0_cond2 i = 1#1) (x2 : BufTy.Contents (Elt Ideal) arg2.view.ty) (x7 : BufTy.Contents (Elt Ideal) arg7.view.ty) (x8 : BufTy.Contents (Elt Ideal) arg8.view.ty) (k : Fin k0_t2_loop.trips) (f : BufTy.Contents (Elt Ideal) arg9.view.ty) :
    tripL_k0_t2 (F := Ideal) 𝒱 c bd i arg2 harg2 arg3 harg3 arg4 harg4 arg5 harg5 arg6 harg6 arg7 harg7 arg8 harg8 arg9 harg9 arg10 harg10 k0_h2 x2 x7 x8 k f
      = [⟨Rect.unit (s := S512x4096) (k0_off2 k) ![64, 4096] (k0_off2_inb i k k0_h2),
          k0_pay4
          (View.readAt (Elt Ideal) arg2.view (Rect.unit (s := S512x4096) (k0_off2 k) ![64, 4096] (k0_off2_inb i k k0_h2)).toLoadRect x2)
          (View.readAt (Elt Ideal) arg9.view (Rect.unit (s := S512x4096) (k0_off2 k) ![64, 4096] (k0_off2_inb i k k0_h2)).toLoadRect f)
          (View.readAt (Elt Ideal) arg7.view (Rect.unit (s := S1x4096) ![0, 0] ![1, 4096] inb_S1x4096_S1x4096_0_0).toLoadRect x7)
          (View.readAt (Elt Ideal) arg8.view (Rect.unit (s := S1x4096) ![0, 0] ![1, 4096] inb_S1x4096_S1x4096_0_0).toLoadRect x8)⟩] := by
  unfold tripL_k0_t2 trip_k0_t2
  rfl

/-- After n trips of the first loop the first 64 n rows are zero. -/
theorem zeros (k0_h1 : k0_cond1 i = 1#1) (x2 : BufTy.Contents (Elt Ideal) arg2.view.ty) (x3 : BufTy.Contents (Elt Ideal) arg3.view.ty) (f : BufTy.Contents (Elt Ideal) arg9.view.ty) :
    ∀ n, n ≤ k0_t1_loop.trips → ∀ (p : Fin 512) (q : Fin 4096), p.val < 64 * n →
      arg9.view.read (Elt Ideal) (arg9.view.writes (Elt Ideal) f (pb_k0_t1 (F := Ideal) 𝒱 c bd i arg2 harg2 arg3 harg3 arg4 harg4 arg5 harg5 arg6 harg6 arg7 harg7 arg8 harg8 arg9 harg9 arg10 harg10 k0_h1 x2 x3 n).1) (ValueIdx.ix2 p q) = (0 : EReal) := by
  intro n
  induction n with
  | zero => intro _ p q hy; omega
  | succ n ih =>
    intro hn p q hy
    rw [pb_k0_t1_succ _ _ _ _ _ _ _ _ _ _ _ _ _ _ _ _ _ _ _ _ _ _ k0_h1 _ _ ⟨n, hn⟩, trip1]
    dsimp only
    rw [List.singleton_append]
    by_cases h : p.val < 64 * n
    · exact (View.read_writes_cons_rows_of_not_mem (W := 64) _ _ _ _ _ (ValueIdx.ix2 p q) (k0_off1_eq ⟨n, hn⟩) rfl (Or.inl h)).trans (ih (by omega) p q h)
    · refine (View.read_writes_cons_rows_of_mem _ _ _ _ _ (ValueIdx.ix2 p q) (ValueIdx.ix2 (⟨p.val - 64 * n, by omega⟩ : Fin 64) q) (k0_off1_eq ⟨n, hn⟩) (by show p.val = 64 * n + (p.val - 64 * n); omega) rfl).trans ?_
      pointwise [k0_pay2]

/-- After n trips of the first loop the first 64 n rows of the scratch are normed. -/
theorem normedIn (k0_h1 : k0_cond1 i = 1#1) (x2 : BufTy.Contents (Elt Ideal) arg2.view.ty) (x3 : BufTy.Contents (Elt Ideal) arg3.view.ty) (v : View sig .tc .vmem S512x4096 .bf16) (f : BufTy.Contents (Elt Ideal) v.ty) :
    ∀ n, n ≤ k0_t1_loop.trips → ∀ (p : Fin 512) (q : Fin 4096), p.val < 64 * n →
      v.read (Elt Ideal) (v.writes (Elt Ideal) f (pb_k0_t1 (F := Ideal) 𝒱 c bd i arg2 harg2 arg3 harg3 arg4 harg4 arg5 harg5 arg6 harg6 arg7 harg7 arg8 harg8 arg9 harg9 arg10 harg10 k0_h1 x2 x3 n).2) (ValueIdx.ix2 p q)
        = norm (fun j => arg2.view.read (Elt Ideal) x2 (ValueIdx.ix2 p j)) (fun j => arg3.view.read (Elt Ideal) x3 (ValueIdx.ix2 (0 : Fin 1) j)) q := by
  intro n
  induction n with
  | zero => intro _ p q hy; omega
  | succ n ih =>
    intro hn p q hy
    rw [pb_k0_t1_succ _ _ _ _ _ _ _ _ _ _ _ _ _ _ _ _ _ _ _ _ _ _ k0_h1 _ _ ⟨n, hn⟩, trip1]
    dsimp only
    rw [List.singleton_append]
    by_cases h : p.val < 64 * n
    · exact (View.read_writes_cons_rows_of_not_mem (W := 64) _ _ _ _ _ (ValueIdx.ix2 p q) (k0_off1_eq ⟨n, hn⟩) rfl (Or.inl h)).trans (ih (by omega) p q h)
    · obtain ⟨r, hr⟩ : ∃ r : Fin 64, p.val = 64 * n + r.val := ⟨⟨p.val - 64 * n, by omega⟩, by show p.val = 64 * n + (p.val - 64 * n); omega⟩
      refine (View.read_writes_cons_rows_of_mem _ _ _ _ _ (ValueIdx.ix2 p q) (ValueIdx.ix2 r q) (k0_off1_eq ⟨n, hn⟩) hr rfl).trans ?_
      have hat : ∀ (j : Fin 4096) (a : Fin S512x4096.rank), ((ValueIdx.ix2 p j : S512x4096.Idx) a : Nat) = k0_off1 ⟨n, hn⟩ a + (ValueIdx.ix2 r j : S64x4096.Idx) a := by
        intro j a
        rw [k0_off1_eq]
        match a with
        | 0 => exact hr
        | 1 => exact (Nat.zero_add _).symm
      have hx : ∀ j : Fin 4096, View.readAt (Elt Ideal) arg2.view (Rect.unit (s := S512x4096) (k0_off1 ⟨n, hn⟩) ![64, 4096] (k0_off1_inb i ⟨n, hn⟩ k0_h1)).toLoadRect
          x2 (ValueIdx.ix2 r j)
          = arg2.view.read (Elt Ideal) x2 (ValueIdx.ix2 p j) := by
        intro j
        rw [View.readAt_eq_ld]
        exact View.ld_unit_apply_of _ _ _ _ _ (ValueIdx.ix2 p j) (hat j)
      have hg : View.readAt (Elt Ideal) arg3.view (Rect.unit (s := S1x4096) ![0, 0] ![1, 4096] inb_S1x4096_S1x4096_0_0).toLoadRect x3
          = arg3.view.read (Elt Ideal) x3 := by
        rw [View.readAt_eq_ld]
        exact View.ld_unit_lit _ _ (by decide)
      rw [hg]
      generalize View.readAt (Elt Ideal) arg2.view _ _ = x at hx ⊢
      unfold norm
      simp only [← hx]
      pointwise [k0_pay1]
      rfl

/-- The first 64 n rows of the scratch lie in what n trips of the first loop store. -/
theorem coverIn (k0_h1 : k0_cond1 i = 1#1) (x2 : BufTy.Contents (Elt Ideal) arg2.view.ty) (x3 : BufTy.Contents (Elt Ideal) arg3.view.ty) :
    ∀ n, n ≤ k0_t1_loop.trips → ∀ (p : Fin 512) (q : Fin 4096), p.val < 64 * n →
      ∃ pc ∈ (pb_k0_t1 (F := Ideal) 𝒱 c bd i arg2 harg2 arg3 harg3 arg4 harg4 arg5 harg5 arg6 harg6 arg7 harg7 arg8 harg8 arg9 harg9 arg10 harg10 k0_h1 x2 x3 n).2, (ValueIdx.ix2 p q : S512x4096.Idx) ∈ pc.1.set := by
  intro n
  induction n with
  | zero => intro _ p q hy; omega
  | succ n ih =>
    intro hn p q hy
    rw [pb_k0_t1_succ _ _ _ _ _ _ _ _ _ _ _ _ _ _ _ _ _ _ _ _ _ _ k0_h1 _ _ ⟨n, hn⟩, trip1]
    dsimp only
    rw [List.singleton_append]
    by_cases h : p.val < 64 * n
    · obtain ⟨pc, h1, h2⟩ := ih (by omega) p q h
      exact ⟨pc, List.mem_cons_of_mem _ h1, h2⟩
    · refine ⟨_, List.mem_cons_self, (Rect.mem_set_unit (inb := k0_off1_inb i ⟨n, hn⟩ k0_h1)).2 fun a => ?_⟩
      rw [k0_off1_eq]
      match a with
      | 0 => exact ⟨by show 64 * n ≤ p.val; omega, by show p.val < 64 * n + 64; omega⟩
      | 1 => exact ⟨Nat.zero_le _, by show q.val < 0 + 4096; omega⟩

/-- What the second loop makes of an element: the residual plus half the normed row. -/
def res (x o : S512x4096.Idx → EReal) (g : S1x4096.Idx → EReal) (p : Fin 512) (q : Fin 4096) : EReal :=
  x (ValueIdx.ix2 p q) + Ideal.ofBits FTy.f32 1056964608#32 * norm (fun j => o (ValueIdx.ix2 p j)) (fun j => g (ValueIdx.ix2 (0 : Fin 1) j)) q

/-- … which is normed once more. -/
def rms (x o : S512x4096.Idx → EReal) (g g2 : S1x4096.Idx → EReal) (p : Fin 512) (q : Fin 4096) : EReal :=
  norm (fun j => res x o g p j) (fun j => g2 (ValueIdx.ix2 (0 : Fin 1) j)) q

/-- After n trips of the second loop the first 64 n rows hold the result and the others what they held. -/
theorem normed (k0_h2 : k0_cond2 i = 1#1) (x2 : BufTy.Contents (Elt Ideal) arg2.view.ty) (x7 : BufTy.Contents (Elt Ideal) arg7.view.ty) (x8 : BufTy.Contents (Elt Ideal) arg8.view.ty) (f : BufTy.Contents (Elt Ideal) arg9.view.ty) :
    ∀ n, n ≤ k0_t2_loop.trips → ∀ (p : Fin 512) (q : Fin 4096),
      arg9.view.read (Elt Ideal) (arg9.view.writes (Elt Ideal) f (pb_k0_t2 (F := Ideal) 𝒱 c bd i arg2 harg2 arg3 harg3 arg4 harg4 arg5 harg5 arg6 harg6 arg7 harg7 arg8 harg8 arg9 harg9 arg10 harg10 k0_h2 x2 x7 x8 f n)) (ValueIdx.ix2 p q)
       = if p.val < 64 * n then rms (arg2.view.read (Elt Ideal) x2) (arg9.view.read (Elt Ideal) f) (arg7.view.read (Elt Ideal) x7) (arg8.view.read (Elt Ideal) x8) p q
         else arg9.view.read (Elt Ideal) f (ValueIdx.ix2 p q) := by
  intro n
  induction n with
  | zero => intro _ p q; rfl
  | succ n ih =>
    intro hn p q
    rw [pb_k0_t2_succ _ _ _ _ _ _ _ _ _ _ _ _ _ _ _ _ _ _ _ _ _ _ k0_h2 _ _ _ _ ⟨n, hn⟩, trip2, List.singleton_append]
    by_cases h : p.val < 64 * n
    · refine (View.read_writes_cons_rows_of_not_mem (W := 64) _ _ _ _ _ (ValueIdx.ix2 p q) (k0_off2_eq ⟨n, hn⟩) rfl (Or.inl h)).trans ?_
      refine (ih (by omega) p q).trans ?_
      rw [if_pos h, if_pos (by omega)]
    · by_cases h' : p.val < 64 * (n + 1)
      · obtain ⟨r, hr⟩ : ∃ r : Fin 64, p.val = 64 * n + r.val := ⟨⟨p.val - 64 * n, by omega⟩, by show p.val = 64 * n + (p.val - 64 * n); omega⟩
        refine (View.read_writes_cons_rows_of_mem _ _ _ _ _ (ValueIdx.ix2 p q) (ValueIdx.ix2 r q) (k0_off2_eq ⟨n, hn⟩) hr rfl).trans ?_
        rw [if_pos h']
        have hat : ∀ (j : Fin 4096) (a : Fin S512x4096.rank), ((ValueIdx.ix2 p j : S512x4096.Idx) a : Nat) = k0_off2 ⟨n, hn⟩ a + (ValueIdx.ix2 r j : S64x4096.Idx) a := by
          intro j a
          rw [k0_off2_eq]
          match a with
          | 0 => exact hr
          | 1 => exact (Nat.zero_add _).symm
        have hrow : ∀ j : Fin 4096, View.readAt (Elt Ideal) arg9.view (Rect.unit (s := S512x4096) (k0_off2 ⟨n, hn⟩) ![64, 4096] (k0_off2_inb i ⟨n, hn⟩ k0_h2)).toLoadRect
            (arg9.view.writes (Elt Ideal) f (pb_k0_t2 (F := Ideal) 𝒱 c bd i arg2 harg2 arg3 harg3 arg4 harg4 arg5 harg5 arg6 harg6 arg7 harg7 arg8 harg8 arg9 harg9 arg10 harg10 k0_h2 x2 x7 x8 f n)) (ValueIdx.ix2 r j)
            = arg9.view.read (Elt Ideal) f (ValueIdx.ix2 p j) := by
          intro j
          rw [View.readAt_eq_ld]
          exact (View.ld_unit_apply_of _ _ _ _ _ (ValueIdx.ix2 p j) (hat j)).trans ((ih (by omega) p j).trans (if_neg h))
        have hx : ∀ j : Fin 4096, View.readAt (Elt Ideal) arg2.view (Rect.unit (s := S512x4096) (k0_off2 ⟨n, hn⟩) ![64, 4096] (k0_off2_inb i ⟨n, hn⟩ k0_h2)).toLoadRect
            x2 (ValueIdx.ix2 r j)
            = arg2.view.read (Elt Ideal) x2 (ValueIdx.ix2 p j) := by
          intro j
          rw [View.readAt_eq_ld]
          exact View.ld_unit_apply_of _ _ _ _ _ (ValueIdx.ix2 p j) (hat j)
        have hg : View.readAt (Elt Ideal) arg7.view (Rect.unit (s := S1x4096) ![0, 0] ![1, 4096] inb_S1x4096_S1x4096_0_0).toLoadRect x7
            = arg7.view.read (Elt Ideal) x7 := by
          rw [View.readAt_eq_ld]
          exact View.ld_unit_lit _ _ (by decide)
        have hg2 : View.readAt (Elt Ideal) arg8.view (Rect.unit (s := S1x4096) ![0, 0] ![1, 4096] inb_S1x4096_S1x4096_0_0).toLoadRect x8
            = arg8.view.read (Elt Ideal) x8 := by
          rw [View.readAt_eq_ld]
          exact View.ld_unit_lit _ _ (by decide)
        rw [hg, hg2]
        dsimp only
        generalize View.readAt (Elt Ideal) arg9.view _ _ = o at hrow ⊢
        generalize View.readAt (Elt Ideal) arg2.view _ _ = x at hx ⊢
        unfold rms res norm
        simp only [← hrow, ← hx]
        pointwise [k0_pay4]
        rfl
      · refine (View.read_writes_cons_rows_of_not_mem (W := 64) _ _ _ _ _ (ValueIdx.ix2 p q) (k0_off2_eq ⟨n, hn⟩) rfl (Or.inr (by show 64 * n + 64 ≤ p.val; omega))).trans ?_
        refine (ih (by omega) p q).trans ?_
        rw [if_neg h, if_neg h']

end Loops

/-- One point's blocks of the weights. -/
abbrev bG (c : Dev nD) (t : Fin cfg0.N) : S4096x256.Idx → EReal := iblk m c 2 t
abbrev bU (c : Dev nD) (t : Fin cfg0.N) : S4096x256.Idx → EReal := iblk m c 3 t
abbrev bD (c : Dev nD) (t : Fin cfg0.N) : S256x4096.Idx → EReal := iblk m c 4 t

/-- What the gate and the up projection make of one hidden unit. -/
def act (a b : EReal) : EReal := a * Ideal.div 1 (1 + Ideal.exp (0 - a)) * b

/-- One point's part of the down projection. -/
def part (c : Dev nD) (t : Fin cfg0.N) (h : S512x4096.Idx → EReal) (p : Fin 512) (q : Fin 4096) : EReal :=
  ∑ k : Fin 256, act (∑ l : Fin 4096, h (ValueIdx.ix2 p l) * bG m c t (ValueIdx.ix2 l k)) (∑ l : Fin 4096, h (ValueIdx.ix2 p l) * bU m c t (ValueIdx.ix2 l k)) * bD m c t (ValueIdx.ix2 k q)

/-- One step adds its part to what the result holds. -/
theorem step (c : Dev nD) (t : Fin cfg0.N) (h : S512x4096.Idx → EReal) (o : S512x4096.Idx → EReal) (p : Fin 512) (q : Fin 4096) :
    k0_pay3 (F := Ideal) h (iblk m c 2 t) (iblk m c 3 t) o (iblk m c 4 t) (ValueIdx.ix2 p q) = o (ValueIdx.ix2 p q) + part m c t h p q := by
  unfold part act
  pointwise [k0_pay3]
  rfl

theorem outB (c : Dev nD) (t : Fin cfg0.N) (h0 : ¬t.val % 43 = 0) (h1 : ¬t.val % 43 = 42) (hp : t.val - 1 < cfg0.N) (p : Fin 512) (q : Fin 4096) :
    (outsAt0 m c t.val t.isLt).1 (ValueIdx.ix2 p q) = ((outsAt0 m c (t.val - 1) hp).1 (ValueIdx.ix2 p q) : EReal) + part m c t (outsAt0 m c (t.val - 1) hp).2 p q := by
  rw [outsAt0_B m c t h0 h1]; frame_out
  refine (step m c t _ _ p q).trans ?_
  have hs : scM0_0.view.read (Elt Ideal) ((Memref.isWhole_whole _ : scM0_0.IsWhole).unread (outsAt0 m c (t.val - 1) hp).2) = (outsAt0 m c (t.val - 1) hp).2 :=
    Memref.IsWhole.read_unread _ _
  exact congrArg (fun h => ((outsAt0 m c (t.val - 1) hp).1 (ValueIdx.ix2 p q) : EReal) + part m c t h p q) hs

theorem keepB (c : Dev nD) (t : Fin cfg0.N) (h0 : ¬t.val % 43 = 0) (h1 : ¬t.val % 43 = 42) (hp : t.val - 1 < cfg0.N) :
    (outsAt0 m c t.val t.isLt).2 = (outsAt0 m c (t.val - 1) hp).2 := by
  rw [outsAt0_B m c t h0 h1]
  rfl

/-- The normed rows a row block's points share. -/
def hid (c : Dev nD) (t : Fin cfg0.N) : S512x4096.Idx → EReal :=
  fun y => norm (fun j => iblk m c 0 t (ValueIdx.ix2 (y 0) j)) (fun j => iblk m c 1 t (ValueIdx.ix2 (0 : Fin 1) j)) (y 1)

theorem keepA (c : Dev nD) (t : Fin cfg0.N) (h0 : t.val % 43 = 0) (h1 : ¬t.val % 43 = 42) :
    (outsAt0 m c t.val t.isLt).2 = hid m c t := by
  funext y
  obtain ⟨p, q, rfl⟩ : ∃ (p : Fin 512) (q : Fin 4096), (ValueIdx.ix2 p q : S512x4096.Idx) = y := ⟨y 0, y 1, funext fun a => by match a with | 0 => rfl | 1 => rfl⟩
  rw [outsAt0_A m c t h0 h1]
  dsimp only
  frame_out
  have h8 : Scf.trips (0#32) (Scalar.addi 0#32 8#32) 1#32 = 8 := by decide +kernel
  rw [h8]
  rw [← View.read_writes_apply_eq_canon scM0_0.view scM0_0.view.junk (ValueIdx.ix2 p q) _ (coverIn _ _ _ _ _ _ _ _ _ _ _ _ _ _ _ _ _ _ _ _ _ _ _ _ _ 8 (by decide +kernel) p q (by omega))]
  refine (normedIn _ _ _ _ _ _ _ _ _ _ _ _ _ _ _ _ _ _ _ _ _ _ _ _ _ _ _ 8 (by decide +kernel) p q (by omega)).trans ?_
  rw [Memref.IsWhole.read_unread, Memref.IsWhole.read_unread]
  rfl

theorem outA (c : Dev nD) (t : Fin cfg0.N) (h0 : t.val % 43 = 0) (h1 : ¬t.val % 43 = 42) (p : Fin 512) (q : Fin 4096) :
    (outsAt0 m c t.val t.isLt).1 (ValueIdx.ix2 p q) = part m c t (hid m c t) p q := by
  rw [outsAt0_A m c t h0 h1]; frame_out
  refine (step m c t _ _ p q).trans ?_
  have h8 : Scf.trips (0#32) (Scalar.addi 0#32 8#32) 1#32 = 8 := by decide +kernel
  rw [h8]
  refine (congrArg (· + _) (?_ : _ = (0 : EReal))).trans ((zero_add _).trans (congrArg (fun h => part m c t h p q) ?_))
  · unfold View.readCov
    rw [View.readAt_eq_ld]
    refine (congrFun (View.ld_unit_lit _ _ (by decide)) _).trans ?_
    exact zeros _ _ _ _ _ _ _ _ _ _ _ _ _ _ _ _ _ _ _ _ _ _ _ _ _ _ 8 (by decide +kernel) p q (by omega)
  · funext y
    obtain ⟨p, q, rfl⟩ : ∃ (p : Fin 512) (q : Fin 4096), (ValueIdx.ix2 p q : S512x4096.Idx) = y := ⟨y 0, y 1, funext fun a => by match a with | 0 => rfl | 1 => rfl⟩
    unfold View.readCov
    rw [View.readAt_eq_ld]
    refine (congrFun (View.ld_unit_lit _ _ (by decide)) _).trans ?_
    refine (normedIn _ _ _ _ _ _ _ _ _ _ _ _ _ _ _ _ _ _ _ _ _ _ _ _ _ (View.whole cc0_scratch0) _ 8 (by decide +kernel) p q (by omega)).trans ?_
    rw [Memref.IsWhole.read_unread, Memref.IsWhole.read_unread]
    rfl

theorem covered (L : List (View.Piece (Elt Ideal) S512x4096 .f32)) (w : S512x4096.Idx → Elt Ideal .f32) (p : Fin 512) (q : Fin 4096) :
    ∃ pc ∈ L ++ [(⟨Rect.unit ![0, 0] ![512, 4096] inb_S512x4096_S512x4096_0_0, w⟩ : View.Piece (Elt Ideal) S512x4096 .f32)],
      (ValueIdx.ix2 p q : S512x4096.Idx) ∈ pc.1.set := by
  refine ⟨_, List.mem_append_right _ (List.mem_singleton.mpr rfl), (Rect.mem_set_unit (inb := inb_S512x4096_S512x4096_0_0)).2 fun a => ?_⟩
  match a with
  | 0 => exact ⟨Nat.zero_le _, by show p.val < 0 + 512; omega⟩
  | 1 => exact ⟨Nat.zero_le _, by show q.val < 0 + 4096; omega⟩

theorem outC (c : Dev nD) (t : Fin cfg0.N) (h0 : ¬t.val % 43 = 0) (h1 : t.val % 43 = 42) (hp : t.val - 1 < cfg0.N) (p : Fin 512) (q : Fin 4096) :
    (outsAt0 m c t.val t.isLt).1 (ValueIdx.ix2 p q) = rms (iblk m c 0 t) (fun y => ((outsAt0 m c (t.val - 1) hp).1 y : EReal) + part m c t (outsAt0 m c (t.val - 1) hp).2 (y 0) (y 1)) (iblk m c 5 t) (iblk m c 6 t) p q := by
  rw [outsAt0_C m c t h0 h1]; frame_out
  have h8 : Scf.trips (0#32) (Scalar.addi 0#32 8#32) 1#32 = 8 := by decide +kernel
  rw [h8]
  rw [← View.read_writes_apply_eq_canon (ms0_7 t).view (ms0_7 t).view.junk (ValueIdx.ix2 p q) _ (covered _ _ p q), View.writes_append]
  refine (normed _ _ _ _ _ _ _ _ _ _ _ _ _ _ _ _ _ _ _ _ _ _ _ _ _ _ _ 8 (by decide +kernel) p q).trans ?_
  rw [if_pos (by omega), Memref.IsWhole.read_unread, Memref.IsWhole.read_unread, Memref.IsWhole.read_unread]
  have hs : scM0_0.view.read (Elt Ideal) ((Memref.isWhole_whole _ : scM0_0.IsWhole).unread (outsAt0 m c (t.val - 1) hp).2) = (outsAt0 m c (t.val - 1) hp).2 :=
    Memref.IsWhole.read_unread _ _
  have hacc : ∀ w : S512x4096.Idx → EReal, w = (outsAt0 m c (t.val - 1) hp).2 → (ms0_7 t).view.read (Elt Ideal) ((ms0_7 t).view.writes (Elt Ideal) (ms0_7 t).view.junk
            [⟨Rect.unit ![0, 0] ![512, 4096] inb_S512x4096_S512x4096_0_0,
                k0_pay3 (F := Ideal) w (iblk m c 2 t) (iblk m c 3 t) (outsAt0 m c (t.val - 1) hp).1 (iblk m c 4 t)⟩])
      = fun y => ((outsAt0 m c (t.val - 1) hp).1 y : EReal) + part m c t (outsAt0 m c (t.val - 1) hp).2 (y 0) (y 1) := by
    intro w hw
    funext y
    refine (View.read_writes_cons_unit_of_mem _ _ _ _ _ y y rfl fun a => by match a with | 0 => exact (Nat.zero_add _).symm | 1 => exact (Nat.zero_add _).symm).trans ?_
    obtain ⟨p, q, rfl⟩ : ∃ (p : Fin 512) (q : Fin 4096), (ValueIdx.ix2 p q : S512x4096.Idx) = y := ⟨y 0, y 1, funext fun a => by match a with | 0 => rfl | 1 => rfl⟩
    rw [← hw]
    exact step m c t w _ p q
  rw [hacc _ hs]

/-- Where each window stands at each grid point. -/
theorem idx : ∀ t : Fin cfg0.N, win0_0.index t = ![t.val / 43, 0] ∧ win0_1.index t = ![0, 0]
    ∧ win0_2.index t = ![0, t.val % 43] ∧ win0_3.index t = ![0, t.val % 43] ∧ win0_4.index t = ![t.val % 43, 0]
    ∧ win0_5.index t = ![0, 0] ∧ win0_6.index t = ![0, 0] ∧ win0_7.index t = ![t.val / 43, 0] ∧ t.val < 1376 :=
  (by decide +kernel : ∀ t : Fin grid0.N, _)

/-- The argument arrays. -/
abbrev X (c : Dev nD) : S16384x4096.Idx → EReal := m ((c : Thread nD τ).loc main_arg0)
abbrev GI (c : Dev nD) : S1x4096.Idx → EReal := m ((c : Thread nD τ).loc main_arg1)
abbrev WG (c : Dev nD) : S4096x11008.Idx → EReal := m ((c : Thread nD τ).loc main_arg2)
abbrev WU (c : Dev nD) : S4096x11008.Idx → EReal := m ((c : Thread nD τ).loc main_arg3)
abbrev WD (c : Dev nD) : S11008x4096.Idx → EReal := m ((c : Thread nD τ).loc main_arg4)
abbrev GO (c : Dev nD) : S1x4096.Idx → EReal := m ((c : Thread nD τ).loc main_arg5)
abbrev GF (c : Dev nD) : S1x4096.Idx → EReal := m ((c : Thread nD τ).loc main_arg6)

/-- The normed input. -/
def H (c : Dev nD) (r : Fin 16384) (l : Fin 4096) : EReal :=
  norm (fun j => X m c (ValueIdx.ix2 r j)) (fun j => GI m c (ValueIdx.ix2 (0 : Fin 1) j)) l

/-- One hidden unit's term of the down projection. -/
def T (c : Dev nD) (r : Fin 16384) (q : Fin 4096) (k : Fin 11008) : EReal :=
  act (∑ l : Fin 4096, H m c r l * WG m c (ValueIdx.ix2 l k)) (∑ l : Fin 4096, H m c r l * WU m c (ValueIdx.ix2 l k)) * WD m c (ValueIdx.ix2 k q)

theorem hid_at (c : Dev nD) (t : Fin cfg0.N) (p : Fin 512) (l : Fin 4096) (r : Fin 16384) (hr : r.val = t.val / 43 * 512 + p.val) :
    hid m c t (ValueIdx.ix2 p l) = H m c r l := by
  have h1 : ∀ j : Fin 4096, iblk m c 0 t (ValueIdx.ix2 p j) = X m c (ValueIdx.ix2 r j) := by
    intro j
    have hx := idx t
    unfold X
    blk_point [iblk, V, idx t]
    show t.val / 43 * 512 + p.val = r.val
    omega
  have h2 : ∀ j : Fin 4096, iblk m c 1 t (ValueIdx.ix2 (0 : Fin 1) j) = GI m c (ValueIdx.ix2 (0 : Fin 1) j) := by
    intro j
    have hx := idx t
    unfold GI
    blk_point [iblk, V, idx t]
  unfold hid H
  simp only [← h1, ← h2]

/-- The terms of one chunk of hidden units, in the arrays' coordinates. -/
def chunk (c : Dev nD) (r : Fin 16384) (q : Fin 4096) (s : ℕ) : EReal :=
  ∑ k : Fin 256, if hk : s * 256 + k.val < 11008 then T m c r q ⟨s * 256 + k.val, hk⟩ else 0

theorem part_at (c : Dev nD) (t : Fin cfg0.N) (h : S512x4096.Idx → EReal) (p : Fin 512) (q : Fin 4096) (r : Fin 16384)
    (hh : ∀ l : Fin 4096, h (ValueIdx.ix2 p l) = H m c r l) (s : ℕ) (h4 : s < 43) (hs : t.val % 43 = s) :
    part m c t h p q = chunk m c r q s := by
  refine Finset.sum_congr rfl fun k _ => ?_
  have hk : s * 256 + k.val < 11008 := by omega
  rw [dif_pos hk]
  have hx := idx t
  have h1 : ∀ l : Fin 4096, bG m c t (ValueIdx.ix2 l k) = WG m c (ValueIdx.ix2 l ⟨s * 256 + k.val, hk⟩) := by
    intro l
    unfold bG WG
    blk_point [iblk, V, idx t]
    show t.val % 43 * 256 + k.val = s * 256 + k.val
    omega
  have h2 : ∀ l : Fin 4096, bU m c t (ValueIdx.ix2 l k) = WU m c (ValueIdx.ix2 l ⟨s * 256 + k.val, hk⟩) := by
    intro l
    unfold bU WU
    blk_point [iblk, V, idx t]
    show t.val % 43 * 256 + k.val = s * 256 + k.val
    omega
  have h3 : bD m c t (ValueIdx.ix2 k q) = WD m c (ValueIdx.ix2 ⟨s * 256 + k.val, hk⟩ q) := by
    unfold bD WD
    blk_point [iblk, V, idx t]
    show t.val % 43 * 256 + k.val = s * 256 + k.val
    omega
  unfold T
  rw [h3]
  simp only [hh, h1, h2]

/-- After n steps of a row block the scratch holds the normed rows and the result the first chunks' sum. -/
theorem upto (c : Dev nD) : ∀ n, n < 42 → ∀ t : Fin cfg0.N, t.val % 43 = n → ∀ (p : Fin 512) (r : Fin 16384), r.val = t.val / 43 * 512 + p.val →
    (∀ l : Fin 4096, (outsAt0 m c t.val t.isLt).2 (ValueIdx.ix2 p l) = H m c r l)
    ∧ ∀ q : Fin 4096, (outsAt0 m c t.val t.isLt).1 (ValueIdx.ix2 p q) = ∑ s ∈ Finset.range (n + 1), chunk m c r q s := by
  intro n
  induction n with
  | zero =>
    intro _ t ht p r hr
    rw [keepA m c t ht (by omega)]
    refine ⟨fun l => hid_at m c t p l r hr, fun q => ?_⟩
    rw [outA m c t ht (by omega), part_at m c t _ p q r (fun l => hid_at m c t p l r hr) 0 (by omega) ht, Finset.sum_range_one]
  | succ n ih =>
    intro hn t ht p r hr
    have hp : t.val - 1 < cfg0.N := Nat.lt_of_le_of_lt (Nat.sub_le _ _) t.isLt
    obtain ⟨i1, i2⟩ := ih (by omega) ⟨t.val - 1, hp⟩ (by dsimp only; omega) p r (by dsimp only; omega)
    rw [keepB m c t (by omega) (by omega) hp]
    refine ⟨i1, fun q => ?_⟩
    rw [outB m c t (by omega) (by omega) hp, part_at m c t _ p q r i1 (n + 1) (by omega) ht, Finset.sum_range_succ _ (n + 1)]
    exact congrArg (· + _) (i2 q)

/-- The chunks add up to the whole sum over the hidden units. -/
theorem all (c : Dev nD) (r : Fin 16384) (q : Fin 4096) : ∑ s ∈ Finset.range 43, chunk m c r q s = ∑ k : Fin 11008, T m c r q k := by
  rw [Finset.sum_range]
  exact Fin.sum_mul_add_congr (S := 43) (n := 256) (F := fun s k => if hk : s.val * 256 + k.val < 11008 then T m c r q ⟨s.val * 256 + k.val, hk⟩ else 0)
    (fun s k hl => dif_pos hl)

/-- The points of a row block add up to the whole down projection. -/
theorem total (c : Dev nD) (t : Fin cfg0.N) (h : t.val % 43 = 42) (hp : t.val - 1 < cfg0.N) (p : Fin 512) (q : Fin 4096) (r : Fin 16384) (hr : r.val = t.val / 43 * 512 + p.val) :
    ((outsAt0 m c (t.val - 1) hp).1 (ValueIdx.ix2 p q) : EReal) + part m c t (outsAt0 m c (t.val - 1) hp).2 p q = ∑ k : Fin 11008, T m c r q k := by
  obtain ⟨i1, i2⟩ := upto m c 41 (by omega) ⟨t.val - 1, hp⟩ (by dsimp only; omega) p r (by dsimp only; omega)
  rw [part_at m c t _ p q r i1 42 (by omega) h, ← all, Finset.sum_range_succ _ 42]
  exact congrArg (· + _) (i2 q)

/-- The reference's result, over the kernel's argument arrays. -/
abbrev REF (c : Dev nD) : FVec Ideal S16384x4096 .f32 :=
  val_main_v46 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) (m ((c : Thread nD τ).loc main_arg6))

theorem ref_h (c : Dev nD) (r : Fin 16384) (l : Fin 4096) :
    val_main_v14 (F := Ideal) (m ((c : Thread nD τ).loc main_arg0)) (m ((c : Thread nD τ).loc main_arg1)) (ValueIdx.ix2 r l) = H m c r l := by
  unfold H norm
  pointwise [val_main_v3, val_main_cst, val_main_v4, val_main_v5, val_main_cst_0, val_main_v6, val_main_v7, val_main_cst_1, val_main_v8, val_main_v9, val_main_v10, val_main_v11, val_main_v12, val_main_v13, val_main_v14]
  rfl

theorem ref_t (c : Dev nD) (r : Fin 16384) (q : Fin 4096) :
    val_main_v19 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (ValueIdx.ix2 r q) = ∑ k : Fin 11008, T m c r q k := by
  unfold T act
  simp only [← ref_h]
  pointwise [val_main_v0, val_main_v1, val_main_v2, val_main_v15, val_main_call0_v0, val_main_call0_v1, val_main_call0_cst, val_main_call0_v2, val_main_call0_v3, val_main_call0_cst_0, val_main_call0_v4, val_main_call0_v5, val_main_v16, val_main_v17, val_main_v18, val_main_v19]
  simp only [zero_sub]
  rfl

theorem ref_at (c : Dev nD) (r : Fin 16384) (q : Fin 4096) (o : Fin 4096 → EReal)
    (ho : ∀ j, o j = ∑ k : Fin 11008, T m c r j k) :
    val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ValueIdx.ix2 r q) = X m c (ValueIdx.ix2 r q)
      + Ideal.ofBits FTy.f32 1056964608#32 * norm o (fun j => GO m c (ValueIdx.ix2 (0 : Fin 1) j)) q := by
  have hv : ∀ j, val_main_v19 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (ValueIdx.ix2 r j) = o j :=
    fun j => (ref_t m c r j).trans (ho j).symm
  unfold norm
  simp only [← hv]
  pointwise [val_main_v20, val_main_cst_2, val_main_v21, val_main_v22, val_main_cst_3, val_main_v23, val_main_v24, val_main_cst_4, val_main_v25, val_main_v26, val_main_v27, val_main_v28, val_main_v29, val_main_v30, val_main_v31, val_main_cst_5, val_main_v32, val_main_v33, val_main_v34]
  rfl

/-- The reference's result: the residual stream normed once more. -/
theorem ref_fin (c : Dev nD) (r : Fin 16384) (q : Fin 4096) (o : Fin 4096 → EReal)
    (ho : ∀ j, o j = ∑ k : Fin 11008, T m c r j k) :
    REF m c (ValueIdx.ix2 r q) = norm (fun q => X m c (ValueIdx.ix2 r q)
      + Ideal.ofBits FTy.f32 1056964608#32 * norm o (fun j => GO m c (ValueIdx.ix2 (0 : Fin 1) j)) q) (fun j => GF m c (ValueIdx.ix2 (0 : Fin 1) j)) q := by
  simp only [← fun q => ref_at m c r q o ho]
  generalize norm o (fun j => GO m c (ValueIdx.ix2 (0 : Fin 1) j)) = z
  unfold norm
  pointwise [val_main_v35, val_main_cst_6, val_main_v36, val_main_v37, val_main_cst_7, val_main_v38, val_main_v39, val_main_cst_8, val_main_v40, val_main_v41, val_main_v42, val_main_v43, val_main_v44, val_main_v45, val_main_v46]
  rfl

theorem final (c : Dev nD) : (dats m 0 c).arrAt 7 (cfgs 0).N = REF m c := by
  refine (dats m 0 c).arrAt_eq_of_covers 7 _ (by decide +kernel) fun t ht y => ?_
  have h3 : t.val % 43 = 42 := (flush0_7 t).mp ht
  have hx := idx t
  have hp : t.val - 1 < cfg0.N := Nat.lt_of_le_of_lt (Nat.sub_le _ _) t.isLt
  blk_simp
  rw [after0_7]
  obtain ⟨p, q, rfl⟩ : ∃ (p : Fin 512) (q : Fin 4096), (ValueIdx.ix2 p q : S512x4096.Idx) = y := ⟨y 0, y 1, funext fun a => by match a with | 0 => rfl | 1 => rfl⟩
  have hr : t.val / 43 * 512 + p.val < 16384 := by omega
  have hat : ((cfg0.win 7).blk t).view.emb (ValueIdx.ix2 p q) = (ValueIdx.ix2 (⟨t.val / 43 * 512 + p.val, hr⟩ : Fin 16384) q : S16384x4096.Idx) := by
    funext a
    apply Fin.ext
    match a with
    | 0 => blk_simp [idx t]; rfl
    | 1 => blk_simp [idx t]; rfl
  rw [show (win0_7.blk t).view.emb (ValueIdx.ix2 p q) = _ from hat,
    ref_fin m c _ q (fun j => ((outsAt0 m c (t.val - 1) hp).1 (ValueIdx.ix2 p j) : EReal) + part m c t (outsAt0 m c (t.val - 1) hp).2 p j) (fun j => total m c t h3 hp p j _ rfl),
    outC m c t (by omega) h3 hp p q]
  have h0 : ∀ j : Fin 4096, iblk m c 0 t (ValueIdx.ix2 p j) = X m c (ValueIdx.ix2 (⟨t.val / 43 * 512 + p.val, hr⟩ : Fin 16384) j) := by
    intro j
    unfold X
    blk_point [iblk, V, idx t]
  have h1 : ∀ j : Fin 4096, iblk m c 5 t (ValueIdx.ix2 (0 : Fin 1) j) = GO m c (ValueIdx.ix2 (0 : Fin 1) j) := by
    intro j
    unfold GO
    blk_point [iblk, V, idx t]
  have h6 : ∀ j : Fin 4096, iblk m c 6 t (ValueIdx.ix2 (0 : Fin 1) j) = GF m c (ValueIdx.ix2 (0 : Fin 1) j) := by
    intro j
    unfold GF
    blk_point [iblk, V, idx t]
  unfold rms res
  simp only [← h0, ← h1, ← h6]

end Cert.Ffn2Ideal.Value
end
end
-- ==== Proof.Merge.lean ====
module

public import proofs.«01_k».proof.Proof.Gen.MergeIdeal.Value
public import proofs.«01_k».proof.Proof.Gen.MergeRefIdeal.Read
public import Idealize.ShloMosaic.Lib.Pipeline.ValueKit

@[expose] public section

set_option maxRecDepth 16384

noncomputable section

namespace Cert.MergeIdeal.Value

open Cert.MergeIdeal Cert.MergeIdeal.Gen Idealize.ShloMosaic Idealize.ShloMosaic.TcCoe Idealize.SL.Sem
open Idealize.ShloMosaic.Pipeline (Dat)
open Cert.MergeRefIdeal.Read

variable (m : (ℓ : Loc nD τ sig) → Buf (Elt Ideal) ℓ)

/-- Where each window stands at each grid point: the row block is the outer coordinate, the column block the inner. -/
theorem idx : ∀ t : Fin cfg0.N, win0_0.index t = ![t.val / 8, 0] ∧ win0_1.index t = ![t.val / 8, 0]
    ∧ win0_2.index t = ![t.val / 8, 0] ∧ win0_3.index t = ![t.val / 8, 0] ∧ win0_4.index t = ![0, 16 + t.val % 8]
    ∧ win0_5.index t = ![0, 24 + t.val % 8] ∧ win0_6.index t = ![0, 32 + t.val % 8] ∧ win0_7.index t = ![0, t.val % 8]
    ∧ win0_8.index t = ![0, t.val % 8] ∧ win0_9.index t = ![0, t.val % 8] ∧ win0_10.index t = ![0, t.val % 8]
    ∧ win0_11.index t = ![t.val / 8, t.val % 8] ∧ t.val / 8 < 32 :=
  (by decide +kernel : ∀ t : Fin grid0.N, _)

/-- The reference's result, over the kernel's argument arrays. -/
abbrev REF (c : Dev nD) : FVec Ideal S16384x4096 .bf16 :=
  val_main_v34 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

set_option maxHeartbeats 2000000 in
theorem final (c : Dev nD) : (dats m 0 c).arrAt 11 (cfgs 0).N = REF m c := by
  refine (dats m 0 c).arrAt_eq_of_covers 11 _ (by decide +kernel) fun t _ y => ?_
  blk_simp
  rw [after0_11]; frame_out
  unfold REF
  pointwise [k0_pay1, k0_pay2, k0_pay3, val_main_v0, val_main_v1, val_main_v2, val_main_v3, val_main_v4, val_main_v5, val_main_v6, val_main_v7, val_main_v8, val_main_v9, val_main_v10, val_main_v11, val_main_v12, val_main_v13, val_main_v14, val_main_v15, val_main_cst, val_main_v16, val_main_v17, val_main_cst_0, val_main_v18, val_main_v19, val_main_v20, val_main_v21, val_main_v22, val_main_v23, val_main_v24, val_main_v25, val_main_v26, val_main_v27, val_main_v28, val_main_v29, val_main_v30, val_main_v31, val_main_v32, val_main_v33, val_main_v34]
  simp only [zero_sub]
  blk_point [iblk, V, idx t]

end Cert.MergeIdeal.Value
-- ==== Proof.Memkv.lean ====
module

public import proofs.«01_k».proof.Proof.Gen.MemkvIdeal.Value
public import proofs.«01_k».proof.Proof.Gen.MemkvRefIdeal.Read
public import Idealize.ShloMosaic.Lib.Pipeline.ValueKit

@[expose] public section

set_option maxRecDepth 16384

noncomputable section

namespace Cert.MemkvIdeal.Value

open Cert.MemkvIdeal Cert.MemkvIdeal.Gen Idealize.ShloMosaic Idealize.ShloMosaic.TcCoe Idealize.SL.Sem
open Idealize.ShloMosaic.Pipeline (Dat)
open Cert.MemkvRefIdeal.Read

variable (m : (ℓ : Loc nD τ sig) → Buf (Elt Ideal) ℓ)

/-- Where each window stands at each grid point. -/
theorem idx : ∀ t : Fin cfg0.N, win0_0.index t = ![0, 0] ∧ win0_1.index t = ![0, 0] ∧ win0_2.index t = ![0, t.val] ∧ win0_3.index t = ![0, t.val] ∧ t.val < 4 :=
  (by decide +kernel : ∀ t : Fin grid0.N, _)

/-- The reference's result, over the kernel's argument arrays. -/
abbrev REF (c : Dev nD) : FVec Ideal S256x2048 .bf16 :=
  val_main_v14 (F := Ideal) (m ((c : Thread nD τ).loc main_arg0)) (m ((c : Thread nD τ).loc main_arg1)) (m ((c : Thread nD τ).loc main_arg2))

set_option maxHeartbeats 2000000 in
/-- The result array after the run is the reference's result. -/
theorem final (c : Dev nD) : (dats m 0 c).arrAt 3 (cfgs 0).N = REF m c := by
  refine (dats m 0 c).arrAt_eq_of_covers 3 _ (by decide +kernel) fun t _ y => ?_
  blk_simp
  rw [after0_3]; frame_out
  unfold REF
  pointwise [k0_pay1, val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14]
  blk_point [iblk, V, idx t]

end Cert.MemkvIdeal.Value
-- ==== Proof.Memattn.lean ====
module

public import proofs.«01_k».proof.Proof.Gen.MemattnIdeal.Value
public import proofs.«01_k».proof.Proof.Gen.MemattnRefIdeal.Read
public import Idealize.ShloMosaic.Lib.Pipeline.ValueKit
public import proofs.«01_k».proof.Proof.Softmax
public import proofs.«01_k».proof.Pre_finite

@[expose] public section

set_option maxRecDepth 16384

noncomputable section

namespace Cert.MemattnIdeal.Value

open Cert.MemattnIdeal Cert.MemattnIdeal.Gen Idealize.ShloMosaic Idealize.ShloMosaic.TcCoe Idealize.SL.Sem
open Idealize.ShloMosaic.Pipeline (Dat)
open Cert.MemattnRefIdeal.Read

variable (m : (ℓ : Loc nD τ sig) → Buf (Elt Ideal) ℓ)

/-- Where each window stands at each grid point. -/
theorem idx : ∀ t : Fin cfg0.N, win0_0.index t = ![0, t.val, 0] ∧ win0_1.index t = ![0, 0, 0] ∧ win0_2.index t = ![0, t.val, 0] ∧ t.val < 32 :=
  (by decide +kernel : ∀ t : Fin grid0.N, _)

theorem pay1_eq (q : Vec Ideal S1x512x256 .bf16) (k v : Vec Ideal S1x256x256 .bf16) :
    k0_pay1 (k0_pay8 q k v) = k0_pay2 (F := Ideal) q k v := rfl
theorem pay3_eq (q : Vec Ideal S1x512x256 .bf16) (k v : Vec Ideal S1x256x256 .bf16) :
    k0_pay3 q k v = k0_pay2 (F := Ideal) q k v := rfl
theorem pay7_eq (q : Vec Ideal S1x512x256 .bf16) (k v : Vec Ideal S1x256x256 .bf16) :
    k0_pay7 (k0_pay4 q) (k0_pay5 k) (k0_pay6 v) (constant S512x256 .f32 0#32) = k0_pay2 (F := Ideal) q k v := rfl

/-- One head of the kernel at one query, over its scores. -/
theorem head_at (q : Vec Ideal S1x512x256 .bf16) (k v : Vec Ideal S1x256x256 .bf16) (x : S1x512x256.Idx)
    (s : Fin 256 → EReal)
    (hs : ∀ n : Fin 256, (∑ d : Fin 256, q (ix3 0 (x 1) d) * k (ix3 0 n d)) * Ideal.ofBits .f32 0x3D800000#32 = s n) :
    k0_pay2 q k v x = Ideal.div (∑ n : Fin 256, Ideal.exp (s n - Finset.univ.fold max ⊥ s) * v (ix3 0 n (x 2)))
      (∑ n : Fin 256, Ideal.exp (s n - Finset.univ.fold max ⊥ s)) := by
  pointwise [k0_pay2]
  simp only [hs, Softmax.ofBits_bot]

/-- The greatest score of a query, in the reference. -/
theorem ref_max (q : Vec Ideal S1x16384x1024 .bf16) (kv : Vec Ideal S1x256x2048 .bf16) (h : Fin 4) (r : Fin 16384) :
    val_main_v13 (F := Ideal) q kv (ix3 0 h r)
      = Finset.univ.fold max ⊥ (fun n : Fin 256 => val_main_v10 (F := Ideal) q kv (ix4 0 h r n)) := by
  rw [val_main_v13_apply, val_main_v12_apply, val_main_cst_1_apply]
  unfold val_main_v11
  generalize val_main_v10 (F := Ideal) q kv = y0
  have e : Ideal.ofBits .f32 0xFF800000#32 = ⊥ := Softmax.ofBits_bot
  refine (congrArg₂ (max : EReal → EReal → EReal) e (Host.reduce_eq_fold_single (max : EReal → EReal → EReal) y0 _
    Cert.MemattnRefIdeal.Gen.reducesTo_S1x4x16384x256_S1x4x16384_d3 (by decide) _ _)).trans ?_
  rw [max_eq_right bot_le, val_main_cst_0_apply]
  refine (congrArg (fun z => Finset.fold max z _ Finset.univ) e).trans ?_
  refine congrArg (fun f => Finset.fold max ⊥ f Finset.univ) (funext fun k => ?_)
  exact congrArg y0 (funext fun a => Fin.ext (by match a with | ⟨0, _⟩ => rfl | ⟨1, _⟩ => rfl | ⟨2, _⟩ => rfl | ⟨3, _⟩ => rfl))

/-- One entry of an unnormalized weight of the reference. -/
theorem ref_exp (q : Vec Ideal S1x16384x1024 .bf16) (kv : Vec Ideal S1x256x2048 .bf16) (h : Fin 4) (r : Fin 16384) (n : Fin 256) :
    val_main_v17 (F := Ideal) q kv (ix4 0 h r n)
      = Ideal.exp (val_main_v10 (F := Ideal) q kv (ix4 0 h r n)
          - Finset.univ.fold max ⊥ (fun n : Fin 256 => val_main_v10 (F := Ideal) q kv (ix4 0 h r n))) := by
  rw [val_main_v17_apply, val_main_v16_apply, val_main_v15_apply, val_main_v14_apply, ← ref_max q kv h r]
  have e : idx_main_v14 (idx_main_v15 (ix4 0 h r n)) = ix3 0 h r :=
    funext fun a => Fin.ext (by match a with | ⟨0, _⟩ => rfl | ⟨1, _⟩ => rfl | ⟨2, _⟩ => rfl)
  rw [e]
  generalize val_main_v13 (F := Ideal) q kv (ix3 0 h r) = a
  generalize val_main_v10 (F := Ideal) q kv (ix4 0 h r n) = b
  rfl

/-- One softmax weight of the reference. -/
theorem ref_weight (q : Vec Ideal S1x16384x1024 .bf16) (kv : Vec Ideal S1x256x2048 .bf16) (h : Fin 4) (r : Fin 16384) (n : Fin 256) :
    val_main_v21 (F := Ideal) q kv (ix4 0 h r n)
      = Ideal.div (val_main_v17 (F := Ideal) q kv (ix4 0 h r n)) (∑ n : Fin 256, val_main_v17 (F := Ideal) q kv (ix4 0 h r n)) := by
  have e : val_main_v20 (F := Ideal) q kv (ix4 0 h r n) = ∑ n : Fin 256, val_main_v17 (F := Ideal) q kv (ix4 0 h r n) := by
    pointwise [val_main_cst_2, val_main_v18, val_main_v19, val_main_v20]
  rw [val_main_v21_apply, e]
  generalize val_main_v17 (F := Ideal) q kv (ix4 0 h r n) = a
  generalize (∑ n : Fin 256, val_main_v17 (F := Ideal) q kv (ix4 0 h r n)) = b
  rfl

/-- One entry of the reference's result. -/
theorem ref_at (q : Vec Ideal S1x16384x1024 .bf16) (kv : Vec Ideal S1x256x2048 .bf16) (y : S1x16384x1024.Idx)
    (h : Fin 4) (d : Fin 256) (r : Fin 16384) (hr : (y 1 : ℕ) = r) (hy : (y 2 : ℕ) = h * 256 + d) :
    val_main_v25 (F := Ideal) q kv y
      = ∑ n : Fin 256, val_main_v5 (F := Ideal) kv (ix4 0 n h d) * val_main_v21 (F := Ideal) q kv (ix4 0 h r n) := by
  have h1 : (y 1 : ℕ) < 16384 := (y 1).isLt
  have e : val_main_v25 (F := Ideal) q kv y = val_main_v24 (F := Ideal) q kv y := rfl
  rw [e, val_main_v24_apply, val_main_v23_apply, val_main_v22_apply]
  refine Finset.sum_congr rfl fun n _ => congrArg₂ (· * ·) (congrArg _ ?_) (congrArg _ ?_)
  · exact funext fun a => Fin.ext (by match a with | ⟨0, _⟩ => rfl | ⟨1, _⟩ => rfl | ⟨2, _⟩ => (dsimp; omega) | ⟨3, _⟩ => (dsimp; omega))
  · exact funext fun a => Fin.ext (by match a with | ⟨0, _⟩ => rfl | ⟨1, _⟩ => (dsimp; omega) | ⟨2, _⟩ => (dsimp; omega) | ⟨3, _⟩ => rfl)

/-- One score of the reference. -/
theorem ref_score (q : Vec Ideal S1x16384x1024 .bf16) (kv : Vec Ideal S1x256x2048 .bf16) (h : Fin 4) (r : Fin 16384) (n : Fin 256) :
    val_main_v10 (F := Ideal) q kv (ix4 0 h r n)
      = (∑ d : Fin 256, q (ix3 0 r ⟨h * 256 + d, by omega⟩) * kv (ix3 0 n ⟨h * 256 + d, by omega⟩)) * Ideal.ofBits .f32 0x3D800000#32 := by
  pointwise [val_main_v0, val_main_v1, val_main_v2, val_main_v3, val_main_v6, val_main_v7, val_main_v8, val_main_cst, val_main_v9, val_main_v10]

/-- One value of the reference. -/
theorem ref_val (kv : Vec Ideal S1x256x2048 .bf16) (n : Fin 256) (h : Fin 4) (d : Fin 256) :
    val_main_v5 (F := Ideal) kv (ix4 0 n h d) = kv (ix3 0 n ⟨1024 + h * 256 + d, by omega⟩) := by
  pointwise [val_main_v0, val_main_v1, val_main_v4, val_main_v5]

/-- Every score is a real number when the queries and the keys are. -/
theorem score_real (a b : Fin 256 → EReal) (ha : ∀ d, ∃ x : ℝ, a d = x) (hb : ∀ d, ∃ x : ℝ, b d = x) :
    ∃ x : ℝ, (∑ d, a d * b d) * Ideal.ofBits .f32 0x3D800000#32 = x := by
  choose u hu using ha
  choose w hw using hb
  have e : ∃ c : ℝ, Ideal.ofBits .f32 0x3D800000#32 = c := ⟨_, by simp [Ideal.ofBits, Ideal.ieee]; rfl⟩
  obtain ⟨c, hc⟩ := e
  refine ⟨(∑ d, u d * w d) * c, ?_⟩
  rw [hc, EReal.coe_mul, ← Softmax.coe_sum]
  refine congrArg (· * (c : EReal)) (Finset.sum_congr rfl fun d _ => ?_)
  rw [hu, hw, EReal.coe_mul]

/-- A number whose absolute value is below infinity is a real number. -/
theorem real_of_abs_lt (x : EReal)
    (h : BitVec.ofBool (decide (FloatOps.absf (F := Ideal) (φ := .f32) x < Ideal.ofBits .f32 0x7F800000#32)) = 1#1) :
    ∃ r : ℝ, x = r := by
  have e : Ideal.ofBits .f32 0x7F800000#32 = ⊤ := by simp [Ideal.ofBits, Ideal.ieee]
  have h' : max x (-x) < ⊤ := by
    by_contra hc
    have : decide (FloatOps.absf (F := Ideal) (φ := .f32) x < Ideal.ofBits .f32 0x7F800000#32) = false := by
      rw [e]; exact decide_eq_false hc
    rw [this] at h
    exact absurd h (by decide)
  induction x with
  | bot => simp at h'
  | top => simp at h'
  | coe r => exact ⟨r, rfl⟩

/-- The precondition's first half: every query is a real number. -/
theorem real_q [Cert.Pre_finite.Facts] (q : Vec Ideal S1x16384x1024 .bf16) (kv : Vec Ideal S1x256x2048 .bf16)
    (h : (Cert.Pre_finite.fn (F := Ideal) q kv).1 = fun _ => 1#1) (i : S1x16384x1024.Idx) : ∃ r : ℝ, q i = (r : EReal) :=
  real_of_abs_lt _ (congrFun h i)

/-- The precondition's second half: every key is a real number. -/
theorem real_k [Cert.Pre_finite.Facts] (q : Vec Ideal S1x16384x1024 .bf16) (kv : Vec Ideal S1x256x2048 .bf16)
    (h : (Cert.Pre_finite.fn (F := Ideal) q kv).2 = fun _ => 1#1) (n : Fin 256) (d : Fin 1024) :
    ∃ r : ℝ, kv (ix3 0 n ⟨d, by omega⟩) = (r : EReal) := by
  refine real_of_abs_lt _ ?_
  have := congrFun h (ix3 0 n d)
  pointwise [Cert.Pre_finite.fn] at this
  exact this

/-- One head of the kernel at one query is the reference's result there. -/
theorem head_eq (q : Vec Ideal S1x16384x1024 .bf16) (kv : Vec Ideal S1x256x2048 .bf16)
    (hq : ∀ i, ∃ r : ℝ, q i = (r : EReal)) (hk : ∀ (n : Fin 256) (d : Fin 1024), ∃ r : ℝ, kv (ix3 0 n ⟨d, by omega⟩) = (r : EReal))
    (y : S1x16384x1024.Idx) (h : Fin 4) (r : Fin 16384) (a : Vec Ideal S1x512x256 .bf16) (b v : Vec Ideal S1x256x256 .bf16)
    (x : S1x512x256.Idx) (hr : (y 1 : ℕ) = r) (hy : (y 2 : ℕ) = h * 256 + x 2)
    (ea : ∀ d : Fin 256, a (ix3 0 (x 1) d) = q (ix3 0 r ⟨h * 256 + d, by omega⟩))
    (eb : ∀ n d : Fin 256, b (ix3 0 n d) = kv (ix3 0 n ⟨h * 256 + d, by omega⟩))
    (ev : ∀ n d : Fin 256, v (ix3 0 n d) = kv (ix3 0 n ⟨1024 + h * 256 + d, by omega⟩)) :
    k0_pay2 a b v x = val_main_v25 (F := Ideal) q kv y := by
  rw [head_at a b v x (fun n => val_main_v10 (F := Ideal) q kv (ix4 0 h r n))
    (fun n => by rw [ref_score]; simp only [ea, eb]), ref_at q kv y h (x 2) r hr hy]
  have ev' : ∀ n : Fin 256, v (ix3 0 n (x 2)) = kv (ix3 0 n ⟨1024 + h * 256 + x 2, by have : (x 2 : ℕ) < 256 := (x 2).isLt; omega⟩) :=
    fun n => ev n (x 2)
  have rv : ∀ n : Fin 256, val_main_v5 (F := Ideal) kv (ix4 0 n h (x 2)) = kv (ix3 0 n ⟨1024 + h * 256 + x 2, by have : (x 2 : ℕ) < 256 := (x 2).isLt; omega⟩) :=
    fun n => ref_val kv n h (x 2)
  simp only [ref_weight, ref_exp, rv, ev']
  have hs : ∀ n, ∃ u : ℝ, val_main_v10 (F := Ideal) q kv (ix4 0 h r n) = u := fun n => by
    rw [ref_score]
    exact score_real _ _ (fun d => hq _) (fun d => hk n ⟨h * 256 + d, by omega⟩)
  exact Softmax.weighted (fun n => val_main_v10 (F := Ideal) q kv (ix4 0 h r n)) (fun n => kv (ix3 0 n ⟨1024 + h * 256 + x 2, by have : (x 2 : ℕ) < 256 := (x 2).isLt; omega⟩))
    (fun n e => by obtain ⟨u, hu⟩ := hs n; exact EReal.coe_ne_top u (hu ▸ e)) 0
    (fun e => by obtain ⟨u, hu⟩ := hs 0; exact EReal.coe_ne_bot u (hu ▸ e))

/-- The queries of a run. -/
abbrev Q (c : Dev nD) : FVec Ideal S1x16384x1024 .bf16 := m ((c : Thread nD τ).loc main_arg0)

/-- The keys and values of a run, side by side. -/
abbrev KV (c : Dev nD) : FVec Ideal S1x256x2048 .bf16 := m ((c : Thread nD τ).loc main_arg1)

/-- The reference's result, over the kernel's argument arrays. -/
abbrev REF (c : Dev nD) : FVec Ideal S1x16384x1024 .bf16 := val_main_v25 (F := Ideal) (Q m c) (KV m c)

set_option maxHeartbeats 2000000 in
/-- The result array after the run is the reference's result, at real queries and keys. -/
theorem final (c : Dev nD)
    (hq : ∀ i, ∃ r : ℝ, Q m c i = (r : EReal))
    (hk : ∀ (n : Fin 256) (d : Fin 1024), ∃ r : ℝ, KV m c (ix3 0 n ⟨d, by omega⟩) = (r : EReal)) :
    (dats m 0 c).arrAt 2 (cfgs 0).N = REF m c := by
  refine (dats m 0 c).arrAt_eq_of_covers 2 _ (by decide +kernel) fun t _ y => ?_
  blk_simp
  rw [after0_2]
  unfold REF
  have ht : t.val < 32 := (idx t).2.2.2
  unfold out0_2
  simp only [pay1_eq, pay3_eq, pay7_eq]
  canon_tiles x h
  case piece0 =>
    refine head_eq _ _ hq hk _ 3 ⟨512 * t.val + x 1, by omega⟩ _ _ _ x ?_ ?_ ?_ ?_ ?_
    · blk_simp [idx t] <;> (try dsimp) <;> omega
    · blk_simp [idx t] <;> (try dsimp) <;> omega
    · intro d; pointwise; blk_point [iblk, V, idx t]
    · intro n d; pointwise; blk_point [iblk, V, idx t]
    · intro n d; pointwise; blk_point [iblk, V, idx t]
  case piece1 =>
    refine head_eq _ _ hq hk _ 2 ⟨512 * t.val + x 1, by omega⟩ _ _ _ x ?_ ?_ ?_ ?_ ?_
    · blk_simp [idx t] <;> (try dsimp) <;> omega
    · blk_simp [idx t] <;> (try dsimp) <;> omega
    · intro d; pointwise; blk_point [iblk, V, idx t]
    · intro n d; pointwise; blk_point [iblk, V, idx t]
    · intro n d; pointwise; blk_point [iblk, V, idx t]
  case piece2 =>
    refine head_eq _ _ hq hk _ 1 ⟨512 * t.val + x 1, by omega⟩ _ _ _ x ?_ ?_ ?_ ?_ ?_
    · blk_simp [idx t] <;> (try dsimp) <;> omega
    · blk_simp [idx t] <;> (try dsimp) <;> omega
    · intro d; pointwise; blk_point [iblk, V, idx t]
    · intro n d; pointwise; blk_point [iblk, V, idx t]
    · intro n d; pointwise; blk_point [iblk, V, idx t]
  case piece3 =>
    refine head_eq _ _ hq hk _ 0 ⟨512 * t.val + x 1, by omega⟩ _ _ _ x ?_ ?_ ?_ ?_ ?_
    · blk_simp [idx t] <;> (try dsimp) <;> omega
    · blk_simp [idx t] <;> (try dsimp) <;> omega
    · intro d; pointwise; blk_point [iblk, V, idx t]
    · intro n d; pointwise; blk_point [iblk, V, idx t]
    · intro n d; pointwise; blk_point [iblk, V, idx t]

end Cert.MemattnIdeal.Value
end
end
-- ==== Proof.Wo.lean ====
module

public import proofs.«01_k».proof.Proof.Gen.WoIdeal.Value
public import proofs.«01_k».proof.Proof.Gen.WoRefIdeal.Read
public import Idealize.ShloMosaic.Lib.Pipeline.ValueKit
public import Idealize.ShloMosaic.Lib.WritesUnit

@[expose] public section

set_option maxRecDepth 16384

noncomputable section

namespace Cert.WoIdeal.Value

open Cert.WoIdeal Cert.WoIdeal.Gen Idealize.ShloMosaic Idealize.ShloMosaic.TcCoe Idealize.SL.Sem
open Idealize.ShloMosaic.Pipeline (Dat)
open Cert.WoRefIdeal.Read

variable (m : (ℓ : Loc nD τ sig) → Buf (Elt Ideal) ℓ)

section Loops

variable (𝒱 : Variants) (c : Dev nD) (bd : Option 𝒱.V) (i : grid0.Coords) (arg2 : Memref sig .tc .vmem S512x4096 .f32) (harg2 : arg2.IsWhole) (arg3 : Memref sig .tc .vmem S512x512 .bf16) (harg3 : arg3.IsWhole) (arg4 : Memref sig .tc .vmem S512x4096 .bf16) (harg4 : arg4.IsWhole) (arg5 : Memref sig .tc .vmem S1x4096 .f32) (harg5 : arg5.IsWhole) (arg6 : Memref sig .tc .vmem S512x4096 .f32) (harg6 : arg6.IsWhole)

/-- A trip of the first loop stores one piece: 64 rows of zeros. -/
theorem trip1 (k0_h1 : k0_cond1 i = 1#1) (k : Fin k0_t1_loop.trips) :
    tripL_k0_t1 (F := Ideal) 𝒱 c bd i arg2 harg2 arg3 harg3 arg4 harg4 arg5 harg5 arg6 harg6 k0_h1 k
      = [⟨Rect.unit (k0_off1 k) ![64, 4096] (k0_off1_inb i k k0_h1), (k0_pay1 (F := Ideal))⟩] := by
  unfold tripL_k0_t1 trip_k0_t1
  rfl

/-- A trip of the second loop stores one piece: its 64 rows of the residual plus the normed sum. -/
theorem trip2 (k0_h2 : k0_cond2 i = 1#1) (x2 : BufTy.Contents (Elt Ideal) arg2.view.ty) (x5 : BufTy.Contents (Elt Ideal) arg5.view.ty) (k : Fin k0_t2_loop.trips) (f : BufTy.Contents (Elt Ideal) arg6.view.ty) :
    tripL_k0_t2 (F := Ideal) 𝒱 c bd i arg2 harg2 arg3 harg3 arg4 harg4 arg5 harg5 arg6 harg6 k0_h2 x2 x5 k f
      = [⟨Rect.unit (k0_off2 k) ![64, 4096] (k0_off2_inb i k k0_h2),
          k0_pay3
          (View.readAt (Elt Ideal) arg2.view (Rect.unit (k0_off2 k) ![64, 4096] (k0_off2_inb i k k0_h2)).toLoadRect x2)
          (View.readAt (Elt Ideal) arg6.view (Rect.unit (k0_off2 k) ![64, 4096] (k0_off2_inb i k k0_h2)).toLoadRect f)
          (View.readAt (Elt Ideal) arg5.view (Rect.unit ![0, 0] ![1, 4096] inb_S1x4096_S1x4096_0_0).toLoadRect x5)⟩] := by
  unfold tripL_k0_t2 trip_k0_t2
  rfl

/-- After n trips of the first loop the first 64 n rows are zero. -/
theorem zeros (k0_h1 : k0_cond1 i = 1#1) (f : BufTy.Contents (Elt Ideal) arg6.view.ty) :
    ∀ n, n ≤ k0_t1_loop.trips → ∀ (p : Fin 512) (q : Fin 4096), p.val < 64 * n →
      arg6.view.read (Elt Ideal) (arg6.view.writes (Elt Ideal) f (pb_k0_t1 (F := Ideal) 𝒱 c bd i arg2 harg2 arg3 harg3 arg4 harg4 arg5 harg5 arg6 harg6 k0_h1 n)) (ValueIdx.ix2 p q) = (0 : EReal) := by
  intro n
  induction n with
  | zero => intro _ p q hy; omega
  | succ n ih =>
    intro hn p q hy
    rw [pb_k0_t1_succ _ _ _ _ _ _ _ _ _ _ _ _ _ _ k0_h1 ⟨n, hn⟩, trip1, List.singleton_append]
    by_cases h : p.val < 64 * n
    · exact (View.read_writes_cons_rows_of_not_mem (W := 64) _ _ _ _ _ (ValueIdx.ix2 p q) (k0_off1_eq ⟨n, hn⟩) rfl (Or.inl h)).trans (ih (by omega) p q h)
    · refine (View.read_writes_cons_rows_of_mem _ _ _ _ _ (ValueIdx.ix2 p q) (ValueIdx.ix2 (⟨p.val - 64 * n, by omega⟩ : Fin 64) q) (k0_off1_eq ⟨n, hn⟩) (by show p.val = 64 * n + (p.val - 64 * n); omega) rfl).trans ?_
      pointwise [k0_pay1]

/-- What the second loop makes of an element: the residual plus the normed row times its scale. -/
def rms (x o : S512x4096.Idx → EReal) (g : S1x4096.Idx → EReal) (p : Fin 512) (q : Fin 4096) : EReal :=
  x (ValueIdx.ix2 p q) + o (ValueIdx.ix2 p q) * Ideal.rsqrt (Ideal.div (∑ j : Fin 4096, o (ValueIdx.ix2 p j) * o (ValueIdx.ix2 p j))
        (Ideal.ofBits FTy.f32 1166016512#32) + Ideal.ofBits FTy.f32 897988541#32) * g (ValueIdx.ix2 (0 : Fin 1) q)

/-- After n trips of the second loop the first 64 n rows hold the result and the others what they held. -/
theorem normed (k0_h2 : k0_cond2 i = 1#1) (x2 : BufTy.Contents (Elt Ideal) arg2.view.ty) (x5 : BufTy.Contents (Elt Ideal) arg5.view.ty) (f : BufTy.Contents (Elt Ideal) arg6.view.ty) :
    ∀ n, n ≤ k0_t2_loop.trips → ∀ (p : Fin 512) (q : Fin 4096),
      arg6.view.read (Elt Ideal) (arg6.view.writes (Elt Ideal) f (pb_k0_t2 (F := Ideal) 𝒱 c bd i arg2 harg2 arg3 harg3 arg4 harg4 arg5 harg5 arg6 harg6 k0_h2 x2 x5 f n)) (ValueIdx.ix2 p q)
       = if p.val < 64 * n then rms (arg2.view.read (Elt Ideal) x2) (arg6.view.read (Elt Ideal) f) (arg5.view.read (Elt Ideal) x5) p q
         else arg6.view.read (Elt Ideal) f (ValueIdx.ix2 p q) := by
  intro n
  induction n with
  | zero => intro _ p q; rfl
  | succ n ih =>
    intro hn p q
    rw [pb_k0_t2_succ _ _ _ _ _ _ _ _ _ _ _ _ _ _ k0_h2 _ _ _ ⟨n, hn⟩, trip2, List.singleton_append]
    by_cases h : p.val < 64 * n
    · refine (View.read_writes_cons_rows_of_not_mem (W := 64) _ _ _ _ _ (ValueIdx.ix2 p q) (k0_off2_eq ⟨n, hn⟩) rfl (Or.inl h)).trans ?_
      refine (ih (by omega) p q).trans ?_
      rw [if_pos h, if_pos (by omega)]
    · by_cases h' : p.val < 64 * (n + 1)
      · obtain ⟨r, hr⟩ : ∃ r : Fin 64, p.val = 64 * n + r.val := ⟨⟨p.val - 64 * n, by omega⟩, by show p.val = 64 * n + (p.val - 64 * n); omega⟩
        refine (View.read_writes_cons_rows_of_mem _ _ _ _ _ (ValueIdx.ix2 p q) (ValueIdx.ix2 r q) (k0_off2_eq ⟨n, hn⟩) hr rfl).trans ?_
        rw [if_pos h']
        have hat : ∀ (j : Fin 4096) (a : Fin S512x4096.rank), ((ValueIdx.ix2 p j : S512x4096.Idx) a : Nat) = k0_off2 ⟨n, hn⟩ a + (ValueIdx.ix2 r j : S64x4096.Idx) a := by
          intro j a
          rw [k0_off2_eq]
          match a with
          | 0 => exact hr
          | 1 => exact (Nat.zero_add _).symm
        have hrow : ∀ j : Fin 4096, View.readAt (Elt Ideal) arg6.view (Rect.unit (s := S512x4096) (k0_off2 ⟨n, hn⟩) ![64, 4096] (k0_off2_inb i ⟨n, hn⟩ k0_h2)).toLoadRect
            (arg6.view.writes (Elt Ideal) f (pb_k0_t2 (F := Ideal) 𝒱 c bd i arg2 harg2 arg3 harg3 arg4 harg4 arg5 harg5 arg6 harg6 k0_h2 x2 x5 f n)) (ValueIdx.ix2 r j)
            = arg6.view.read (Elt Ideal) f (ValueIdx.ix2 p j) := by
          intro j
          rw [View.readAt_eq_ld]
          exact (View.ld_unit_apply_of _ _ _ _ _ (ValueIdx.ix2 p j) (hat j)).trans ((ih (by omega) p j).trans (if_neg h))
        have hx : ∀ j : Fin 4096, View.readAt (Elt Ideal) arg2.view (Rect.unit (s := S512x4096) (k0_off2 ⟨n, hn⟩) ![64, 4096] (k0_off2_inb i ⟨n, hn⟩ k0_h2)).toLoadRect
            x2 (ValueIdx.ix2 r j)
            = arg2.view.read (Elt Ideal) x2 (ValueIdx.ix2 p j) := by
          intro j
          rw [View.readAt_eq_ld]
          exact View.ld_unit_apply_of _ _ _ _ _ (ValueIdx.ix2 p j) (hat j)
        have hg : View.readAt (Elt Ideal) arg5.view (Rect.unit ![0, 0] ![1, 4096] inb_S1x4096_S1x4096_0_0).toLoadRect x5
            = arg5.view.read (Elt Ideal) x5 := by
          rw [View.readAt_eq_ld]
          exact View.ld_unit_lit _ _ (by decide)
        rw [hg]
        dsimp only
        generalize View.readAt (Elt Ideal) arg6.view _ _ = o at hrow ⊢
        generalize View.readAt (Elt Ideal) arg2.view _ _ = x at hx ⊢
        unfold rms
        simp only [← hrow, ← hx]
        pointwise [k0_pay3]
        rfl
      · refine (View.read_writes_cons_rows_of_not_mem (W := 64) _ _ _ _ _ (ValueIdx.ix2 p q) (k0_off2_eq ⟨n, hn⟩) rfl (Or.inr (by show 64 * n + 64 ≤ p.val; omega))).trans ?_
        refine (ih (by omega) p q).trans ?_
        rw [if_neg h, if_neg h']

end Loops

/-- One point's blocks. -/
abbrev bO (c : Dev nD) (t : Fin cfg0.N) : S512x512.Idx → EReal := iblk m c 1 t
abbrev bW (c : Dev nD) (t : Fin cfg0.N) : S512x4096.Idx → EReal := iblk m c 2 t

/-- One point's block product. -/
def part (c : Dev nD) (t : Fin cfg0.N) (p : Fin 512) (q : Fin 4096) : EReal :=
  ∑ k : Fin 512, bO m c t (ValueIdx.ix2 p k) * bW m c t (ValueIdx.ix2 k q)

theorem outA (c : Dev nD) (t : Fin cfg0.N) (h0 : t.val % 8 = 0) (h1 : ¬t.val % 8 = 7) (p : Fin 512) (q : Fin 4096) :
    outsAt0 m c t.val t.isLt (ValueIdx.ix2 p q) = part m c t p q := by
  rw [outsAt0_A m c t h0 h1]; frame_out
  pointwise [k0_pay2]
  refine (congrArg (· + _) (?_ : _ = (0 : EReal))).trans (zero_add _)
  have h8 : Scf.trips (0#32) (Scalar.addi 0#32 8#32) 1#32 = 8 := by decide +kernel
  rw [h8]
  unfold View.readCov
  rw [View.readAt_eq_ld]
  refine (congrFun (View.ld_unit_lit _ _ (by decide)) _).trans ?_
  exact zeros _ _ _ _ _ _ _ _ _ _ _ _ _ _ _ _ 8 (by decide +kernel) p q (by omega)

theorem outB (c : Dev nD) (t : Fin cfg0.N) (h0 : ¬t.val % 8 = 0) (h1 : ¬t.val % 8 = 7) (hp : t.val - 1 < cfg0.N) (p : Fin 512) (q : Fin 4096) :
    outsAt0 m c t.val t.isLt (ValueIdx.ix2 p q) = (outsAt0 m c (t.val - 1) hp (ValueIdx.ix2 p q) : EReal) + part m c t p q := by
  rw [outsAt0_B m c t h0 h1]; frame_out
  pointwise [k0_pay2]
  rfl

theorem covered (L : List (View.Piece (Elt Ideal) S512x4096 .f32)) (w : S512x4096.Idx → Elt Ideal .f32) (p : Fin 512) (q : Fin 4096) :
    ∃ pc ∈ L ++ [(⟨Rect.unit ![0, 0] ![512, 4096] inb_S512x4096_S512x4096_0_0, w⟩ : View.Piece (Elt Ideal) S512x4096 .f32)],
      (ValueIdx.ix2 p q : S512x4096.Idx) ∈ pc.1.set := by
  refine ⟨_, List.mem_append_right _ (List.mem_singleton.mpr rfl), (Rect.mem_set_unit (inb := inb_S512x4096_S512x4096_0_0)).2 fun a => ?_⟩
  match a with
  | 0 => exact ⟨Nat.zero_le _, by show p.val < 0 + 512; omega⟩
  | 1 => exact ⟨Nat.zero_le _, by show q.val < 0 + 4096; omega⟩

theorem outC (c : Dev nD) (t : Fin cfg0.N) (h0 : ¬t.val % 8 = 0) (h1 : t.val % 8 = 7) (hp : t.val - 1 < cfg0.N) (p : Fin 512) (q : Fin 4096) :
    outsAt0 m c t.val t.isLt (ValueIdx.ix2 p q) = rms (iblk m c 0 t) (fun y => (outsAt0 m c (t.val - 1) hp y : EReal) + part m c t (y 0) (y 1)) (iblk m c 3 t) p q := by
  rw [outsAt0_C m c t h0 h1]; frame_out
  have h8 : Scf.trips (0#32) (Scalar.addi 0#32 8#32) 1#32 = 8 := by decide +kernel
  rw [h8]
  rw [← View.read_writes_apply_eq_canon (ms0_4 t).view (ms0_4 t).view.junk (ValueIdx.ix2 p q) _ (covered _ _ p q), View.writes_append]
  refine (normed _ _ _ _ _ _ _ _ _ _ _ _ _ _ _ _ _ _ 8 (by decide +kernel) p q).trans ?_
  rw [if_pos (by omega), Memref.IsWhole.read_unread, Memref.IsWhole.read_unread]
  have hacc : (ms0_4 t).view.read (Elt Ideal) ((ms0_4 t).view.writes (Elt Ideal) (ms0_4 t).view.junk
            [⟨Rect.unit ![0, 0] ![512, 4096] inb_S512x4096_S512x4096_0_0,
                k0_pay2 (F := Ideal) (outsAt0 m c (t.val - 1) hp) (iblk m c 1 t) (iblk m c 2 t)⟩])
      = fun y => (outsAt0 m c (t.val - 1) hp y : EReal) + part m c t (y 0) (y 1) := by
    funext y
    refine (View.read_writes_cons_unit_of_mem _ _ _ _ _ y y rfl fun a => by match a with | 0 => exact (Nat.zero_add _).symm | 1 => exact (Nat.zero_add _).symm).trans ?_
    pointwise [k0_pay2]
    rfl
  rw [hacc]

/-- Where each window stands at each grid point. -/
theorem idx : ∀ t : Fin cfg0.N, win0_0.index t = ![t.val / 8, 0] ∧ win0_1.index t = ![t.val / 8, t.val % 8]
    ∧ win0_2.index t = ![t.val % 8, 0] ∧ win0_3.index t = ![0, 0] ∧ win0_4.index t = ![t.val / 8, 0] ∧ t.val < 256 :=
  (by decide +kernel : ∀ t : Fin grid0.N, _)

/-- The arrays the product is taken of. -/
abbrev M (c : Dev nD) : S16384x4096.Idx → EReal := m ((c : Thread nD τ).loc main_arg1)
abbrev W (c : Dev nD) : S4096x4096.Idx → EReal := m ((c : Thread nD τ).loc main_arg2)

/-- One eighth of the product's sum, in the arrays' coordinates. -/
def chunk (c : Dev nD) (r : Fin 16384) (q : Fin 4096) (s : ℕ) : EReal :=
  ∑ k : Fin 512, if hk : s * 512 + k.val < 4096 then M m c (ValueIdx.ix2 r ⟨s * 512 + k.val, hk⟩) * W m c (ValueIdx.ix2 ⟨s * 512 + k.val, hk⟩ q) else 0

theorem part_at (c : Dev nD) (t : Fin cfg0.N) (p : Fin 512) (q : Fin 4096) (r : Fin 16384) (hr : r.val = t.val / 8 * 512 + p.val) (s : ℕ) (h4 : s < 8) (hs : t.val % 8 = s) :
    part m c t p q = chunk m c r q s := by
  refine Finset.sum_congr rfl fun k _ => ?_
  have hk : s * 512 + k.val < 4096 := by omega
  rw [dif_pos hk]
  have h1 : bO m c t (ValueIdx.ix2 p k) = M m c (ValueIdx.ix2 r ⟨s * 512 + k.val, hk⟩) := by
    have hx := idx t
    unfold bO M
    blk_point [iblk, V, idx t]
    · show t.val / 8 * 512 + p.val = r.val
      omega
    · show t.val % 8 * 512 + k.val = s * 512 + k.val
      omega
  have h2 : bW m c t (ValueIdx.ix2 k q) = W m c (ValueIdx.ix2 ⟨s * 512 + k.val, hk⟩ q) := by
    have hx := idx t
    unfold bW W
    blk_point [iblk, V, idx t]
    show t.val % 8 * 512 + k.val = s * 512 + k.val
    omega
  rw [h1, h2]

/-- After n steps of a row block the result holds the first eighths' sum. -/
theorem upto (c : Dev nD) : ∀ n, n < 7 → ∀ t : Fin cfg0.N, t.val % 8 = n → ∀ (p : Fin 512) (r : Fin 16384), r.val = t.val / 8 * 512 + p.val →
    ∀ q : Fin 4096, outsAt0 m c t.val t.isLt (ValueIdx.ix2 p q) = ∑ s ∈ Finset.range (n + 1), chunk m c r q s := by
  intro n
  induction n with
  | zero =>
    intro _ t ht p r hr q
    rw [outA m c t ht (by omega), part_at m c t p q r hr 0 (by omega) ht, Finset.sum_range_one]
  | succ n ih =>
    intro hn t ht p r hr q
    have hp : t.val - 1 < cfg0.N := Nat.lt_of_le_of_lt (Nat.sub_le _ _) t.isLt
    rw [outB m c t (by omega) (by omega) hp, part_at m c t p q r hr (n + 1) (by omega) ht, Finset.sum_range_succ _ (n + 1)]
    exact congrArg (· + _) (ih (by omega) ⟨t.val - 1, hp⟩ (by dsimp only; omega) p r (by dsimp only; omega) q)

/-- The eighths add up to the whole sum. -/
theorem all (c : Dev nD) (r : Fin 16384) (q : Fin 4096) : ∑ s ∈ Finset.range 8, chunk m c r q s = ∑ k : Fin 4096, M m c (ValueIdx.ix2 r k) * W m c (ValueIdx.ix2 k q) := by
  rw [Finset.sum_range]
  exact Fin.sum_mul_add_congr (S := 8) (n := 512) (F := fun s k => if hk : s.val * 512 + k.val < 4096 then M m c (ValueIdx.ix2 r ⟨s.val * 512 + k.val, hk⟩) * W m c (ValueIdx.ix2 ⟨s.val * 512 + k.val, hk⟩ q) else 0)
    (fun s k hl => dif_pos hl)

/-- The eight points of a row block add up to the whole product. -/
theorem total (c : Dev nD) (t : Fin cfg0.N) (h : t.val % 8 = 7) (hp : t.val - 1 < cfg0.N) (p : Fin 512) (q : Fin 4096) (r : Fin 16384) (hr : r.val = t.val / 8 * 512 + p.val) :
    (outsAt0 m c (t.val - 1) hp (ValueIdx.ix2 p q) : EReal) + part m c t p q = ∑ k : Fin 4096, M m c (ValueIdx.ix2 r k) * W m c (ValueIdx.ix2 k q) := by
  rw [part_at m c t p q r hr 7 (by omega) h, ← all, Finset.sum_range_succ _ 7]
  exact congrArg (· + _) (upto m c 6 (by omega) ⟨t.val - 1, hp⟩ (by dsimp only; omega) p r (by dsimp only; omega) q)

abbrev X (c : Dev nD) : S16384x4096.Idx → EReal := m ((c : Thread nD τ).loc main_arg0)
abbrev G (c : Dev nD) : S1x4096.Idx → EReal := m ((c : Thread nD τ).loc main_arg3)

/-- The reference's result, over the kernel's argument arrays. -/
abbrev REF (c : Dev nD) : FVec Ideal S16384x4096 .f32 :=
  val_main_v15 (F := Ideal) (m ((c : Thread nD τ).loc main_arg0)) (m ((c : Thread nD τ).loc main_arg1))
    (m ((c : Thread nD τ).loc main_arg2)) (m ((c : Thread nD τ).loc main_arg3))

theorem ref_at (c : Dev nD) (r : Fin 16384) (q : Fin 4096) (o : Fin 4096 → EReal)
    (ho : ∀ j, o j = ∑ k : Fin 4096, M m c (ValueIdx.ix2 r k) * W m c (ValueIdx.ix2 k j)) :
    REF m c (ValueIdx.ix2 r q) = X m c (ValueIdx.ix2 r q)
      + o q * Ideal.rsqrt (Ideal.div (∑ j : Fin 4096, o j * o j)
        (Ideal.ofBits FTy.f32 1166016512#32) + Ideal.ofBits FTy.f32 897988541#32) * G m c (ValueIdx.ix2 (0 : Fin 1) q) := by
  have hv2 : ∀ j, val_main_v2 (F := Ideal) (m ((c : Thread nD τ).loc main_arg1)) (m ((c : Thread nD τ).loc main_arg2)) (ValueIdx.ix2 r j)
     = o j := by
    intro j
    rw [ho j]
    pointwise [val_main_v0, val_main_v1, val_main_v2]
    rfl
  simp only [← hv2]
  unfold REF
  pointwise [val_main_v3, val_main_cst, val_main_v4, val_main_v5, val_main_cst_0, val_main_v6, val_main_v7, val_main_cst_1, val_main_v8, val_main_v9, val_main_v10, val_main_v11, val_main_v12, val_main_v13, val_main_v14, val_main_v15]
  rfl

theorem final (c : Dev nD) : (dats m 0 c).arrAt 4 (cfgs 0).N = REF m c := by
  refine (dats m 0 c).arrAt_eq_of_covers 4 _ (by decide +kernel) fun t ht y => ?_
  have h3 : t.val % 8 = 7 := (flush0_4 t).mp ht
  have hx := idx t
  have hp : t.val - 1 < cfg0.N := Nat.lt_of_le_of_lt (Nat.sub_le _ _) t.isLt
  blk_simp
  rw [after0_4]
  obtain ⟨p, q, rfl⟩ : ∃ (p : Fin 512) (q : Fin 4096), (ValueIdx.ix2 p q : S512x4096.Idx) = y := ⟨y 0, y 1, funext fun a => by match a with | 0 => rfl | 1 => rfl⟩
  have hr : t.val / 8 * 512 + p.val < 16384 := by omega
  have hat : ((cfg0.win 4).blk t).view.emb (ValueIdx.ix2 p q) = (ValueIdx.ix2 (⟨t.val / 8 * 512 + p.val, hr⟩ : Fin 16384) q : S16384x4096.Idx) := by
    funext a
    apply Fin.ext
    match a with
    | 0 => blk_simp [idx t]; rfl
    | 1 => blk_simp [idx t]; rfl
  rw [show (win0_4.blk t).view.emb (ValueIdx.ix2 p q) = _ from hat,
    ref_at m c _ q (fun j => (outsAt0 m c (t.val - 1) hp (ValueIdx.ix2 p j) : EReal) + part m c t p j) (fun j => total m c t h3 hp p j _ rfl),
    outC m c t (by omega) h3 hp p q]
  have h0 : iblk m c 0 t (ValueIdx.ix2 p q) = X m c (ValueIdx.ix2 (⟨t.val / 8 * 512 + p.val, hr⟩ : Fin 16384) q) := by
    unfold X
    blk_point [iblk, V, idx t]
  have h1 : iblk m c 3 t (ValueIdx.ix2 (0 : Fin 1) q) = G m c (ValueIdx.ix2 (0 : Fin 1) q) := by
    unfold G
    blk_point [iblk, V, idx t]
  unfold rms
  rw [← h0, ← h1]

end Cert.WoIdeal.Value
end
end
-- ==== Proof.InprojIdealFrame.lean ====
/- The input projection: its run, by hand. The grid has 32 x 16 points (i, j). At j = 0 the body norms block i of the rows, 64
   at a time, into the first result's buffer. At every j it multiplies that block by column block j of the weights and stores the
   product in the second (j < 12), third (j = 12, 13) or fourth (j = 14, 15) result's buffer. A buffer is thus read and written
   back also at points whose body did not store it; the proof data below say what each buffer holds at each point: the value of
   the last point that stored it. -/
module

public import proofs.«01_k».proof.Proof.Gen.InprojIdeal.Frame
public import proofs.«01_k».proof.Proof.Gen.InprojIdeal.Skeleton
public import proofs.«01_k».proof.Proof.Gen.InprojIdeal.Loops
public import Idealize.ShloMosaic.Lib.Pipeline.TableIdle
public import Idealize.ShloMosaic.Lib.Pipeline.ValueKit
public import Idealize.ShloMosaic.Lib.WritesUnit
public import Idealize.ShloMosaic.Lib.VecWindow
public import Idealize.ShloMosaic.Lib.Claim

@[expose] public section

set_option maxRecDepth 16384

noncomputable section

namespace Cert.InprojIdeal.Hand

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The normed block -/

/-- The row `64 k + r` of a block of 512 rows, for a row r of the 64 that hold row p. -/
abbrev rowOf (p : Fin 512) (r : Fin 64) : Fin 512 := ⟨64 * (p.val / 64) + r.val, by omega⟩

/-- The normed block: each row is the norm of the 64 rows that it lies in, read at its place among them. -/
def hval (x : Vec F S512x4096 .f32) (g : Vec F S1x4096 .f32) : Vec F S512x4096 .bf16 :=
  fun y => k0_pay1 (fun z : S64x4096.Idx => x (ValueIdx.ix2 (rowOf (y 0) (z 0)) (z 1))) g
    (ValueIdx.ix2 (⟨(y 0).val % 64, Nat.mod_lt _ (by omega)⟩ : Fin 64) (y 1))

section Loops

variable (𝒱 : Variants) (c : Dev nD) (bd : Option 𝒱.V) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S512x4096 .bf16) (harg5 : arg5.IsWhole) (arg6 : Memref sig .tc .vmem S512x512 .bf16) (harg6 : arg6.IsWhole) (arg7 : Memref sig .tc .vmem S512x512 .f32) (harg7 : arg7.IsWhole) (arg8 : Memref sig .tc .vmem S512x512 .bf16) (harg8 : arg8.IsWhole)

/-- A trip of the loop stores one piece: 64 normed rows. -/
theorem trip1 (k0_h1 : k0_cond1 i = 1#1) (x2 : BufTy.Contents (Elt F) arg2.view.ty) (x3 : BufTy.Contents (Elt F) arg3.view.ty) (k : Fin k0_t1_loop.trips) :
    tripL_k0_t1 (F := F) 𝒱 c bd i arg2 harg2 arg3 harg3 arg4 harg4 arg5 harg5 arg6 harg6 arg7 harg7 arg8 harg8 k0_h1 x2 x3 k
      = [⟨Rect.unit (s := S512x4096) (k0_off1 k) ![64, 4096] (k0_off1_inb i k k0_h1), k0_pay1 (F := F)
          (View.readAt (Elt F) arg2.view (Rect.unit (s := S512x4096) (k0_off1 k) ![64, 4096] (k0_off1_inb i k k0_h1)).toLoadRect x2)
          (View.readAt (Elt F) arg3.view (Rect.unit (s := S1x4096) ![0, 0] ![1, 4096] inb_S1x4096_S1x4096_0_0).toLoadRect x3)⟩] := by
  unfold tripL_k0_t1 trip_k0_t1
  rfl

/-- After n trips the first 64 n rows are normed. -/
theorem normedIn (k0_h1 : k0_cond1 i = 1#1) (x2 : BufTy.Contents (Elt F) arg2.view.ty) (x3 : BufTy.Contents (Elt F) arg3.view.ty) (f : BufTy.Contents (Elt F) arg5.view.ty) :
    ∀ n, n ≤ k0_t1_loop.trips → ∀ (p : Fin 512) (q : Fin 4096), p.val < 64 * n →
      arg5.view.read (Elt F) (arg5.view.writes (Elt F) f (pb_k0_t1 (F := F) 𝒱 c bd i arg2 harg2 arg3 harg3 arg4 harg4 arg5 harg5 arg6 harg6 arg7 harg7 arg8 harg8 k0_h1 x2 x3 n)) (ValueIdx.ix2 p q)
        = hval (arg2.view.read (Elt F) x2) (arg3.view.read (Elt F) x3) (ValueIdx.ix2 p q) := by
  intro n
  induction n with
  | zero => intro _ p q hy; omega
  | succ n ih =>
    intro hn p q hy
    rw [pb_k0_t1_succ _ _ _ _ _ _ _ _ _ _ _ _ _ _ _ _ _ _ k0_h1 _ _ ⟨n, hn⟩, trip1]
    rw [List.singleton_append]
    by_cases h : p.val < 64 * n
    · exact (View.read_writes_cons_rows_of_not_mem (W := 64) _ _ _ _ _ (ValueIdx.ix2 p q) (k0_off1_eq ⟨n, hn⟩) rfl (Or.inl h)).trans (ih (by omega) p q h)
    · have hdiv : p.val / 64 = n := by omega
      refine (View.read_writes_cons_rows_of_mem _ _ _ _ _ (ValueIdx.ix2 p q) (ValueIdx.ix2 (⟨p.val % 64, Nat.mod_lt _ (by omega)⟩ : Fin 64) q) (k0_off1_eq ⟨n, hn⟩) (by show p.val = 64 * n + p.val % 64; omega) rfl).trans ?_
      have hg : View.readAt (Elt F) arg3.view (Rect.unit (s := S1x4096) ![0, 0] ![1, 4096] inb_S1x4096_S1x4096_0_0).toLoadRect x3
          = arg3.view.read (Elt F) x3 := by
        rw [View.readAt_eq_ld]
        exact View.ld_unit_lit _ _ (by decide)
      have hx : View.readAt (Elt F) arg2.view (Rect.unit (s := S512x4096) (k0_off1 ⟨n, hn⟩) ![64, 4096] (k0_off1_inb i ⟨n, hn⟩ k0_h1)).toLoadRect x2
          = fun z : S64x4096.Idx => arg2.view.read (Elt F) x2 (ValueIdx.ix2 (rowOf p (z 0)) (z 1)) := by
        rw [View.readAt_eq_ld]
        funext z
        refine View.ld_unit_apply_of _ _ _ _ _ _ fun a => ?_
        refine Eq.trans ?_ (congrArg (fun u : ℕ => u + (z a).val) (congrFun (k0_off1_eq ⟨n, hn⟩) a).symm)
        match a with
        | 0 => exact congrArg (fun u : ℕ => 64 * u + (z 0).val) hdiv
        | 1 => exact (Nat.zero_add _).symm
      rw [hg, hx]
      rfl

/-- The loop leaves the normed block. -/
theorem loop_read (k0_h1 : k0_cond1 i = 1#1) (x2 : BufTy.Contents (Elt F) arg2.view.ty) (x3 : BufTy.Contents (Elt F) arg3.view.ty) (f : BufTy.Contents (Elt F) arg5.view.ty) :
    arg5.view.read (Elt F) (arg5.view.writes (Elt F) f (pb_k0_t1 (F := F) 𝒱 c bd i arg2 harg2 arg3 harg3 arg4 harg4 arg5 harg5 arg6 harg6 arg7 harg7 arg8 harg8 k0_h1 x2 x3 k0_t1_loop.trips))
      = hval (arg2.view.read (Elt F) x2) (arg3.view.read (Elt F) x3) := by
  funext y
  obtain ⟨p, q, rfl⟩ : ∃ (p : Fin 512) (q : Fin 4096), y = ValueIdx.ix2 p q :=
    ⟨y 0, y 1, funext fun a => by match a with | 0 => rfl | 1 => rfl⟩
  exact normedIn 𝒱 c bd i arg2 harg2 arg3 harg3 arg4 harg4 arg5 harg5 arg6 harg6 arg7 harg7 arg8 harg8 k0_h1 x2 x3 f _ le_rfl p q
    (by have : k0_t1_loop.trips = 8 := by decide
        rw [this]; exact p.isLt)

end Loops

/-! ## The body's triples -/

section Body

variable (c : Dev nD) (E : Set ℕ) (i : grid0.Coords) (arg2 : Memref sig .tc .vmem S512x4096 .f32) (harg2 : arg2.IsWhole) (arg3 : Memref sig .tc .vmem S1x4096 .f32) (harg3 : arg3.IsWhole) (arg4 : Memref sig .tc .vmem S4096x512 .bf16) (harg4 : arg4.IsWhole) (arg5 : Memref sig .tc .vmem S512x4096 .bf16) (harg5 : arg5.IsWhole) (arg6 : Memref sig .tc .vmem S512x512 .bf16) (harg6 : arg6.IsWhole) (arg7 : Memref sig .tc .vmem S512x512 .f32) (harg7 : arg7.IsWhole) (arg8 : Memref sig .tc .vmem S512x512 .bf16) (harg8 : arg8.IsWhole)
  (x0 : Vec F S512x4096 .f32) (x1 : Vec F S1x4096 .f32) (x2 : Vec F S4096x512 .bf16) (x3 : Vec F S512x4096 .bf16)

/-- At the first column: the block is normed, then its first product is stored. -/
theorem kernel_a (K : PUnit → sProp 𝕄) (h1 : k0_cond1 i = 1#1) (h2 : k0_cond2 i = 1#1) (h3 : ¬ k0_cond3 i = 1#1) (h4 : ¬ k0_cond4 i = 1#1) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (hval x0 x1) ∗ owns (c : Thread nD τ) arg6 fullShare (k0_pay3 (hval x0 x1) x2)) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  simp only [dif_pos h1, dif_pos h2, dif_neg h3, dif_neg h4]
  unfold owns
  iintro ⟨⟨%f2, %hf2, H2⟩, ⟨%f3, %hf3, H3⟩, ⟨%f4, %hf4, H4⟩, ⟨%d5, %f5, -, H5⟩, ⟨%d6, %f6, -, H6⟩, Hk⟩
  subst hf2 hf3 hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact loop_read _ _ _ _ _ _ _ _ _ _ _ _ _ _ _ _ _ _ _ _ _ _
  iexists _; isplitr
  swap; · iexact H6
  ipureintro
  refine (View.read_writes_full _ _ _ _ _).trans ?_
  unfold kernel_a.sl.v3
  rw [View.readAt_eq_ld, View.readAt_eq_ld, View.ld_unit_lit _ _ (by decide), View.ld_unit_lit _ _ (by decide), loop_read]

/-- At columns 1 to 11: a product of the normed block is stored. -/
theorem kernel_b (K : PUnit → sProp 𝕄) (h1 : ¬ k0_cond1 i = 1#1) (h2 : k0_cond2 i = 1#1) (h3 : ¬ k0_cond3 i = 1#1) (h4 : ¬ k0_cond4 i = 1#1) :
    iprop(owns (c : Thread nD τ) arg4 fullShare x2 ∗ owns (c : Thread nD τ) arg5 fullShare x3 ∗ (∃ d, owns (c : Thread nD τ) arg6 fullShare d)
        ∗ (iprop(owns (c : Thread nD τ) arg4 fullShare x2 ∗ owns (c : Thread nD τ) arg5 fullShare x3 ∗ owns (c : Thread nD τ) arg6 fullShare (k0_pay3 x3 x2)) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  simp only [dif_neg h1, dif_pos h2, dif_neg h3, dif_neg h4]
  unfold owns
  iintro ⟨⟨%f4, %hf4, H4⟩, ⟨%f5, %hf5, H5⟩, ⟨%d6, %f6, -, H6⟩, Hk⟩
  subst hf4 hf5
  sl_exec
  sl_step
  iapply Hk
  isplitl [H4]
  · iexists f4; isplitr; · ipureintro; rfl
    iexact H4
  isplitl [H5]
  · iexists f5; isplitr; · ipureintro; rfl
    iexact H5
  iexists _; isplitr
  swap; · iexact H6
  ipureintro
  refine (View.read_writes_full _ _ _ _ _).trans ?_
  rw [View.readAt_eq_ld, View.readAt_eq_ld, View.ld_unit_lit _ _ (by decide), View.ld_unit_lit _ _ (by decide)]

/-- At columns 12 and 13: the product goes to the third result. -/
theorem kernel_c (K : PUnit → sProp 𝕄) (h1 : ¬ k0_cond1 i = 1#1) (h2 : ¬ k0_cond2 i = 1#1) (h3 : k0_cond3 i = 1#1) (h4 : ¬ k0_cond4 i = 1#1) :
    iprop(owns (c : Thread nD τ) arg4 fullShare x2 ∗ owns (c : Thread nD τ) arg5 fullShare x3 ∗ (∃ d, owns (c : Thread nD τ) arg7 fullShare d)
        ∗ (iprop(owns (c : Thread nD τ) arg4 fullShare x2 ∗ owns (c : Thread nD τ) arg5 fullShare x3 ∗ owns (c : Thread nD τ) arg7 fullShare (k0_pay2 x3 x2)) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  simp only [dif_neg h1, dif_neg h2, dif_pos h3, dif_neg h4]
  unfold owns
  iintro ⟨⟨%f4, %hf4, H4⟩, ⟨%f5, %hf5, H5⟩, ⟨%d6, %f6, -, H6⟩, Hk⟩
  subst hf4 hf5
  sl_exec
  sl_step
  iapply Hk
  isplitl [H4]
  · iexists f4; isplitr; · ipureintro; rfl
    iexact H4
  isplitl [H5]
  · iexists f5; isplitr; · ipureintro; rfl
    iexact H5
  iexists _; isplitr
  swap; · iexact H6
  ipureintro
  refine (View.read_writes_full _ _ _ _ _).trans ?_
  rw [View.readAt_eq_ld, View.readAt_eq_ld, View.ld_unit_lit _ _ (by decide), View.ld_unit_lit _ _ (by decide)]

/-- At columns 14 and 15: the product goes to the fourth result. -/
theorem kernel_d (K : PUnit → sProp 𝕄) (h1 : ¬ k0_cond1 i = 1#1) (h2 : ¬ k0_cond2 i = 1#1) (h3 : ¬ k0_cond3 i = 1#1) (h4 : k0_cond4 i = 1#1) :
    iprop(owns (c : Thread nD τ) arg4 fullShare x2 ∗ owns (c : Thread nD τ) arg5 fullShare x3 ∗ (∃ d, owns (c : Thread nD τ) arg8 fullShare d)
        ∗ (iprop(owns (c : Thread nD τ) arg4 fullShare x2 ∗ owns (c : Thread nD τ) arg5 fullShare x3 ∗ owns (c : Thread nD τ) arg8 fullShare (k0_pay4 x3 x2)) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  simp only [dif_neg h1, dif_neg h2, dif_neg h3, dif_pos h4]
  unfold owns
  iintro ⟨⟨%f4, %hf4, H4⟩, ⟨%f5, %hf5, H5⟩, ⟨%d6, %f6, -, H6⟩, Hk⟩
  subst hf4 hf5
  sl_exec
  sl_step
  iapply Hk
  isplitl [H4]
  · iexists f4; isplitr; · ipureintro; rfl
    iexact H4
  isplitl [H5]
  · iexists f5; isplitr; · ipureintro; rfl
    iexact H5
  iexists _; isplitr
  swap; · iexact H6
  ipureintro
  refine (View.read_writes_full _ _ _ _ _).trans ?_
  rw [View.readAt_eq_ld, View.readAt_eq_ld, View.ld_unit_lit _ _ (by decide), View.ld_unit_lit _ _ (by decide)]

end Body

/-! ## Where the body's conditions hold -/

theorem cond1_at : ∀ t : Fin grid0.N, (k0_cond1 (grid0.coords t) == 1#1) = decide (t.val % 16 = 0) := by decide +kernel
theorem cond2_at : ∀ t : Fin grid0.N, (k0_cond2 (grid0.coords t) == 1#1) = decide (t.val % 16 < 12) := by decide +kernel
theorem cond3_at : ∀ t : Fin grid0.N, (k0_cond3 (grid0.coords t) == 1#1) = decide (12 ≤ t.val % 16 ∧ t.val % 16 < 14) := by decide +kernel
theorem cond4_at : ∀ t : Fin grid0.N, (k0_cond4 (grid0.coords t) == 1#1) = decide (14 ≤ t.val % 16) := by decide +kernel

/-! ## Where the results' buffers are written back -/

theorem flush_3 : ∀ t : Fin grid0.N, win0_3.flushF t = decide (t.val % 16 = 15) := by decide +kernel
theorem flush_4 : ∀ t : Fin grid0.N, win0_4.flushF t = decide (t.val % 16 ≤ 10 ∨ t.val % 16 = 15) := by decide +kernel
theorem flush_5 : ∀ t : Fin grid0.N, win0_5.flushF t = decide (t.val % 16 = 12 ∨ t.val % 16 = 15) := by decide +kernel
theorem flush_6 : ∀ t : Fin grid0.N, win0_6.flushF t = decide (14 ≤ t.val % 16) := by decide +kernel

/-- Where each result's buffer holds nothing that is still to be written back. -/
theorem fresh_3 (n : ℕ) (hn : n ≤ cfg0.N) : cfg0.fresh 3 n = decide (n % 16 = 0) :=
  cfg0.fresh_tab 3 (fun n => decide (n % 16 = 0)) rfl (fun t => by
    rw [show (cfg0.win 3).flush t = win0_3.flushF t from Pipeline.Window.flush_eq_flushF _ t, flush_3,
      show cfg0.idle 3 (cfg0.grid.coords t) = !(k0_cond1 (grid0.coords t) == 1#1) from rfl, cond1_at]
    have := t.isLt
    by_cases h : t.val % 16 = 15
    · have h' : (t.val + 1) % 16 = 0 := by omega
      simp [h, h']
    · have h' : ¬ (t.val + 1) % 16 = 0 := by omega
      by_cases h0 : t.val % 16 = 0 <;> simp [h, h', h0]) n hn
theorem fresh_4 (n : ℕ) (hn : n ≤ cfg0.N) : cfg0.fresh 4 n = decide (n % 16 < 12) :=
  cfg0.fresh_tab 4 (fun n => decide (n % 16 < 12)) rfl (fun t => by
    rw [show (cfg0.win 4).flush t = win0_4.flushF t from Pipeline.Window.flush_eq_flushF _ t, flush_4,
      show cfg0.idle 4 (cfg0.grid.coords t) = !(k0_cond2 (grid0.coords t) == 1#1) from rfl, cond2_at]
    rw [Bool.eq_iff_iff]
    simp only [Bool.or_eq_true, Bool.and_eq_true, Bool.not_eq_true', decide_eq_true_eq, decide_eq_false_iff_not]
    omega) n hn
theorem fresh_5 (n : ℕ) (hn : n ≤ cfg0.N) : cfg0.fresh 5 n = decide (n % 16 < 14) :=
  cfg0.fresh_tab 5 (fun n => decide (n % 16 < 14)) rfl (fun t => by
    rw [show (cfg0.win 5).flush t = win0_5.flushF t from Pipeline.Window.flush_eq_flushF _ t, flush_5,
      show cfg0.idle 5 (cfg0.grid.coords t) = !(k0_cond3 (grid0.coords t) == 1#1) from rfl, cond3_at]
    rw [Bool.eq_iff_iff]
    simp only [Bool.or_eq_true, Bool.and_eq_true, Bool.not_eq_true', decide_eq_true_eq, decide_eq_false_iff_not]
    omega) n hn
theorem fresh_6 (n : ℕ) (hn : n ≤ cfg0.N) : cfg0.fresh 6 n = true :=
  cfg0.fresh_tab 6 (fun _ => true) rfl (fun t => by
    rw [show (cfg0.win 6).flush t = win0_6.flushF t from Pipeline.Window.flush_eq_flushF _ t, flush_6,
      show cfg0.idle 6 (cfg0.grid.coords t) = !(k0_cond4 (grid0.coords t) == 1#1) from rfl, cond4_at]
    by_cases h : 14 ≤ t.val % 16 <;> simp [h]) n hn

/-! ## The proof data -/

variable (m : (ℓ : Loc nD τ sig) → Buf (Elt F) ℓ) (ρ : Dev nD → PrngReg)

/-- The points of t's row of the grid: its first, and the last up to t that stores into each product's buffer. -/
def pt3 (t : Fin cfg0.N) : Fin cfg0.N := ⟨t.val - t.val % 16, Nat.lt_of_le_of_lt (Nat.sub_le _ _) t.isLt⟩
theorem lt_N (t : Fin cfg0.N) (k : ℕ) (hk : k < 16) : t.val - t.val % 16 + k < cfg0.N := by
  have h : t.val < 512 := t.isLt
  show _ < 512
  omega
def pt4 (t : Fin cfg0.N) : Fin cfg0.N := ⟨t.val - t.val % 16 + min (t.val % 16) 11, lt_N t _ (by omega)⟩
def pt5 (t : Fin cfg0.N) : Fin cfg0.N := ⟨t.val - t.val % 16 + max 12 (min (t.val % 16) 13), lt_N t _ (by omega)⟩
def pt6 (t : Fin cfg0.N) : Fin cfg0.N := ⟨t.val - t.val % 16 + max 14 (t.val % 16), lt_N t _ (by omega)⟩

/-- The normed block of t's row of the grid. -/
def hAt (c : Dev nD) (t : Fin cfg0.N) : Vec F S512x4096 .bf16 := hval (iblk m c 0 (pt3 t)) (iblk m c 1 (pt3 t))

/-- After the body each input's buffer holds its block, the first result's the normed block and each product's the last
    that was stored into it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => hAt m c t
    | ⟨4, _⟩ => k0_pay3 (hAt m c t) (iblk m c 2 (pt4 t))
    | ⟨5, _⟩ => k0_pay2 (hAt m c t) (iblk m c 2 (pt5 t))
    | ⟨6, _⟩ => k0_pay4 (hAt m c t) (iblk m c 2 (pt6 t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = hAt m c t := by dsimp only [dats]
theorem after0_4 (c : Dev nD) (t : Fin cfg0.N) : (dats m 0 c).after 4 t = k0_pay3 (hAt m c t) (iblk m c 2 (pt4 t)) := by dsimp only [dats]
theorem after0_5 (c : Dev nD) (t : Fin cfg0.N) : (dats m 0 c).after 5 t = k0_pay2 (hAt m c t) (iblk m c 2 (pt5 t)) := by dsimp only [dats]
theorem after0_6 (c : Dev nD) (t : Fin cfg0.N) : (dats m 0 c).after 6 t = k0_pay4 (hAt m c t) (iblk m c 2 (pt6 t)) := by dsimp only [dats]

/-- The point before t. -/
def prev (t : Fin cfg0.N) : Fin cfg0.N := ⟨t.val - 1, Nat.lt_of_le_of_lt (Nat.sub_le _ _) t.isLt⟩

/-- Within a row of the grid the normed block is one. -/
theorem hAt_prev (c : Dev nD) (t : Fin cfg0.N) (h : t.val % 16 ≠ 0) : hAt m c t = hAt m c (prev t) := by
  have e : pt3 t = pt3 (prev t) := Fin.ext (by show t.val - t.val % 16 = (t.val - 1) - (t.val - 1) % 16; omega)
  unfold hAt
  rw [e]

/-- What each result's buffer holds is carried over the points that store nothing into it. -/
theorem carry_3 (c : Dev nD) (t : Fin cfg0.N) (h : ¬ t.val % 16 = 0) : (dats m 0 c).after 3 t = (dats m 0 c).after 3 (prev t) := by
  rw [after0_3, after0_3, hAt_prev m c t h]
theorem carry_4 (c : Dev nD) (t : Fin cfg0.N) (h : ¬ t.val % 16 < 12) : (dats m 0 c).after 4 t = (dats m 0 c).after 4 (prev t) := by
  have e : pt4 t = pt4 (prev t) := Fin.ext (by
    show t.val - t.val % 16 + min (t.val % 16) 11 = (t.val - 1) - (t.val - 1) % 16 + min ((t.val - 1) % 16) 11; omega)
  rw [after0_4, after0_4, hAt_prev m c t (by omega), e]
theorem carry_5 (c : Dev nD) (t : Fin cfg0.N) (h : ¬ t.val % 16 < 14) : (dats m 0 c).after 5 t = (dats m 0 c).after 5 (prev t) := by
  have e : pt5 t = pt5 (prev t) := Fin.ext (by
    show t.val - t.val % 16 + max 12 (min (t.val % 16) 13) = (t.val - 1) - (t.val - 1) % 16 + max 12 (min ((t.val - 1) % 16) 13); omega)
  rw [after0_5, after0_5, hAt_prev m c t (by omega), e]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Where a result's buffer is not fresh, it holds before the body what it holds after it if nothing is stored. -/
theorem before0_3 (c : Dev nD) (t : Fin cfg0.N) (h : ¬ t.val % 16 = 0) (d) : (dats m 0 c).before 3 t d = (dats m 0 c).after 3 t := by
  refine ((dats m 0 c).before_out_traj 3 rfl (fun _ _ => rfl) (fun t _ _ hf => ?_) t.val t rfl d).trans ?_
  · rw [fresh_3 _ t.isLt.le] at hf; exact carry_3 m c t (of_decide_eq_false hf)
  · rw [fresh_3 _ t.isLt.le, decide_eq_false h, if_neg Bool.false_ne_true]
    exact (carry_3 m c t h).symm
theorem before0_4 (c : Dev nD) (t : Fin cfg0.N) (h : ¬ t.val % 16 < 12) (d) : (dats m 0 c).before 4 t d = (dats m 0 c).after 4 t := by
  refine ((dats m 0 c).before_out_traj 4 rfl (fun _ _ => rfl) (fun t _ _ hf => ?_) t.val t rfl d).trans ?_
  · rw [fresh_4 _ t.isLt.le] at hf; exact carry_4 m c t (of_decide_eq_false hf)
  · rw [fresh_4 _ t.isLt.le, decide_eq_false h, if_neg Bool.false_ne_true]
    exact (carry_4 m c t h).symm
theorem before0_5 (c : Dev nD) (t : Fin cfg0.N) (h : ¬ t.val % 16 < 14) (d) : (dats m 0 c).before 5 t d = (dats m 0 c).after 5 t := by
  refine ((dats m 0 c).before_out_traj 5 rfl (fun _ _ => rfl) (fun t _ _ hf => ?_) t.val t rfl d).trans ?_
  · rw [fresh_5 _ t.isLt.le] at hf; exact carry_5 m c t (of_decide_eq_false hf)
  · rw [fresh_5 _ t.isLt.le, decide_eq_false h, if_neg Bool.false_ne_true]
    exact (carry_5 m c t h).symm

/-! ## What the body leaves, window by window -/

theorem leaves_live (c : Dev nD) (w : Fin cfg0.W) (t : Fin cfg0.N) (hi : cfg0.idle w (cfg0.grid.coords t) = false) :
    owns (c : Thread nD τ) ((cfg0.win w).stage (cfg0.slots t w)) fullShare ((dats m 0 c).after w t) ⊢ ((dats m 0 c).leavesExact w t : sProp 𝕄) := by
  unfold Dat.leavesExact; rw [hi]

theorem leaves_kept (c : Dev nD) (w : Fin cfg0.W) (t : Fin cfg0.N) (hi : cfg0.idle w (cfg0.grid.coords t) = true) (d)
    (h : (cfg0.win w).flush t = true → (dats m 0 c).before w t d = (dats m 0 c).after w t) :
    owns (c : Thread nD τ) ((cfg0.win w).stage (cfg0.slots t w)) fullShare ((dats m 0 c).before w t d) ⊢ ((dats m 0 c).leavesExact w t : sProp 𝕄) := by
  unfold Dat.leavesExact; rw [hi]
  cases hf : (cfg0.win w).flush t
  · iintro H; iexists d; iexact H
  · rw [h hf]

theorem idle_3 (t : Fin cfg0.N) : cfg0.idle 3 (cfg0.grid.coords t) = !decide (t.val % 16 = 0) := congrArg not (cond1_at t)
theorem idle_4 (t : Fin cfg0.N) : cfg0.idle 4 (cfg0.grid.coords t) = !decide (t.val % 16 < 12) := congrArg not (cond2_at t)
theorem idle_5 (t : Fin cfg0.N) : cfg0.idle 5 (cfg0.grid.coords t) = !decide (12 ≤ t.val % 16 ∧ t.val % 16 < 14) := congrArg not (cond3_at t)
theorem idle_6 (t : Fin cfg0.N) : cfg0.idle 6 (cfg0.grid.coords t) = !decide (14 ≤ t.val % 16) := congrArg not (cond4_at t)

theorem kept_3 (c : Dev nD) (t : Fin cfg0.N) (h : ¬ t.val % 16 = 0) (d) :
    owns (c : Thread nD τ) (st0_3 t) fullShare ((dats m 0 c).before 3 t d) ⊢ ((dats m 0 c).leavesExact 3 t : sProp 𝕄) :=
  leaves_kept m c 3 t (by rw [idle_3, decide_eq_false h]; rfl) d fun _ => before0_3 m c t h d
theorem kept_4 (c : Dev nD) (t : Fin cfg0.N) (h : ¬ t.val % 16 < 12) (d) :
    owns (c : Thread nD τ) (st0_4 t) fullShare ((dats m 0 c).before 4 t d) ⊢ ((dats m 0 c).leavesExact 4 t : sProp 𝕄) :=
  leaves_kept m c 4 t (by rw [idle_4, decide_eq_false h]; rfl) d fun _ => before0_4 m c t h d
theorem kept_5 (c : Dev nD) (t : Fin cfg0.N) (h : ¬ (12 ≤ t.val % 16 ∧ t.val % 16 < 14)) (d) :
    owns (c : Thread nD τ) (st0_5 t) fullShare ((dats m 0 c).before 5 t d) ⊢ ((dats m 0 c).leavesExact 5 t : sProp 𝕄) :=
  leaves_kept m c 5 t (by rw [idle_5, decide_eq_false h]; rfl) d fun hf => by
    rw [show (cfg0.win 5).flush t = win0_5.flushF t from Pipeline.Window.flush_eq_flushF _ t, flush_5] at hf
    have := of_decide_eq_true hf
    exact before0_5 m c t (by omega) d
theorem kept_6 (c : Dev nD) (t : Fin cfg0.N) (h : ¬ 14 ≤ t.val % 16) (d) :
    owns (c : Thread nD τ) (st0_6 t) fullShare ((dats m 0 c).before 6 t d) ⊢ ((dats m 0 c).leavesExact 6 t : sProp 𝕄) :=
  leaves_kept m c 6 t (by rw [idle_6, decide_eq_false h]; rfl) d fun hf => by
    rw [show (cfg0.win 6).flush t = win0_6.flushF t from Pipeline.Window.flush_eq_flushF _ t, flush_6] at hf
    exact absurd (of_decide_eq_true hf) h

theorem live_3 (c : Dev nD) (t : Fin cfg0.N) (h : t.val % 16 = 0) :
    owns (c : Thread nD τ) (st0_3 t) fullShare (hval (iblk m c 0 t) (iblk m c 1 t)) ⊢ ((dats m 0 c).leavesExact 3 t : sProp 𝕄) := by
  have e : pt3 t = t := Fin.ext (by show t.val - t.val % 16 = t.val; omega)
  have := leaves_live m c 3 t (by rw [idle_3, decide_eq_true h]; rfl)
  rw [after0_3, hAt, e] at this
  exact this
theorem live_4 (c : Dev nD) (t : Fin cfg0.N) (h : t.val % 16 < 12) :
    owns (c : Thread nD τ) (st0_4 t) fullShare (k0_pay3 (hAt m c t) (iblk m c 2 t)) ⊢ ((dats m 0 c).leavesExact 4 t : sProp 𝕄) := by
  have e : pt4 t = t := Fin.ext (by show t.val - t.val % 16 + min (t.val % 16) 11 = t.val; omega)
  have := leaves_live m c 4 t (by rw [idle_4, decide_eq_true h]; rfl)
  rw [after0_4, e] at this
  exact this
theorem live_5 (c : Dev nD) (t : Fin cfg0.N) (h : 12 ≤ t.val % 16 ∧ t.val % 16 < 14) :
    owns (c : Thread nD τ) (st0_5 t) fullShare (k0_pay2 (hAt m c t) (iblk m c 2 t)) ⊢ ((dats m 0 c).leavesExact 5 t : sProp 𝕄) := by
  have e : pt5 t = t := Fin.ext (by show t.val - t.val % 16 + max 12 (min (t.val % 16) 13) = t.val; omega)
  have := leaves_live m c 5 t (by rw [idle_5, decide_eq_true h]; rfl)
  rw [after0_5, e] at this
  exact this
theorem live_6 (c : Dev nD) (t : Fin cfg0.N) (h : 14 ≤ t.val % 16) :
    owns (c : Thread nD τ) (st0_6 t) fullShare (k0_pay4 (hAt m c t) (iblk m c 2 t)) ⊢ ((dats m 0 c).leavesExact 6 t : sProp 𝕄) := by
  have e : pt6 t = t := Fin.ext (by show t.val - t.val % 16 + max 14 (t.val % 16) = t.val; omega)
  have := leaves_live m c 6 t (by rw [idle_6, decide_eq_true h]; rfl)
  rw [after0_6, e] at this
  exact this

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t
    ∗ (dats m 0 c).leavesExact 4 t
    ∗ (dats m 0 c).leavesExact 5 t
    ∗ (dats m 0 c).leavesExact 6 t)

theorem holds {p : Prop} [Decidable p] {b : BitVec 1} (h : (b == 1#1) = decide p) (hp : p) : b = 1#1 := by
  rw [decide_eq_true hp] at h; exact eq_of_beq h
theorem fails {p : Prop} [Decidable p] {b : BitVec 1} (h : (b == 1#1) = decide p) (hp : ¬ p) : ¬ b = 1#1 := by
  rw [decide_eq_false hp] at h; intro e; rw [e] at h; exact Bool.noConfusion h

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩, ⟨%d3, H3⟩, ⟨%d4, H4⟩, ⟨%d5, H5⟩, ⟨%d6, H6⟩⟩
  by_cases hA : t.val % 16 = 0
  · have e : pt3 t = t := Fin.ext (by show t.val - t.val % 16 = t.val; omega)
    have l4 := live_4 m c t (by omega)
    rw [hAt, e] at l4
    iapply (kernel_a c Set.univ (grid0.coords t) _ _ _ _ _ _ _ _ _ _ _ _ _ _ (iblk m c 0 t) (iblk m c 1 t) (iblk m c 2 t) _
      (holds (cond1_at t) hA) (holds (cond2_at t) (by omega)) (fails (cond3_at t) (by omega)) (fails (cond4_at t) (by omega)))
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iapply (live_3 m c t hA); iexact H3
    isplitl [H4]; · iapply l4; iexact H4
    isplitl [H5]; · iapply (kept_5 m c t (by omega) d5); iexact H5
    iapply (kept_6 m c t (by omega) d6); iexact H6
  · have k3 := kept_3 m c t hA d3
    rw [before0_3 m c t hA, after0_3] at k3 ⊢
    by_cases hB : t.val % 16 < 12
    · iapply (kernel_b c Set.univ (grid0.coords t) _ _ _ _ _ _ _ _ _ _ _ _ _ _ (iblk m c 2 t) (hAt m c t) _
        (fails (cond1_at t) hA) (holds (cond2_at t) hB) (fails (cond3_at t) (by omega)) (fails (cond4_at t) (by omega)))
      isplitl [H2]; · iexact H2
      isplitl [H3]; · iexact H3
      isplitl [H4]; · iexists _; iexact H4
      iintro ⟨H2, H3, H4⟩
      isplitl [HΦ]; · iexact HΦ
      isplitl [Ho]; · iexact Ho
      isplitl [H0]; · iexact H0
      isplitl [H1]; · iexact H1
      isplitl [H2]; · iexact H2
      isplitl [H3]; · iapply k3; iexact H3
      isplitl [H4]; · iapply (live_4 m c t hB); iexact H4
      isplitl [H5]; · iapply (kept_5 m c t (by omega) d5); iexact H5
      iapply (kept_6 m c t (by omega) d6); iexact H6
    · by_cases hC : t.val % 16 < 14
      · iapply (kernel_c c Set.univ (grid0.coords t) _ _ _ _ _ _ _ _ _ _ _ _ _ _ (iblk m c 2 t) (hAt m c t) _
          (fails (cond1_at t) hA) (fails (cond2_at t) hB) (holds (cond3_at t) (by omega)) (fails (cond4_at t) (by omega)))
        isplitl [H2]; · iexact H2
        isplitl [H3]; · iexact H3
        isplitl [H5]; · iexists _; iexact H5
        iintro ⟨H2, H3, H5⟩
        isplitl [HΦ]; · iexact HΦ
        isplitl [Ho]; · iexact Ho
        isplitl [H0]; · iexact H0
        isplitl [H1]; · iexact H1
        isplitl [H2]; · iexact H2
        isplitl [H3]; · iapply k3; iexact H3
        isplitl [H4]; · iapply (kept_4 m c t hB d4); iexact H4
        isplitl [H5]; · iapply (live_5 m c t (by omega)); iexact H5
        iapply (kept_6 m c t (by omega) d6); iexact H6
      · iapply (kernel_d c Set.univ (grid0.coords t) _ _ _ _ _ _ _ _ _ _ _ _ _ _ (iblk m c 2 t) (hAt m c t) _
          (fails (cond1_at t) hA) (fails (cond2_at t) hB) (fails (cond3_at t) (by omega)) (holds (cond4_at t) (by omega)))
        isplitl [H2]; · iexact H2
        isplitl [H3]; · iexact H3
        isplitl [H6]; · iexists _; iexact H6
        iintro ⟨H2, H3, H6⟩
        isplitl [HΦ]; · iexact HΦ
        isplitl [Ho]; · iexact Ho
        isplitl [H0]; · iexact H0
        isplitl [H1]; · iexact H1
        isplitl [H2]; · iexact H2
        isplitl [H3]; · iapply k3; iexact H3
        isplitl [H4]; · iapply (kept_4 m c t hB d4); iexact H4
        isplitl [H5]; · iapply (kept_5 m c t (by omega) d5); iexact H5
        iapply (live_6 m c t (by omega)); iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every run ends, every array of the pipeline ends at what the proof data say, and every counter at zero. -/
theorem run_counters : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_counters m ρ)

/-- The arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_counters m ρ))

end Cert.InprojIdeal.Hand

end
-- ==== Proof.Inproj.lean ====
/- The input projection: the value. Each stored block is a block of the reference's normed rows, or of its product with the
   weights; the blocks that are written back cover each of the four results. -/
module

public import proofs.«01_k».proof.Proof.InprojIdealFrame
public import proofs.«01_k».proof.Proof.Gen.InprojRefIdeal.Read
public import Idealize.ShloMosaic.Lib.Pipeline.ValueKit

@[expose] public section

set_option maxRecDepth 16384

noncomputable section

namespace Cert.InprojIdeal.Value

open Cert.InprojIdeal Cert.InprojIdeal.Gen Cert.InprojIdeal.Hand Idealize.ShloMosaic Idealize.ShloMosaic.TcCoe Idealize.SL.Sem
open Idealize.ShloMosaic.Pipeline (Dat)
open Cert.InprojRefIdeal.Read

variable (m : (ℓ : Loc nD τ sig) → Buf (Elt Ideal) ℓ)

/-- The root mean square norm of a row, times its scale. -/
def norm (o : Fin 4096 → EReal) (g : Fin 4096 → EReal) (q : Fin 4096) : EReal :=
  o q * Ideal.rsqrt (Ideal.div (∑ j : Fin 4096, o j * o j)
        (Ideal.ofBits FTy.f32 1166016512#32) + Ideal.ofBits FTy.f32 897988541#32) * g q

/-- The normed block, row by row. -/
theorem hval_at (x : S512x4096.Idx → EReal) (g : S1x4096.Idx → EReal) (p : Fin 512) (q : Fin 4096) :
    hval (F := Ideal) x g (ValueIdx.ix2 p q) = norm (fun j => x (ValueIdx.ix2 p j)) (fun j => g (ValueIdx.ix2 (0 : Fin 1) j)) q := by
  have hx : ∀ j : Fin 4096, (fun z : S64x4096.Idx => x (ValueIdx.ix2 (rowOf p (z 0)) (z 1))) (ValueIdx.ix2 (⟨p.val % 64, Nat.mod_lt _ (by omega)⟩ : Fin 64) j) = x (ValueIdx.ix2 p j) := by
    intro j
    exact congrArg (fun r : Fin 512 => x (ValueIdx.ix2 r j)) (Fin.ext (by show 64 * (p.val / 64) + p.val % 64 = p.val; omega))
  show k0_pay1 (F := Ideal) (fun z : S64x4096.Idx => x (ValueIdx.ix2 (rowOf p (z 0)) (z 1))) g
    (ValueIdx.ix2 (⟨p.val % 64, Nat.mod_lt _ (by omega)⟩ : Fin 64) q) = _
  generalize (fun z : S64x4096.Idx => x (ValueIdx.ix2 (rowOf p (z 0)) (z 1))) = x' at hx ⊢
  unfold norm
  simp only [← hx]
  pointwise [k0_pay1]
  rfl

/-- A block of the product. -/
theorem mul_at (h : S512x4096.Idx → EReal) (w : S4096x512.Idx → EReal) (p : Fin 512) (q : Fin 512) :
    k0_pay2 (F := Ideal) h w (ValueIdx.ix2 p q) = ∑ k : Fin 4096, h (ValueIdx.ix2 p k) * w (ValueIdx.ix2 k q) := by
  pointwise [k0_pay2]
  rfl

/-- Where each window stands at each grid point. -/
theorem idx : ∀ t : Fin cfg0.N, win0_0.index t = ![t.val / 16, 0] ∧ win0_1.index t = ![0, 0] ∧ win0_2.index t = ![0, t.val % 16]
    ∧ win0_3.index t = ![t.val / 16, 0] ∧ win0_4.index t = ![t.val / 16, min (t.val % 16) 11]
    ∧ win0_5.index t = ![t.val / 16, min (t.val % 16 - 12) 1] ∧ win0_6.index t = ![t.val / 16, min (t.val % 16 - 14) 1] ∧ t.val < 512 :=
  (by decide +kernel : ∀ t : Fin grid0.N, _)

abbrev X (c : Dev nD) : S16384x4096.Idx → EReal := m ((c : Thread nD τ).loc main_arg0)
abbrev G (c : Dev nD) : S1x4096.Idx → EReal := m ((c : Thread nD τ).loc main_arg1)
abbrev W (c : Dev nD) : S4096x20480.Idx → EReal := m ((c : Thread nD τ).loc main_arg2)

/-- A row of the input, normed. -/
abbrev nrm (c : Dev nD) (r : Fin 16384) (q : Fin 4096) : EReal :=
  norm (fun j => X m c (ValueIdx.ix2 r j)) (fun j => G m c (ValueIdx.ix2 (0 : Fin 1) j)) q

/-- The normed block, in the arrays' coordinates. -/
theorem hAt_at (c : Dev nD) (t : Fin cfg0.N) (p : Fin 512) (q : Fin 4096) (r : Fin 16384) (hr : r.val = t.val / 16 * 512 + p.val) :
    hAt (F := Ideal) m c t (ValueIdx.ix2 p q) = nrm m c r q := by
  have hx : ∀ j : Fin 4096, iblk m c 0 (pt3 t) (ValueIdx.ix2 p j) = X m c (ValueIdx.ix2 r j) := by
    intro j
    have h3 := idx (pt3 t)
    have e : (pt3 t).val / 16 = t.val / 16 := by show (t.val - t.val % 16) / 16 = t.val / 16; omega
    unfold X
    blk_point [iblk, V, idx (pt3 t)]
    rw [hr, e]
  have hg : ∀ j : Fin 4096, iblk m c 1 (pt3 t) (ValueIdx.ix2 (0 : Fin 1) j) = G m c (ValueIdx.ix2 (0 : Fin 1) j) := by
    intro j
    have h3 := idx (pt3 t)
    unfold G
    blk_point [iblk, V, idx (pt3 t)]
  unfold hAt nrm
  refine (hval_at _ _ p q).trans ?_
  simp only [hx, hg]

/-- A block of the weights, in the array's coordinates. -/
theorem w_at (c : Dev nD) (t : Fin cfg0.N) (k : Fin 4096) (q : Fin 512) (q' : Fin 20480) (hq : q'.val = t.val % 16 * 512 + q.val) :
    iblk m c 2 t (ValueIdx.ix2 k q) = W m c (ValueIdx.ix2 k q') := by
  have h3 := idx t
  unfold W
  blk_point [iblk, V, idx t]
  rw [hq]

/-- The reference's product, over the kernel's argument arrays. -/
abbrev Z (c : Dev nD) (r : Fin 16384) (q : Fin 20480) : EReal := ∑ k : Fin 4096, nrm m c r k * W m c (ValueIdx.ix2 k q)

theorem ref_norm (c : Dev nD) (r : Fin 16384) (q : Fin 4096) :
    val_main_v11 (F := Ideal) (m ((c : Thread nD τ).loc main_arg0)) (m ((c : Thread nD τ).loc main_arg1)) (ValueIdx.ix2 r q) = nrm m c r q := by
  unfold nrm norm
  pointwise [val_main_v0, val_main_cst, val_main_v1, val_main_v2, val_main_cst_0, val_main_v3, val_main_v4, val_main_cst_1, val_main_v5, val_main_v6, val_main_v7, val_main_v8, val_main_v9, val_main_v10, val_main_v11]
  rfl

theorem ref_at (c : Dev nD) (r : Fin 16384) (q : Fin 20480) :
    val_main_v13 (F := Ideal) (m ((c : Thread nD τ).loc main_arg0)) (m ((c : Thread nD τ).loc main_arg1)) (m ((c : Thread nD τ).loc main_arg2)) (ValueIdx.ix2 r q) = Z m c r q := by
  rw [val_main_v13_apply]
  refine Finset.sum_congr rfl fun k _ => ?_
  have hl : lidx_main_v13 (ValueIdx.ix2 r q) k = (ValueIdx.ix2 r k : S16384x4096.Idx) := funext fun a => by match a with | 0 => rfl | 1 => rfl
  have hr : ridx_main_v13 (ValueIdx.ix2 r q) k = (ValueIdx.ix2 k q : S4096x20480.Idx) := funext fun a => by match a with | 0 => rfl | 1 => rfl
  rw [hl, hr, ref_norm]
  rfl

/-- A stored product, in the arrays' coordinates: its column block is that of the point it was stored at. -/
theorem prod_at (c : Dev nD) (t t' : Fin cfg0.N) (p q : Fin 512) (r : Fin 16384) (q' : Fin 20480) (hr : r.val = t.val / 16 * 512 + p.val)
    (hq : q'.val = t'.val % 16 * 512 + q.val) :
    k0_pay2 (F := Ideal) (hAt m c t) (iblk m c 2 t') (ValueIdx.ix2 p q) = Z m c r q' := by
  refine (mul_at _ _ p q).trans (Finset.sum_congr rfl fun k _ => ?_)
  rw [hAt_at m c t p k r hr]
  exact congrArg (nrm m c r k * ·) (w_at m c t' k q q' hq)

/-- The four results of the reference, over the kernel's argument arrays. -/
abbrev REFH (c : Dev nD) : FVec Ideal S16384x4096 .bf16 :=
  val_main_v18 (F := Ideal) (m ((c : Thread nD τ).loc main_arg0)) (m ((c : Thread nD τ).loc main_arg1))
abbrev REFQ (c : Dev nD) : FVec Ideal S16384x6144 .bf16 :=
  val_main_v19 (F := Ideal) (m ((c : Thread nD τ).loc main_arg0)) (m ((c : Thread nD τ).loc main_arg1)) (m ((c : Thread nD τ).loc main_arg2))
abbrev REFU (c : Dev nD) : FVec Ideal S16384x1024 .f32 :=
  val_main_v15 (F := Ideal) (m ((c : Thread nD τ).loc main_arg0)) (m ((c : Thread nD τ).loc main_arg1)) (m ((c : Thread nD τ).loc main_arg2))
abbrev REFC (c : Dev nD) : FVec Ideal S16384x1024 .bf16 :=
  val_main_v20 (F := Ideal) (m ((c : Thread nD τ).loc main_arg0)) (m ((c : Thread nD τ).loc main_arg1)) (m ((c : Thread nD τ).loc main_arg2))

theorem refh_at (c : Dev nD) (r : Fin 16384) (q : Fin 4096) : REFH m c (ValueIdx.ix2 r q) = nrm m c r q := ref_norm m c r q

theorem refq_at (c : Dev nD) (r : Fin 16384) (q : Fin 6144) : REFQ m c (ValueIdx.ix2 r q) = Z m c r ⟨q.val, by omega⟩ := by
  refine Eq.trans ?_ (ref_at m c r ⟨q.val, by omega⟩)
  show val_main_v14 (F := Ideal) _ _ _ _ = _
  rw [val_main_v14_apply]
  exact congrArg _ (funext fun a => Fin.ext (by match a with | 0 => (first | rfl | exact Nat.zero_add _ | exact Nat.add_zero _) | 1 => (first | rfl | exact Nat.zero_add _ | exact Nat.add_zero _)))

theorem refu_at (c : Dev nD) (r : Fin 16384) (q : Fin 1024) : REFU m c (ValueIdx.ix2 r q) = Z m c r ⟨6144 + q.val, by omega⟩ := by
  refine Eq.trans ?_ (ref_at m c r ⟨6144 + q.val, by omega⟩)
  show val_main_v15 (F := Ideal) _ _ _ _ = _
  rw [val_main_v15_apply]
  exact congrArg _ (funext fun a => Fin.ext (by match a with | 0 => (first | rfl | exact Nat.zero_add _ | exact Nat.add_zero _) | 1 => (first | rfl | exact Nat.add_comm _ _)))

theorem refc_at (c : Dev nD) (r : Fin 16384) (q : Fin 1024) : REFC m c (ValueIdx.ix2 r q) = Z m c r ⟨7168 + q.val, by omega⟩ := by
  refine Eq.trans ?_ (ref_at m c r ⟨7168 + q.val, by omega⟩)
  show val_main_v16 (F := Ideal) _ _ _ _ = _
  rw [val_main_v16_apply]
  exact congrArg _ (funext fun a => Fin.ext (by match a with | 0 => (first | rfl | exact Nat.zero_add _ | exact Nat.add_zero _) | 1 => (first | rfl | exact Nat.add_comm _ _)))

/-- The first result: the normed rows. -/
theorem final_3 (c : Dev nD) : (dats (F := Ideal) m 0 c).arrAt 3 (cfgs 0).N = REFH m c := by
  refine (dats m 0 c).arrAt_eq_of_covers 3 _ (by decide +kernel) fun t ht y => ?_
  have hx := idx t
  blk_simp
  rw [after0_3]
  obtain ⟨p, q, rfl⟩ : ∃ (p : Fin 512) (q : Fin 4096), (ValueIdx.ix2 p q : S512x4096.Idx) = y := ⟨y 0, y 1, funext fun a => by match a with | 0 => rfl | 1 => rfl⟩
  have hr : t.val / 16 * 512 + p.val < 16384 := by omega
  have hat : ((cfg0.win 3).blk t).view.emb (ValueIdx.ix2 p q) = (ValueIdx.ix2 (⟨t.val / 16 * 512 + p.val, hr⟩ : Fin 16384) q : S16384x4096.Idx) := by
    funext a
    apply Fin.ext
    match a with
    | 0 => blk_simp [idx t]; rfl
    | 1 => blk_simp [idx t]; rfl
  rw [show (win0_3.blk t).view.emb (ValueIdx.ix2 p q) = _ from hat, refh_at]
  exact hAt_at m c t p q _ rfl

/-- The second result: the columns of the product from 0. -/
theorem final_4 (c : Dev nD) : (dats (F := Ideal) m 0 c).arrAt 4 (cfgs 0).N = REFQ m c := by
  refine (dats m 0 c).arrAt_eq_of_covers 4 _ (by decide +kernel) fun t ht y => ?_
  have hx := idx t
  blk_simp
  rw [after0_4]
  obtain ⟨p, q, rfl⟩ : ∃ (p : Fin 512) (q : Fin 512), (ValueIdx.ix2 p q : S512x512.Idx) = y := ⟨y 0, y 1, funext fun a => by match a with | 0 => rfl | 1 => rfl⟩
  have hr : t.val / 16 * 512 + p.val < 16384 := by omega
  have hq : min (t.val % 16) 11 * 512 + q.val < 6144 := by omega
  have hat : ((cfg0.win 4).blk t).view.emb (ValueIdx.ix2 p q) = (ValueIdx.ix2 (⟨t.val / 16 * 512 + p.val, hr⟩ : Fin 16384) (⟨min (t.val % 16) 11 * 512 + q.val, hq⟩ : Fin 6144) : S16384x6144.Idx) := by
    funext a
    apply Fin.ext
    match a with
    | 0 => blk_simp [idx t]; rfl
    | 1 => blk_simp [idx t]; rfl
  rw [show (win0_4.blk t).view.emb (ValueIdx.ix2 p q) = _ from hat, refq_at]
  refine prod_at m c t (pt4 t) p q _ _ rfl ?_
  show min (t.val % 16) 11 * 512 + q.val = (t.val - t.val % 16 + min (t.val % 16) 11) % 16 * 512 + q.val
  omega

/-- The third result: the columns of the product from 6144. -/
theorem final_5 (c : Dev nD) : (dats (F := Ideal) m 0 c).arrAt 5 (cfgs 0).N = REFU m c := by
  refine (dats m 0 c).arrAt_eq_of_covers 5 _ (by decide +kernel) fun t ht y => ?_
  have hx := idx t
  blk_simp
  rw [after0_5]
  obtain ⟨p, q, rfl⟩ : ∃ (p : Fin 512) (q : Fin 512), (ValueIdx.ix2 p q : S512x512.Idx) = y := ⟨y 0, y 1, funext fun a => by match a with | 0 => rfl | 1 => rfl⟩
  have hr : t.val / 16 * 512 + p.val < 16384 := by omega
  have hq : min (t.val % 16 - 12) 1 * 512 + q.val < 1024 := by omega
  have hat : ((cfg0.win 5).blk t).view.emb (ValueIdx.ix2 p q) = (ValueIdx.ix2 (⟨t.val / 16 * 512 + p.val, hr⟩ : Fin 16384) (⟨min (t.val % 16 - 12) 1 * 512 + q.val, hq⟩ : Fin 1024) : S16384x1024.Idx) := by
    funext a
    apply Fin.ext
    match a with
    | 0 => blk_simp [idx t]; rfl
    | 1 => blk_simp [idx t]; rfl
  rw [show (win0_5.blk t).view.emb (ValueIdx.ix2 p q) = _ from hat, refu_at]
  refine prod_at m c t (pt5 t) p q _ _ rfl ?_
  show 6144 + (min (t.val % 16 - 12) 1 * 512 + q.val) = (t.val - t.val % 16 + max 12 (min (t.val % 16) 13)) % 16 * 512 + q.val
  omega

/-- The fourth result: the columns of the product from 7168. -/
theorem final_6 (c : Dev nD) : (dats (F := Ideal) m 0 c).arrAt 6 (cfgs 0).N = REFC m c := by
  refine (dats m 0 c).arrAt_eq_of_covers 6 _ (by decide +kernel) fun t ht y => ?_
  have hx := idx t
  blk_simp
  rw [after0_6]
  obtain ⟨p, q, rfl⟩ : ∃ (p : Fin 512) (q : Fin 512), (ValueIdx.ix2 p q : S512x512.Idx) = y := ⟨y 0, y 1, funext fun a => by match a with | 0 => rfl | 1 => rfl⟩
  have hr : t.val / 16 * 512 + p.val < 16384 := by omega
  have hq : min (t.val % 16 - 14) 1 * 512 + q.val < 1024 := by omega
  have hat : ((cfg0.win 6).blk t).view.emb (ValueIdx.ix2 p q) = (ValueIdx.ix2 (⟨t.val / 16 * 512 + p.val, hr⟩ : Fin 16384) (⟨min (t.val % 16 - 14) 1 * 512 + q.val, hq⟩ : Fin 1024) : S16384x1024.Idx) := by
    funext a
    apply Fin.ext
    match a with
    | 0 => blk_simp [idx t]; rfl
    | 1 => blk_simp [idx t]; rfl
  rw [show (win0_6.blk t).view.emb (ValueIdx.ix2 p q) = _ from hat, refc_at]
  refine prod_at m c t (pt6 t) p q _ _ rfl ?_
  show 7168 + (min (t.val % 16 - 14) 1 * 512 + q.val) = (t.val - t.val % 16 + max 14 (t.val % 16)) % 16 * 512 + q.val
  omega

/-- Every run ends with the reference's four results and the arguments as they were. -/
theorem run_results (ρ : Dev nD → PrngReg) : θ_run (defs (F := Ideal)) (onTc (τ := τ) (main (F := Ideal))) ⟨m, fun _ => 0, ρ⟩ (fun r => ∀ c : Dev nD,
      r.2.mem ((c.tc : Thread nD τ).loc main_v0_0) = REFH m c
      ∧ r.2.mem ((c.tc : Thread nD τ).loc main_v0_1) = REFQ m c
      ∧ r.2.mem ((c.tc : Thread nD τ).loc main_v0_2) = REFU m c
      ∧ r.2.mem ((c.tc : Thread nD τ).loc main_v0_3) = REFC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (final_3 m c), ((h c).1 4).trans (final_4 m c), ((h c).1 5).trans (final_5 m c),
      ((h c).1 6).trans (final_6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Cert.InprojIdeal.Value

end
-- ==== Proof.lean ====
/- The certificate: for every program the frames, and for every call its value against the reference. The mathematics of
   each call lies in a module of its own under Proof/; here the pieces are put together. -/
module

public import proofs.«01_k».proof.Defs
public import proofs.«01_k».proof.Proof.Natten
public import proofs.«01_k».proof.Proof.Gen.Natten
public import proofs.«01_k».proof.Proof.Gen.Natten.Skeleton
public import proofs.«01_k».proof.Proof.Gen.Natten.Launch
public import proofs.«01_k».proof.Proof.Gen.Natten.Points
public import proofs.«01_k».proof.Proof.Gen.Natten.Frame
public import proofs.«01_k».proof.Proof.Gen.NattenIdeal
public import proofs.«01_k».proof.Proof.Gen.NattenIdeal.Skeleton
public import proofs.«01_k».proof.Proof.Gen.NattenIdeal.Launch
public import proofs.«01_k».proof.Proof.Gen.NattenIdeal.Points
public import proofs.«01_k».proof.Proof.Gen.NattenIdeal.Frame
public import proofs.«01_k».proof.Proof.Gen.NattenIdeal.Value
public import proofs.«01_k».proof.Proof.Gen.NattenRefIdeal
public import proofs.«01_k».proof.Proof.Gen.NattenRefIdeal.Run
public import proofs.«01_k».proof.Proof.Gen.NattenRefIdeal.Read
public import proofs.«01_k».proof.Proof.Ffn1
public import proofs.«01_k».proof.Proof.Gen.Ffn1
public import proofs.«01_k».proof.Proof.Gen.Ffn1.Skeleton
public import proofs.«01_k».proof.Proof.Gen.Ffn1.Loops
public import proofs.«01_k».proof.Proof.Gen.Ffn1.Launch
public import proofs.«01_k».proof.Proof.Gen.Ffn1.Points
public import proofs.«01_k».proof.Proof.Gen.Ffn1.Frame
public import proofs.«01_k».proof.Proof.Gen.Ffn1Ideal
public import proofs.«01_k».proof.Proof.Gen.Ffn1Ideal.Skeleton
public import proofs.«01_k».proof.Proof.Gen.Ffn1Ideal.Loops
public import proofs.«01_k».proof.Proof.Gen.Ffn1Ideal.Launch
public import proofs.«01_k».proof.Proof.Gen.Ffn1Ideal.Points
public import proofs.«01_k».proof.Proof.Gen.Ffn1Ideal.Frame
public import proofs.«01_k».proof.Proof.Gen.Ffn1Ideal.Value
public import proofs.«01_k».proof.Proof.Gen.Ffn1RefIdeal
public import proofs.«01_k».proof.Proof.Gen.Ffn1RefIdeal.Run
public import proofs.«01_k».proof.Proof.Gen.Ffn1RefIdeal.Read
public import proofs.«01_k».proof.Proof.Ffn2
public import proofs.«01_k».proof.Proof.Gen.Ffn2
public import proofs.«01_k».proof.Proof.Gen.Ffn2.Skeleton
public import proofs.«01_k».proof.Proof.Gen.Ffn2.Loops
public import proofs.«01_k».proof.Proof.Gen.Ffn2.Launch
public import proofs.«01_k».proof.Proof.Gen.Ffn2.Points
public import proofs.«01_k».proof.Proof.Gen.Ffn2.Frame
public import proofs.«01_k».proof.Proof.Gen.Ffn2Ideal
public import proofs.«01_k».proof.Proof.Gen.Ffn2Ideal.Skeleton
public import proofs.«01_k».proof.Proof.Gen.Ffn2Ideal.Loops
public import proofs.«01_k».proof.Proof.Gen.Ffn2Ideal.Launch
public import proofs.«01_k».proof.Proof.Gen.Ffn2Ideal.Points
public import proofs.«01_k».proof.Proof.Gen.Ffn2Ideal.Frame
public import proofs.«01_k».proof.Proof.Gen.Ffn2Ideal.Value
public import proofs.«01_k».proof.Proof.Gen.Ffn2RefIdeal
public import proofs.«01_k».proof.Proof.Gen.Ffn2RefIdeal.Run
public import proofs.«01_k».proof.Proof.Gen.Ffn2RefIdeal.Read
public import proofs.«01_k».proof.Proof.Merge
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Memkv
public import proofs.«01_k».proof.Proof.Gen.Memkv
public import proofs.«01_k».proof.Proof.Gen.Memkv.Skeleton
public import proofs.«01_k».proof.Proof.Gen.Memkv.Launch
public import proofs.«01_k».proof.Proof.Gen.Memkv.Points
public import proofs.«01_k».proof.Proof.Gen.Memkv.Frame
public import proofs.«01_k».proof.Proof.Gen.MemkvIdeal
public import proofs.«01_k».proof.Proof.Gen.MemkvIdeal.Skeleton
public import proofs.«01_k».proof.Proof.Gen.MemkvIdeal.Launch
public import proofs.«01_k».proof.Proof.Gen.MemkvIdeal.Points
public import proofs.«01_k».proof.Proof.Gen.MemkvIdeal.Frame
public import proofs.«01_k».proof.Proof.Gen.MemkvIdeal.Value
public import proofs.«01_k».proof.Proof.Gen.MemkvRefIdeal
public import proofs.«01_k».proof.Proof.Gen.MemkvRefIdeal.Run
public import proofs.«01_k».proof.Proof.Gen.MemkvRefIdeal.Read
public import proofs.«01_k».proof.Proof.Memattn
public import proofs.«01_k».proof.Proof.Gen.Memattn
public import proofs.«01_k».proof.Proof.Gen.Memattn.Skeleton
public import proofs.«01_k».proof.Proof.Gen.Memattn.Launch
public import proofs.«01_k».proof.Proof.Gen.Memattn.Points
public import proofs.«01_k».proof.Proof.Gen.Memattn.Frame
public import proofs.«01_k».proof.Proof.Gen.MemattnIdeal
public import proofs.«01_k».proof.Proof.Gen.MemattnIdeal.Skeleton
public import proofs.«01_k».proof.Proof.Gen.MemattnIdeal.Launch
public import proofs.«01_k».proof.Proof.Gen.MemattnIdeal.Points
public import proofs.«01_k».proof.Proof.Gen.MemattnIdeal.Frame
public import proofs.«01_k».proof.Proof.Gen.MemattnIdeal.Value
public import proofs.«01_k».proof.Proof.Gen.MemattnRefIdeal
public import proofs.«01_k».proof.Proof.Gen.MemattnRefIdeal.Run
public import proofs.«01_k».proof.Proof.Gen.MemattnRefIdeal.Read
public import proofs.«01_k».proof.Proof.Wo
public import proofs.«01_k».proof.Proof.Gen.Wo
public import proofs.«01_k».proof.Proof.Gen.Wo.Skeleton
public import proofs.«01_k».proof.Proof.Gen.Wo.Loops
public import proofs.«01_k».proof.Proof.Gen.Wo.Launch
public import proofs.«01_k».proof.Proof.Gen.Wo.Points
public import proofs.«01_k».proof.Proof.Gen.Wo.Frame
public import proofs.«01_k».proof.Proof.Gen.WoIdeal
public import proofs.«01_k».proof.Proof.Gen.WoIdeal.Skeleton
public import proofs.«01_k».proof.Proof.Gen.WoIdeal.Loops
public import proofs.«01_k».proof.Proof.Gen.WoIdeal.Launch
public import proofs.«01_k».proof.Proof.Gen.WoIdeal.Points
public import proofs.«01_k».proof.Proof.Gen.WoIdeal.Frame
public import proofs.«01_k».proof.Proof.Gen.WoIdeal.Value
public import proofs.«01_k».proof.Proof.Gen.WoRefIdeal
public import proofs.«01_k».proof.Proof.Gen.WoRefIdeal.Run
public import proofs.«01_k».proof.Proof.Gen.WoRefIdeal.Read
public import proofs.«01_k».proof.Proof.Inproj
public import proofs.«01_k».proof.Proof.Gen.Inproj
public import proofs.«01_k».proof.Proof.Gen.Inproj.Skeleton
public import proofs.«01_k».proof.Proof.Gen.Inproj.Loops
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Loops
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.InprojRefIdeal.Run
public import proofs.«01_k».proof.Proof.Gen.InprojRefIdeal.Read
public import proofs.«01_k».proof.Proof.InprojFrame
public import proofs.«01_k».proof.Proof.InprojIdealFrame
public import Idealize.ShloMosaic.Lib.Claim
public import Idealize.ShloMosaic.Adequacy
public import Idealize.ShloMosaic.Init

@[expose] public section

noncomputable section

namespace Cert.Proof

open Idealize.ShloMosaic Idealize.SL.Sem

/-- The side conditions of the precondition of the neighbourhood attention. -/
instance scoreFacts : Cert.Pre_finite_scores.Facts where
  bitsLt_bf16_f32 := by decide
  slices_S1x16384x6144_S1x16384x4096_0_0_0 := by decide
  bcast_S_S1x16384x4096 := by decide
  bcast_S_S16x15x31 := by decide

/-- The side conditions of the precondition of the memory attention. -/
instance preFacts : Cert.Pre_finite.Facts where
  bitsLt_bf16_f32 := by decide
  slices_S1x256x2048_S1x256x1024_0_0_0 := by decide
  bcast_S_S1x16384x1024 := by decide
  bcast_S_S1x256x1024 := by decide

/-- The call `Natten`: the two programs end with equal results. -/
theorem natten : Cert.algebraic_NattenIdeal_NattenRefIdeal_pre_finite_scores := by
  intro m g m' g' hpre hagree
  refine ⟨fun c => (Cert.NattenIdeal.Gen.dats m 0 c).arrAt 10 _, Cert.NattenIdeal.Value.run_blocks m g,
    (θ_run Cert.NattenRefIdeal.defs _ _).mono (fun r h c => ⟨(h c).1.trans ?_, (h c).2⟩) (Cert.NattenRefIdeal.Value.run (F := Ideal) m' g')⟩
  rw [Cert.NattenRefIdeal.Read.val_main_v98_eq, (hagree c).1, (hagree c).2]
  exact (Cert.NattenIdeal.Value.final m c (Cert.NattenIdeal.Value.real_qk _ _ (hpre c).1) (Cert.NattenIdeal.Value.real_b _ _ (hpre c).2)).symm

/-- The call `Ffn1`: the two programs end with equal results. -/
theorem ffn1 : Cert.algebraic_Ffn1Ideal_Ffn1RefIdeal := by
  pair_intro
  · run_from Cert.Ffn1Ideal.Gen.run_main m g
  · run_from Cert.Ffn1RefIdeal.Value.run m' g'
    rw [Cert.Ffn1RefIdeal.Read.val_main_v34_eq, (hagree _).1, (hagree _).2.1, (hagree _).2.2.1, (hagree _).2.2.2.1, (hagree _).2.2.2.2.1, (hagree _).2.2.2.2.2.1]
    exact (Cert.Ffn1Ideal.Value.final m _).symm

/-- The call `Ffn2`: the two programs end with equal results. -/
theorem ffn2 : Cert.algebraic_Ffn2Ideal_Ffn2RefIdeal := by
  pair_intro
  · run_from Cert.Ffn2Ideal.Gen.run_main m g
  · run_from Cert.Ffn2RefIdeal.Value.run m' g'
    rw [Cert.Ffn2RefIdeal.Read.val_main_v46_eq, (hagree _).1, (hagree _).2.1, (hagree _).2.2.1, (hagree _).2.2.2.1, (hagree _).2.2.2.2.1, (hagree _).2.2.2.2.2.1, (hagree _).2.2.2.2.2.2]
    exact (Cert.Ffn2Ideal.Value.final m _).symm

/-- The call `Merge`: the two programs end with equal results. -/
theorem merge : Cert.algebraic_MergeIdeal_MergeRefIdeal := by
  pair_intro
  · run_from Cert.MergeIdeal.Gen.run_main m g
  · run_from Cert.MergeRefIdeal.Value.run m' g'
    rw [Cert.MergeRefIdeal.Read.val_main_v34_eq]
    exact (Cert.MergeIdeal.Value.final m _).symm

/-- The call `Memkv`: the two programs end with equal results. -/
theorem memkv : Cert.algebraic_MemkvIdeal_MemkvRefIdeal := by
  pair_intro
  · run_from Cert.MemkvIdeal.Gen.run_main m g
  · run_from Cert.MemkvRefIdeal.Value.run m' g'
    rw [Cert.MemkvRefIdeal.Read.val_main_v14_eq]
    exact (Cert.MemkvIdeal.Value.final m _).symm

/-- The call `Memattn`: the two programs end with equal results. -/
theorem memattn : Cert.algebraic_MemattnIdeal_MemattnRefIdeal_pre_finite := by
  pair_intro
  · run_from Cert.MemattnIdeal.Gen.run_main m g
  · run_from Cert.MemattnRefIdeal.Value.run m' g'
    rw [Cert.MemattnRefIdeal.Read.val_main_v25_eq]
    exact (Cert.MemattnIdeal.Value.final m _ (Cert.MemattnIdeal.Value.real_q _ _ (hpre _).1) (Cert.MemattnIdeal.Value.real_k _ _ (hpre _).2)).symm

/-- The call `Wo`: the two programs end with equal results. -/
theorem wo : Cert.algebraic_WoIdeal_WoRefIdeal := by
  pair_intro
  · run_from Cert.WoIdeal.Gen.run_main m g
  · run_from Cert.WoRefIdeal.Value.run m' g'
    rw [Cert.WoRefIdeal.Read.val_main_v15_eq]
    exact (Cert.WoIdeal.Value.final m _).symm

/-- The call `Inproj`: the two programs end with equal results. -/
theorem inproj : Cert.algebraic_InprojIdeal_InprojRefIdeal := by
  intro m g m' g' _ hagree
  refine ⟨fun c => Cert.InprojIdeal.Value.REFH m c, fun c => Cert.InprojIdeal.Value.REFQ m c, fun c => Cert.InprojIdeal.Value.REFU m c,
    fun c => Cert.InprojIdeal.Value.REFC m c, Cert.InprojIdeal.Value.run_results m g,
    (θ_run Cert.InprojRefIdeal.defs _ _).mono (fun r h c => ⟨(h c).1.trans ?_, (h c).2.1.trans ?_, (h c).2.2.1.trans ?_, (h c).2.2.2.1.trans ?_, (h c).2.2.2.2⟩)
      (Cert.InprojRefIdeal.Value.run (F := Ideal) m' g')⟩
  · rw [Cert.InprojRefIdeal.Read.val_main_v18_eq, (hagree c).1, (hagree c).2.1]
  · rw [Cert.InprojRefIdeal.Read.val_main_v19_eq, (hagree c).1, (hagree c).2.1, (hagree c).2.2]
  · rw [Cert.InprojRefIdeal.Read.val_main_v15_eq, (hagree c).1, (hagree c).2.1, (hagree c).2.2]
  · rw [Cert.InprojRefIdeal.Read.val_main_v20_eq, (hagree c).1, (hagree c).2.1, (hagree c).2.2]

theorem nattenRefIdeal_frame : Cert.quiescent_NattenRefIdeal := fun m g _ =>
  (θ_run Cert.NattenRefIdeal.defs _ _).mono
    (fun r h => ⟨fun c => (h c).2, sem_eq_zero_of_no_sems (by decide) r.2⟩)
    (Cert.NattenRefIdeal.Value.run (F := Ideal) m g)

theorem ffn1RefIdeal_frame : Cert.quiescent_Ffn1RefIdeal := fun m g _ =>
  (θ_run Cert.Ffn1RefIdeal.defs _ _).mono
    (fun r h => ⟨fun c => (h c).2, sem_eq_zero_of_no_sems (by decide) r.2⟩)
    (Cert.Ffn1RefIdeal.Value.run (F := Ideal) m g)

theorem ffn2RefIdeal_frame : Cert.quiescent_Ffn2RefIdeal := fun m g _ =>
  (θ_run Cert.Ffn2RefIdeal.defs _ _).mono
    (fun r h => ⟨fun c => (h c).2, sem_eq_zero_of_no_sems (by decide) r.2⟩)
    (Cert.Ffn2RefIdeal.Value.run (F := Ideal) m g)

theorem mergeRefIdeal_frame : Cert.quiescent_MergeRefIdeal := fun m g _ =>
  (θ_run Cert.MergeRefIdeal.defs _ _).mono
    (fun r h => ⟨fun c => (h c).2, sem_eq_zero_of_no_sems (by decide) r.2⟩)
    (Cert.MergeRefIdeal.Value.run (F := Ideal) m g)

theorem memkvRefIdeal_frame : Cert.quiescent_MemkvRefIdeal := fun m g _ =>
  (θ_run Cert.MemkvRefIdeal.defs _ _).mono
    (fun r h => ⟨fun c => (h c).2, sem_eq_zero_of_no_sems (by decide) r.2⟩)
    (Cert.MemkvRefIdeal.Value.run (F := Ideal) m g)

theorem memattnRefIdeal_frame : Cert.quiescent_MemattnRefIdeal := fun m g _ =>
  (θ_run Cert.MemattnRefIdeal.defs _ _).mono
    (fun r h => ⟨fun c => (h c).2, sem_eq_zero_of_no_sems (by decide) r.2⟩)
    (Cert.MemattnRefIdeal.Value.run (F := Ideal) m g)

theorem woRefIdeal_frame : Cert.quiescent_WoRefIdeal := fun m g _ =>
  (θ_run Cert.WoRefIdeal.defs _ _).mono
    (fun r h => ⟨fun c => (h c).2, sem_eq_zero_of_no_sems (by decide) r.2⟩)
    (Cert.WoRefIdeal.Value.run (F := Ideal) m g)

theorem inprojRefIdeal_frame : Cert.quiescent_InprojRefIdeal := fun m g _ =>
  (θ_run Cert.InprojRefIdeal.defs _ _).mono
    (fun r h => ⟨fun c => (h c).2.2.2.2, sem_eq_zero_of_no_sems (by decide) r.2⟩)
    (Cert.InprojRefIdeal.Value.run (F := Ideal) m g)

theorem claim : Cert.Claim :=
  ⟨Cert.Natten.Gen.facts, Cert.NattenIdeal.Gen.facts, Cert.NattenRefIdeal.Gen.facts, Cert.Ffn1.Gen.facts, Cert.Ffn1Ideal.Gen.facts, Cert.Ffn1RefIdeal.Gen.facts, Cert.Ffn2.Gen.facts, Cert.Ffn2Ideal.Gen.facts, Cert.Ffn2RefIdeal.Gen.facts, Cert.Merge.Gen.facts, Cert.MergeIdeal.Gen.facts, Cert.MergeRefIdeal.Gen.facts, Cert.Memkv.Gen.facts, Cert.MemkvIdeal.Gen.facts, Cert.MemkvRefIdeal.Gen.facts, Cert.Memattn.Gen.facts, Cert.MemattnIdeal.Gen.facts, Cert.MemattnRefIdeal.Gen.facts, Cert.Wo.Gen.facts, Cert.WoIdeal.Gen.facts, Cert.WoRefIdeal.Gen.facts, Cert.Inproj.Gen.facts, Cert.InprojIdeal.Gen.facts, Cert.InprojRefIdeal.Gen.facts, scoreFacts, preFacts,
   fun m ρ _ => Cert.Natten.Gen.frame m ρ,
   fun m ρ _ => Cert.NattenIdeal.Gen.frame m ρ,
   fun m ρ _ => Cert.NattenIdeal.Gen.frame m ρ,
   nattenRefIdeal_frame,
   fun m g _ => nattenRefIdeal_frame m g trivial,
   fun m ρ _ => Cert.Ffn1.Gen.frame m ρ,
   fun m ρ _ => Cert.Ffn1Ideal.Gen.frame m ρ,
   ffn1RefIdeal_frame,
   fun m ρ _ => Cert.Ffn2.Gen.frame m ρ,
   fun m ρ _ => Cert.Ffn2Ideal.Gen.frame m ρ,
   ffn2RefIdeal_frame,
   fun m ρ _ => Cert.Merge.Gen.frame m ρ,
   fun m ρ _ => Cert.MergeIdeal.Gen.frame m ρ,
   mergeRefIdeal_frame,
   fun m ρ _ => Cert.Memkv.Gen.frame m ρ,
   fun m ρ _ => Cert.MemkvIdeal.Gen.frame m ρ,
   memkvRefIdeal_frame,
   fun m ρ _ => Cert.Memattn.Gen.frame m ρ,
   fun m ρ _ => Cert.MemattnIdeal.Gen.frame m ρ,
   fun m ρ _ => Cert.MemattnIdeal.Gen.frame m ρ,
   memattnRefIdeal_frame,
   fun m g _ => memattnRefIdeal_frame m g trivial,
   fun m ρ _ => Cert.Wo.Gen.frame m ρ,
   fun m ρ _ => Cert.WoIdeal.Gen.frame m ρ,
   woRefIdeal_frame,
   fun m ρ _ => Cert.Inproj.Hand.frame m ρ,
   fun m ρ _ => Cert.InprojIdeal.Hand.frame m ρ,
   inprojRefIdeal_frame,
   trivial,
   natten,
   trivial,
   ffn1,
   trivial,
   ffn2,
   trivial,
   merge,
   trivial,
   memkv,
   trivial,
   memattn,
   trivial,
   wo,
   trivial,
   inproj⟩

end Cert.Proof

end
